-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnReferenceIdeal (m : (ℓ : Loc Cert.OutLnReferenceIdeal.nD Cert.OutLnReferenceIdeal.τ Cert.OutLnReferenceIdeal.sig) → Buf (Elt Ideal) ℓ) : Prop :=
  True

def Pre_GdnPrep (m : (ℓ : Loc Cert.GdnPrep.nD Cert.GdnPrep.τ Cert.GdnPrep.sig) → Buf (Elt Bits) ℓ) : Prop :=
  True

def Pre_GdnPrepIdeal (m : (ℓ : Loc Cert.GdnPrepIdeal.nD Cert.GdnPrepIdeal.τ Cert.GdnPrepIdeal.sig) → Buf (Elt Ideal) ℓ) : Prop :=
  True

def Pre_GdnPrepReferenceIdeal (m : (ℓ : Loc Cert.GdnPrepReferenceIdeal.nD Cert.GdnPrepReferenceIdeal.τ Cert.GdnPrepReferenceIdeal.sig) → Buf (Elt Ideal) ℓ) : Prop :=
  True

def Pre_DsaPrep (m : (ℓ : Loc Cert.DsaPrep.nD Cert.DsaPrep.τ Cert.DsaPrep.sig) → Buf (Elt Bits) ℓ) : Prop :=
  True

def Pre_DsaPrepIdeal (m : (ℓ : Loc Cert.DsaPrepIdeal.nD Cert.DsaPrepIdeal.τ Cert.DsaPrepIdeal.sig) → Buf (Elt Ideal) ℓ) : Prop :=
  True

def Pre_DsaPrepReferenceIdeal (m : (ℓ : Loc Cert.DsaPrepReferenceIdeal.nD Cert.DsaPrepReferenceIdeal.τ Cert.DsaPrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4)
      ∧ r.2.mem ((c.tc : Thread Cert.OutLnReferenceIdeal.nD Cert.OutLnReferenceIdeal.τ).loc Cert.OutLnReferenceIdeal.main_arg5) = m ((c.tc : Thread Cert.OutLnReferenceIdeal.nD Cert.OutLnReferenceIdeal.τ).loc Cert.OutLnReferenceIdeal.main_arg5))
      ∧ r.2.sem = fun _ => 0)

def quiescent_GdnPrep [hGdnPrep : Cert.GdnPrep.Facts] : Prop :=
  ∀ (m : (ℓ : Loc Cert.GdnPrep.nD Cert.GdnPrep.τ Cert.GdnPrep.sig) → Buf (Elt Bits) ℓ) (g : Dev Cert.GdnPrep.nD → PrngReg), Pre_GdnPrep m →
    θ_run (Cert.GdnPrep.defs (F := Bits)) (onTc (τ := Cert.GdnPrep.τ) (Cert.GdnPrep.main (F := Bits))) ⟨m, fun _ => 0, g⟩ (fun r => (∀ c : Dev Cert.GdnPrep.nD,
      r.2.mem ((c.tc : Thread Cert.GdnPrep.nD Cert.GdnPrep.τ).loc Cert.GdnPrep.main_arg0) = m ((c.tc : Thread Cert.GdnPrep.nD Cert.GdnPrep.τ).loc Cert.GdnPrep.main_arg0)
      ∧ r.2.mem ((c.tc : Thread Cert.GdnPrep.nD Cert.GdnPrep.τ).loc Cert.GdnPrep.main_arg1) = m ((c.tc : Thread Cert.GdnPrep.nD Cert.GdnPrep.τ).loc Cert.GdnPrep.main_arg1)
      ∧ r.2.mem ((c.tc : Thread Cert.GdnPrep.nD Cert.GdnPrep.τ).loc Cert.GdnPrep.main_arg2) = m ((c.tc : Thread Cert.GdnPrep.nD Cert.GdnPrep.τ).loc Cert.GdnPrep.main_arg2)
      ∧ r.2.mem ((c.tc : Thread Cert.GdnPrep.nD Cert.GdnPrep.τ).loc Cert.GdnPrep.main_arg3) = m ((c.tc : Thread Cert.GdnPrep.nD Cert.GdnPrep.τ).loc Cert.GdnPrep.main_arg3))
      ∧ r.2.sem = fun _ => 0)

def quiescent_GdnPrepIdeal [hGdnPrepIdeal : Cert.GdnPrepIdeal.Facts] : Prop :=
  ∀ (m : (ℓ : Loc Cert.GdnPrepIdeal.nD Cert.GdnPrepIdeal.τ Cert.GdnPrepIdeal.sig) → Buf (Elt Ideal) ℓ) (g : Dev Cert.GdnPrepIdeal.nD → PrngReg), Pre_GdnPrepIdeal m →
    θ_run (Cert.GdnPrepIdeal.defs (F := Ideal)) (onTc (τ := Cert.GdnPrepIdeal.τ) (Cert.GdnPrepIdeal.main (F := Ideal))) ⟨m, fun _ => 0, g⟩ (fun r => (∀ c : Dev Cert.GdnPrepIdeal.nD,
      r.2.mem ((c.tc : Thread Cert.GdnPrepIdeal.nD Cert.GdnPrepIdeal.τ).loc Cert.GdnPrepIdeal.main_arg0) = m ((c.tc : Thread Cert.GdnPrepIdeal.nD Cert.GdnPrepIdeal.τ).loc Cert.GdnPrepIdeal.main_arg0)
      ∧ r.2.mem ((c.tc : Thread Cert.GdnPrepIdeal.nD Cert.GdnPrepIdeal.τ).loc Cert.GdnPrepIdeal.main_arg1) = m ((c.tc : Thread Cert.GdnPrepIdeal.nD Cert.GdnPrepIdeal.τ).loc Cert.GdnPrepIdeal.main_arg1)
      ∧ r.2.mem ((c.tc : Thread Cert.GdnPrepIdeal.nD Cert.GdnPrepIdeal.τ).loc Cert.GdnPrepIdeal.main_arg2) = m ((c.tc : Thread Cert.GdnPrepIdeal.nD Cert.GdnPrepIdeal.τ).loc Cert.GdnPrepIdeal.main_arg2)
      ∧ r.2.mem ((c.tc : Thread Cert.GdnPrepIdeal.nD Cert.GdnPrepIdeal.τ).loc Cert.GdnPrepIdeal.main_arg3) = m ((c.tc : Thread Cert.GdnPrepIdeal.nD Cert.GdnPrepIdeal.τ).loc Cert.GdnPrepIdeal.main_arg3))
      ∧ r.2.sem = fun _ => 0)

def quiescent_GdnPrepReferenceIdeal [hGdnPrepReferenceIdeal : Cert.GdnPrepReferenceIdeal.Facts] : Prop :=
  ∀ (m : (ℓ : Loc Cert.GdnPrepReferenceIdeal.nD Cert.GdnPrepReferenceIdeal.τ Cert.GdnPrepReferenceIdeal.sig) → Buf (Elt Ideal) ℓ) (g : Dev Cert.GdnPrepReferenceIdeal.nD → PrngReg), Pre_GdnPrepReferenceIdeal m →
    θ_run (Cert.GdnPrepReferenceIdeal.defs (F := Ideal)) (onTc (τ := Cert.GdnPrepReferenceIdeal.τ) (Cert.GdnPrepReferenceIdeal.main (F := Ideal))) ⟨m, fun _ => 0, g⟩ (fun r => (∀ c : Dev Cert.GdnPrepReferenceIdeal.nD,
      r.2.mem ((c.tc : Thread Cert.GdnPrepReferenceIdeal.nD Cert.GdnPrepReferenceIdeal.τ).loc Cert.GdnPrepReferenceIdeal.main_arg0) = m ((c.tc : Thread Cert.GdnPrepReferenceIdeal.nD Cert.GdnPrepReferenceIdeal.τ).loc Cert.GdnPrepReferenceIdeal.main_arg0)
      ∧ r.2.mem ((c.tc : Thread Cert.GdnPrepReferenceIdeal.nD Cert.GdnPrepReferenceIdeal.τ).loc Cert.GdnPrepReferenceIdeal.main_arg1) = m ((c.tc : Thread Cert.GdnPrepReferenceIdeal.nD Cert.GdnPrepReferenceIdeal.τ).loc Cert.GdnPrepReferenceIdeal.main_arg1)
      ∧ r.2.mem ((c.tc : Thread Cert.GdnPrepReferenceIdeal.nD Cert.GdnPrepReferenceIdeal.τ).loc Cert.GdnPrepReferenceIdeal.main_arg2) = m ((c.tc : Thread Cert.GdnPrepReferenceIdeal.nD Cert.GdnPrepReferenceIdeal.τ).loc Cert.GdnPrepReferenceIdeal.main_arg2)
      ∧ r.2.mem ((c.tc : Thread Cert.GdnPrepReferenceIdeal.nD Cert.GdnPrepReferenceIdeal.τ).loc Cert.GdnPrepReferenceIdeal.main_arg3) = m ((c.tc : Thread Cert.GdnPrepReferenceIdeal.nD Cert.GdnPrepReferenceIdeal.τ).loc Cert.GdnPrepReferenceIdeal.main_arg3))
      ∧ r.2.sem = fun _ => 0)

def quiescent_DsaPrep [hDsaPrep : Cert.DsaPrep.Facts] : Prop :=
  ∀ (m : (ℓ : Loc Cert.DsaPrep.nD Cert.DsaPrep.τ Cert.DsaPrep.sig) → Buf (Elt Bits) ℓ) (g : Dev Cert.DsaPrep.nD → PrngReg), Pre_DsaPrep m →
    θ_run (Cert.DsaPrep.defs (F := Bits)) (onTc (τ := Cert.DsaPrep.τ) (Cert.DsaPrep.main (F := Bits))) ⟨m, fun _ => 0, g⟩ (fun r => (∀ c : Dev Cert.DsaPrep.nD,
      r.2.mem ((c.tc : Thread Cert.DsaPrep.nD Cert.DsaPrep.τ).loc Cert.DsaPrep.main_arg0) = m ((c.tc : Thread Cert.DsaPrep.nD Cert.DsaPrep.τ).loc Cert.DsaPrep.main_arg0)
      ∧ r.2.mem ((c.tc : Thread Cert.DsaPrep.nD Cert.DsaPrep.τ).loc Cert.DsaPrep.main_arg1) = m ((c.tc : Thread Cert.DsaPrep.nD Cert.DsaPrep.τ).loc Cert.DsaPrep.main_arg1)
      ∧ r.2.mem ((c.tc : Thread Cert.DsaPrep.nD Cert.DsaPrep.τ).loc Cert.DsaPrep.main_arg2) = m ((c.tc : Thread Cert.DsaPrep.nD Cert.DsaPrep.τ).loc Cert.DsaPrep.main_arg2)
      ∧ r.2.mem ((c.tc : Thread Cert.DsaPrep.nD Cert.DsaPrep.τ).loc Cert.DsaPrep.main_arg3) = m ((c.tc : Thread Cert.DsaPrep.nD Cert.DsaPrep.τ).loc Cert.DsaPrep.main_arg3)
      ∧ r.2.mem ((c.tc : Thread Cert.DsaPrep.nD Cert.DsaPrep.τ).loc Cert.DsaPrep.main_arg4) = m ((c.tc : Thread Cert.DsaPrep.nD Cert.DsaPrep.τ).loc Cert.DsaPrep.main_arg4)
      ∧ r.2.mem ((c.tc : Thread Cert.DsaPrep.nD Cert.DsaPrep.τ).loc Cert.DsaPrep.main_arg5) = m ((c.tc : Thread Cert.DsaPrep.nD Cert.DsaPrep.τ).loc Cert.DsaPrep.main_arg5)
      ∧ r.2.mem ((c.tc : Thread Cert.DsaPrep.nD Cert.DsaPrep.τ).loc Cert.DsaPrep.main_arg6) = m ((c.tc : Thread Cert.DsaPrep.nD Cert.DsaPrep.τ).loc Cert.DsaPrep.main_arg6)
      ∧ r.2.mem ((c.tc : Thread Cert.DsaPrep.nD Cert.DsaPrep.τ).loc Cert.DsaPrep.main_arg7) = m ((c.tc : Thread Cert.DsaPrep.nD Cert.DsaPrep.τ).loc Cert.DsaPrep.main_arg7))
      ∧ r.2.sem = fun _ => 0)

def quiescent_DsaPrepIdeal [hDsaPrepIdeal : Cert.DsaPrepIdeal.Facts] : Prop :=
  ∀ (m : (ℓ : Loc Cert.DsaPrepIdeal.nD Cert.DsaPrepIdeal.τ Cert.DsaPrepIdeal.sig) → Buf (Elt Ideal) ℓ) (g : Dev Cert.DsaPrepIdeal.nD → PrngReg), Pre_DsaPrepIdeal m →
    θ_run (Cert.DsaPrepIdeal.defs (F := Ideal)) (onTc (τ := Cert.DsaPrepIdeal.τ) (Cert.DsaPrepIdeal.main (F := Ideal))) ⟨m, fun _ => 0, g⟩ (fun r => (∀ c : Dev Cert.DsaPrepIdeal.nD,
      r.2.mem ((c.tc : Thread Cert.DsaPrepIdeal.nD Cert.DsaPrepIdeal.τ).loc Cert.DsaPrepIdeal.main_arg0) = m ((c.tc : Thread Cert.DsaPrepIdeal.nD Cert.DsaPrepIdeal.τ).loc Cert.DsaPrepIdeal.main_arg0)
      ∧ r.2.mem ((c.tc : Thread Cert.DsaPrepIdeal.nD Cert.DsaPrepIdeal.τ).loc Cert.DsaPrepIdeal.main_arg1) = m ((c.tc : Thread Cert.DsaPrepIdeal.nD Cert.DsaPrepIdeal.τ).loc Cert.DsaPrepIdeal.main_arg1)
      ∧ r.2.mem ((c.tc : Thread Cert.DsaPrepIdeal.nD Cert.DsaPrepIdeal.τ).loc Cert.DsaPrepIdeal.main_arg2) = m ((c.tc : Thread Cert.DsaPrepIdeal.nD Cert.DsaPrepIdeal.τ).loc Cert.DsaPrepIdeal.main_arg2)
      ∧ r.2.mem ((c.tc : Thread Cert.DsaPrepIdeal.nD Cert.DsaPrepIdeal.τ).loc Cert.DsaPrepIdeal.main_arg3) = m ((c.tc : Thread Cert.DsaPrepIdeal.nD Cert.DsaPrepIdeal.τ).loc Cert.DsaPrepIdeal.main_arg3)
      ∧ r.2.mem ((c.tc : Thread Cert.DsaPrepIdeal.nD Cert.DsaPrepIdeal.τ).loc Cert.DsaPrepIdeal.main_arg4) = m ((c.tc : Thread Cert.DsaPrepIdeal.nD Cert.DsaPrepIdeal.τ).loc Cert.DsaPrepIdeal.main_arg4)
      ∧ r.2.mem ((c.tc : Thread Cert.DsaPrepIdeal.nD Cert.DsaPrepIdeal.τ).loc Cert.DsaPrepIdeal.main_arg5) = m ((c.tc : Thread Cert.DsaPrepIdeal.nD Cert.DsaPrepIdeal.τ).loc Cert.DsaPrepIdeal.main_arg5)
      ∧ r.2.mem ((c.tc : Thread Cert.DsaPrepIdeal.nD Cert.DsaPrepIdeal.τ).loc Cert.DsaPrepIdeal.main_arg6) = m ((c.tc : Thread Cert.DsaPrepIdeal.nD Cert.DsaPrepIdeal.τ).loc Cert.DsaPrepIdeal.main_arg6)
      ∧ r.2.mem ((c.tc : Thread Cert.DsaPrepIdeal.nD Cert.DsaPrepIdeal.τ).loc Cert.DsaPrepIdeal.main_arg7) = m ((c.tc : Thread Cert.DsaPrepIdeal.nD Cert.DsaPrepIdeal.τ).loc Cert.DsaPrepIdeal.main_arg7))
      ∧ r.2.sem = fun _ => 0)

def quiescent_DsaPrepReferenceIdeal [hDsaPrepReferenceIdeal : Cert.DsaPrepReferenceIdeal.Facts] : Prop :=
  ∀ (m : (ℓ : Loc Cert.DsaPrepReferenceIdeal.nD Cert.DsaPrepReferenceIdeal.τ Cert.DsaPrepReferenceIdeal.sig) → Buf (Elt Ideal) ℓ) (g : Dev Cert.DsaPrepReferenceIdeal.nD → PrngReg), Pre_DsaPrepReferenceIdeal m →
    θ_run (Cert.DsaPrepReferenceIdeal.defs (F := Ideal)) (onTc (τ := Cert.DsaPrepReferenceIdeal.τ) (Cert.DsaPrepReferenceIdeal.main (F := Ideal))) ⟨m, fun _ => 0, g⟩ (fun r => (∀ c : Dev Cert.DsaPrepReferenceIdeal.nD,
      r.2.mem ((c.tc : Thread Cert.DsaPrepReferenceIdeal.nD Cert.DsaPrepReferenceIdeal.τ).loc Cert.DsaPrepReferenceIdeal.main_arg0) = m ((c.tc : Thread Cert.DsaPrepReferenceIdeal.nD Cert.DsaPrepReferenceIdeal.τ).loc Cert.DsaPrepReferenceIdeal.main_arg0)
      ∧ r.2.mem ((c.tc : Thread Cert.DsaPrepReferenceIdeal.nD Cert.DsaPrepReferenceIdeal.τ).loc Cert.DsaPrepReferenceIdeal.main_arg1) = m ((c.tc : Thread Cert.DsaPrepReferenceIdeal.nD Cert.DsaPrepReferenceIdeal.τ).loc Cert.DsaPrepReferenceIdeal.main_arg1)
      ∧ r.2.mem ((c.tc : Thread Cert.DsaPrepReferenceIdeal.nD Cert.DsaPrepReferenceIdeal.τ).loc Cert.DsaPrepReferenceIdeal.main_arg2) = m ((c.tc : Thread Cert.DsaPrepReferenceIdeal.nD Cert.DsaPrepReferenceIdeal.τ).loc Cert.DsaPrepReferenceIdeal.main_arg2)
      ∧ r.2.mem ((c.tc : Thread Cert.DsaPrepReferenceIdeal.nD Cert.DsaPrepReferenceIdeal.τ).loc Cert.DsaPrepReferenceIdeal.main_arg3) = m ((c.tc : Thread Cert.DsaPrepReferenceIdeal.nD Cert.DsaPrepReferenceIdeal.τ).loc Cert.DsaPrepReferenceIdeal.main_arg3)
      ∧ r.2.mem ((c.tc : Thread Cert.DsaPrepReferenceIdeal.nD Cert.DsaPrepReferenceIdeal.τ).loc Cert.DsaPrepReferenceIdeal.main_arg4) = m ((c.tc : Thread Cert.DsaPrepReferenceIdeal.nD Cert.DsaPrepReferenceIdeal.τ).loc Cert.DsaPrepReferenceIdeal.main_arg4)
      ∧ r.2.mem ((c.tc : Thread Cert.DsaPrepReferenceIdeal.nD Cert.DsaPrepReferenceIdeal.τ).loc Cert.DsaPrepReferenceIdeal.main_arg5) = m ((c.tc : Thread Cert.DsaPrepReferenceIdeal.nD Cert.DsaPrepReferenceIdeal.τ).loc Cert.DsaPrepReferenceIdeal.main_arg5)
      ∧ r.2.mem ((c.tc : Thread Cert.DsaPrepReferenceIdeal.nD Cert.DsaPrepReferenceIdeal.τ).loc Cert.DsaPrepReferenceIdeal.main_arg6) = m ((c.tc : Thread Cert.DsaPrepReferenceIdeal.nD Cert.DsaPrepReferenceIdeal.τ).loc Cert.DsaPrepReferenceIdeal.main_arg6)
      ∧ r.2.mem ((c.tc : Thread Cert.DsaPrepReferenceIdeal.nD Cert.DsaPrepReferenceIdeal.τ).loc Cert.DsaPrepReferenceIdeal.main_arg7) = m ((c.tc : Thread Cert.DsaPrepReferenceIdeal.nD Cert.DsaPrepReferenceIdeal.τ).loc Cert.DsaPrepReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v8) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutLn_OutLnIdeal : Prop :=
  True

def algebraic_OutLnIdeal_OutLnReferenceIdeal [hOutLnIdeal : Cert.OutLnIdeal.Facts] [hOutLnReferenceIdeal : Cert.OutLnReferenceIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnIdeal m →
    (∀ c : Dev Cert.OutLnIdeal.nD,
      m' ((c.tc : Thread Cert.OutLnReferenceIdeal.nD Cert.OutLnReferenceIdeal.τ).loc Cert.OutLnReferenceIdeal.main_arg0) = m ((c.tc : Thread Cert.OutLnIdeal.nD Cert.OutLnIdeal.τ).loc Cert.OutLnIdeal.main_arg0)
      ∧ m' ((c.tc : Thread Cert.OutLnReferenceIdeal.nD Cert.OutLnReferenceIdeal.τ).loc Cert.OutLnReferenceIdeal.main_arg1) = m ((c.tc : Thread Cert.OutLnIdeal.nD Cert.OutLnIdeal.τ).loc Cert.OutLnIdeal.main_arg1)
      ∧ m' ((c.tc : Thread Cert.OutLnReferenceIdeal.nD Cert.OutLnReferenceIdeal.τ).loc Cert.OutLnReferenceIdeal.main_arg2) = m ((c.tc : Thread Cert.OutLnIdeal.nD Cert.OutLnIdeal.τ).loc Cert.OutLnIdeal.main_arg2)
      ∧ m' ((c.tc : Thread Cert.OutLnReferenceIdeal.nD Cert.OutLnReferenceIdeal.τ).loc Cert.OutLnReferenceIdeal.main_arg3) = m ((c.tc : Thread Cert.OutLnIdeal.nD Cert.OutLnIdeal.τ).loc Cert.OutLnIdeal.main_arg3)
      ∧ m' ((c.tc : Thread Cert.OutLnReferenceIdeal.nD Cert.OutLnReferenceIdeal.τ).loc Cert.OutLnReferenceIdeal.main_arg4) = m ((c.tc : Thread Cert.OutLnIdeal.nD Cert.OutLnIdeal.τ).loc Cert.OutLnIdeal.main_arg4)
      ∧ m' ((c.tc : Thread Cert.OutLnReferenceIdeal.nD Cert.OutLnReferenceIdeal.τ).loc Cert.OutLnReferenceIdeal.main_arg5) = m ((c.tc : Thread Cert.OutLnIdeal.nD Cert.OutLnIdeal.τ).loc Cert.OutLnIdeal.main_arg5)) →
    ∃ (v0 : (c : Dev Cert.OutLnIdeal.nD) → Buf (Elt Ideal) ((c.tc : Thread Cert.OutLnIdeal.nD Cert.OutLnIdeal.τ).loc Cert.OutLnIdeal.main_v3)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v3) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v28) = v0 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4)
          ∧ r.2.mem ((c.tc : Thread Cert.OutLnReferenceIdeal.nD Cert.OutLnReferenceIdeal.τ).loc Cert.OutLnReferenceIdeal.main_arg5) = m' ((c.tc : Thread Cert.OutLnReferenceIdeal.nD Cert.OutLnReferenceIdeal.τ).loc Cert.OutLnReferenceIdeal.main_arg5))

def preserves_GdnPrep_GdnPrepIdeal : Prop :=
  True

def algebraic_GdnPrepIdeal_GdnPrepReferenceIdeal [hGdnPrepIdeal : Cert.GdnPrepIdeal.Facts] [hGdnPrepReferenceIdeal : Cert.GdnPrepReferenceIdeal.Facts] : Prop :=
  ∀ (m : (ℓ : Loc Cert.GdnPrepIdeal.nD Cert.GdnPrepIdeal.τ Cert.GdnPrepIdeal.sig) → Buf (Elt Ideal) ℓ) (g : Dev Cert.GdnPrepIdeal.nD → PrngReg)
    (m' : (ℓ : Loc Cert.GdnPrepReferenceIdeal.nD Cert.GdnPrepReferenceIdeal.τ Cert.GdnPrepReferenceIdeal.sig) → Buf (Elt Ideal) ℓ) (g' : Dev Cert.GdnPrepReferenceIdeal.nD → PrngReg), Pre_GdnPrepIdeal m →
    (∀ c : Dev Cert.GdnPrepIdeal.nD,
      m' ((c.tc : Thread Cert.GdnPrepReferenceIdeal.nD Cert.GdnPrepReferenceIdeal.τ).loc Cert.GdnPrepReferenceIdeal.main_arg0) = m ((c.tc : Thread Cert.GdnPrepIdeal.nD Cert.GdnPrepIdeal.τ).loc Cert.GdnPrepIdeal.main_arg0)
      ∧ m' ((c.tc : Thread Cert.GdnPrepReferenceIdeal.nD Cert.GdnPrepReferenceIdeal.τ).loc Cert.GdnPrepReferenceIdeal.main_arg1) = m ((c.tc : Thread Cert.GdnPrepIdeal.nD Cert.GdnPrepIdeal.τ).loc Cert.GdnPrepIdeal.main_arg1)
      ∧ m' ((c.tc : Thread Cert.GdnPrepReferenceIdeal.nD Cert.GdnPrepReferenceIdeal.τ).loc Cert.GdnPrepReferenceIdeal.main_arg2) = m ((c.tc : Thread Cert.GdnPrepIdeal.nD Cert.GdnPrepIdeal.τ).loc Cert.GdnPrepIdeal.main_arg2)
      ∧ m' ((c.tc : Thread Cert.GdnPrepReferenceIdeal.nD Cert.GdnPrepReferenceIdeal.τ).loc Cert.GdnPrepReferenceIdeal.main_arg3) = m ((c.tc : Thread Cert.GdnPrepIdeal.nD Cert.GdnPrepIdeal.τ).loc Cert.GdnPrepIdeal.main_arg3)) →
    ∃ (v0 : (c : Dev Cert.GdnPrepIdeal.nD) → Buf (Elt Ideal) ((c.tc : Thread Cert.GdnPrepIdeal.nD Cert.GdnPrepIdeal.τ).loc Cert.GdnPrepIdeal.main_v10_0)) (v1 : (c : Dev Cert.GdnPrepIdeal.nD) → Buf (Elt Ideal) ((c.tc : Thread Cert.GdnPrepIdeal.nD Cert.GdnPrepIdeal.τ).loc Cert.GdnPrepIdeal.main_v10_1)) (v2 : (c : Dev Cert.GdnPrepIdeal.nD) → Buf (Elt Ideal) ((c.tc : Thread Cert.GdnPrepIdeal.nD Cert.GdnPrepIdeal.τ).loc Cert.GdnPrepIdeal.main_v10_2)) (v3 : (c : Dev Cert.GdnPrepIdeal.nD) → Buf (Elt Ideal) ((c.tc : Thread Cert.GdnPrepIdeal.nD Cert.GdnPrepIdeal.τ).loc Cert.GdnPrepIdeal.main_v10_3)) (v4 : (c : Dev Cert.GdnPrepIdeal.nD) → Buf (Elt Ideal) ((c.tc : Thread Cert.GdnPrepIdeal.nD Cert.GdnPrepIdeal.τ).loc Cert.GdnPrepIdeal.main_v10_4)),
      θ_run (Cert.GdnPrepIdeal.defs (F := Ideal)) (onTc (τ := Cert.GdnPrepIdeal.τ) (Cert.GdnPrepIdeal.main (F := Ideal))) ⟨m, fun _ => 0, g⟩ (fun r => ∀ c : Dev Cert.GdnPrepIdeal.nD,
          r.2.mem ((c.tc : Thread Cert.GdnPrepIdeal.nD Cert.GdnPrepIdeal.τ).loc Cert.GdnPrepIdeal.main_v10_0) = v0 c
          ∧ r.2.mem ((c.tc : Thread Cert.GdnPrepIdeal.nD Cert.GdnPrepIdeal.τ).loc Cert.GdnPrepIdeal.main_v10_1) = v1 c
          ∧ r.2.mem ((c.tc : Thread Cert.GdnPrepIdeal.nD Cert.GdnPrepIdeal.τ).loc Cert.GdnPrepIdeal.main_v10_2) = v2 c
          ∧ r.2.mem ((c.tc : Thread Cert.GdnPrepIdeal.nD Cert.GdnPrepIdeal.τ).loc Cert.GdnPrepIdeal.main_v10_3) = v3 c
          ∧ r.2.mem ((c.tc : Thread Cert.GdnPrepIdeal.nD Cert.GdnPrepIdeal.τ).loc Cert.GdnPrepIdeal.main_v10_4) = v4 c
          ∧ r.2.mem ((c.tc : Thread Cert.GdnPrepIdeal.nD Cert.GdnPrepIdeal.τ).loc Cert.GdnPrepIdeal.main_arg0) = m ((c.tc : Thread Cert.GdnPrepIdeal.nD Cert.GdnPrepIdeal.τ).loc Cert.GdnPrepIdeal.main_arg0)
          ∧ r.2.mem ((c.tc : Thread Cert.GdnPrepIdeal.nD Cert.GdnPrepIdeal.τ).loc Cert.GdnPrepIdeal.main_arg1) = m ((c.tc : Thread Cert.GdnPrepIdeal.nD Cert.GdnPrepIdeal.τ).loc Cert.GdnPrepIdeal.main_arg1)
          ∧ r.2.mem ((c.tc : Thread Cert.GdnPrepIdeal.nD Cert.GdnPrepIdeal.τ).loc Cert.GdnPrepIdeal.main_arg2) = m ((c.tc : Thread Cert.GdnPrepIdeal.nD Cert.GdnPrepIdeal.τ).loc Cert.GdnPrepIdeal.main_arg2)
          ∧ r.2.mem ((c.tc : Thread Cert.GdnPrepIdeal.nD Cert.GdnPrepIdeal.τ).loc Cert.GdnPrepIdeal.main_arg3) = m ((c.tc : Thread Cert.GdnPrepIdeal.nD Cert.GdnPrepIdeal.τ).loc Cert.GdnPrepIdeal.main_arg3))
      ∧ θ_run (Cert.GdnPrepReferenceIdeal.defs (F := Ideal)) (onTc (τ := Cert.GdnPrepReferenceIdeal.τ) (Cert.GdnPrepReferenceIdeal.main (F := Ideal))) ⟨m', fun _ => 0, g'⟩ (fun r => ∀ c : Dev Cert.GdnPrepReferenceIdeal.nD,
          r.2.mem ((c.tc : Thread Cert.GdnPrepReferenceIdeal.nD Cert.GdnPrepReferenceIdeal.τ).loc Cert.GdnPrepReferenceIdeal.main_v79) = v0 c
          ∧ r.2.mem ((c.tc : Thread Cert.GdnPrepReferenceIdeal.nD Cert.GdnPrepReferenceIdeal.τ).loc Cert.GdnPrepReferenceIdeal.main_v80) = v1 c
          ∧ r.2.mem ((c.tc : Thread Cert.GdnPrepReferenceIdeal.nD Cert.GdnPrepReferenceIdeal.τ).loc Cert.GdnPrepReferenceIdeal.main_v81) = v2 c
          ∧ r.2.mem ((c.tc : Thread Cert.GdnPrepReferenceIdeal.nD Cert.GdnPrepReferenceIdeal.τ).loc Cert.GdnPrepReferenceIdeal.main_v78) = v3 c
          ∧ r.2.mem ((c.tc : Thread Cert.GdnPrepReferenceIdeal.nD Cert.GdnPrepReferenceIdeal.τ).loc Cert.GdnPrepReferenceIdeal.main_v83) = v4 c
          ∧ r.2.mem ((c.tc : Thread Cert.GdnPrepReferenceIdeal.nD Cert.GdnPrepReferenceIdeal.τ).loc Cert.GdnPrepReferenceIdeal.main_arg0) = m' ((c.tc : Thread Cert.GdnPrepReferenceIdeal.nD Cert.GdnPrepReferenceIdeal.τ).loc Cert.GdnPrepReferenceIdeal.main_arg0)
          ∧ r.2.mem ((c.tc : Thread Cert.GdnPrepReferenceIdeal.nD Cert.GdnPrepReferenceIdeal.τ).loc Cert.GdnPrepReferenceIdeal.main_arg1) = m' ((c.tc : Thread Cert.GdnPrepReferenceIdeal.nD Cert.GdnPrepReferenceIdeal.τ).loc Cert.GdnPrepReferenceIdeal.main_arg1)
          ∧ r.2.mem ((c.tc : Thread Cert.GdnPrepReferenceIdeal.nD Cert.GdnPrepReferenceIdeal.τ).loc Cert.GdnPrepReferenceIdeal.main_arg2) = m' ((c.tc : Thread Cert.GdnPrepReferenceIdeal.nD Cert.GdnPrepReferenceIdeal.τ).loc Cert.GdnPrepReferenceIdeal.main_arg2)
          ∧ r.2.mem ((c.tc : Thread Cert.GdnPrepReferenceIdeal.nD Cert.GdnPrepReferenceIdeal.τ).loc Cert.GdnPrepReferenceIdeal.main_arg3) = m' ((c.tc : Thread Cert.GdnPrepReferenceIdeal.nD Cert.GdnPrepReferenceIdeal.τ).loc Cert.GdnPrepReferenceIdeal.main_arg3))

def preserves_DsaPrep_DsaPrepIdeal : Prop :=
  True

def algebraic_DsaPrepIdeal_DsaPrepReferenceIdeal [hDsaPrepIdeal : Cert.DsaPrepIdeal.Facts] [hDsaPrepReferenceIdeal : Cert.DsaPrepReferenceIdeal.Facts] : Prop :=
  ∀ (m : (ℓ : Loc Cert.DsaPrepIdeal.nD Cert.DsaPrepIdeal.τ Cert.DsaPrepIdeal.sig) → Buf (Elt Ideal) ℓ) (g : Dev Cert.DsaPrepIdeal.nD → PrngReg)
    (m' : (ℓ : Loc Cert.DsaPrepReferenceIdeal.nD Cert.DsaPrepReferenceIdeal.τ Cert.DsaPrepReferenceIdeal.sig) → Buf (Elt Ideal) ℓ) (g' : Dev Cert.DsaPrepReferenceIdeal.nD → PrngReg), Pre_DsaPrepIdeal m →
    (∀ c : Dev Cert.DsaPrepIdeal.nD,
      m' ((c.tc : Thread Cert.DsaPrepReferenceIdeal.nD Cert.DsaPrepReferenceIdeal.τ).loc Cert.DsaPrepReferenceIdeal.main_arg0) = m ((c.tc : Thread Cert.DsaPrepIdeal.nD Cert.DsaPrepIdeal.τ).loc Cert.DsaPrepIdeal.main_arg0)
      ∧ m' ((c.tc : Thread Cert.DsaPrepReferenceIdeal.nD Cert.DsaPrepReferenceIdeal.τ).loc Cert.DsaPrepReferenceIdeal.main_arg1) = m ((c.tc : Thread Cert.DsaPrepIdeal.nD Cert.DsaPrepIdeal.τ).loc Cert.DsaPrepIdeal.main_arg1)
      ∧ m' ((c.tc : Thread Cert.DsaPrepReferenceIdeal.nD Cert.DsaPrepReferenceIdeal.τ).loc Cert.DsaPrepReferenceIdeal.main_arg2) = m ((c.tc : Thread Cert.DsaPrepIdeal.nD Cert.DsaPrepIdeal.τ).loc Cert.DsaPrepIdeal.main_arg2)
      ∧ m' ((c.tc : Thread Cert.DsaPrepReferenceIdeal.nD Cert.DsaPrepReferenceIdeal.τ).loc Cert.DsaPrepReferenceIdeal.main_arg3) = m ((c.tc : Thread Cert.DsaPrepIdeal.nD Cert.DsaPrepIdeal.τ).loc Cert.DsaPrepIdeal.main_arg3)
      ∧ m' ((c.tc : Thread Cert.DsaPrepReferenceIdeal.nD Cert.DsaPrepReferenceIdeal.τ).loc Cert.DsaPrepReferenceIdeal.main_arg4) = m ((c.tc : Thread Cert.DsaPrepIdeal.nD Cert.DsaPrepIdeal.τ).loc Cert.DsaPrepIdeal.main_arg4)
      ∧ m' ((c.tc : Thread Cert.DsaPrepReferenceIdeal.nD Cert.DsaPrepReferenceIdeal.τ).loc Cert.DsaPrepReferenceIdeal.main_arg5) = m ((c.tc : Thread Cert.DsaPrepIdeal.nD Cert.DsaPrepIdeal.τ).loc Cert.DsaPrepIdeal.main_arg5)
      ∧ m' ((c.tc : Thread Cert.DsaPrepReferenceIdeal.nD Cert.DsaPrepReferenceIdeal.τ).loc Cert.DsaPrepReferenceIdeal.main_arg6) = m ((c.tc : Thread Cert.DsaPrepIdeal.nD Cert.DsaPrepIdeal.τ).loc Cert.DsaPrepIdeal.main_arg6)
      ∧ m' ((c.tc : Thread Cert.DsaPrepReferenceIdeal.nD Cert.DsaPrepReferenceIdeal.τ).loc Cert.DsaPrepReferenceIdeal.main_arg7) = m ((c.tc : Thread Cert.DsaPrepIdeal.nD Cert.DsaPrepIdeal.τ).loc Cert.DsaPrepIdeal.main_arg7)) →
    ∃ (v0 : (c : Dev Cert.DsaPrepIdeal.nD) → Buf (Elt Ideal) ((c.tc : Thread Cert.DsaPrepIdeal.nD Cert.DsaPrepIdeal.τ).loc Cert.DsaPrepIdeal.main_v8_0)) (v1 : (c : Dev Cert.DsaPrepIdeal.nD) → Buf (Elt Ideal) ((c.tc : Thread Cert.DsaPrepIdeal.nD Cert.DsaPrepIdeal.τ).loc Cert.DsaPrepIdeal.main_v8_1)) (v2 : (c : Dev Cert.DsaPrepIdeal.nD) → Buf (Elt Ideal) ((c.tc : Thread Cert.DsaPrepIdeal.nD Cert.DsaPrepIdeal.τ).loc Cert.DsaPrepIdeal.main_v8_2)) (v3 : (c : Dev Cert.DsaPrepIdeal.nD) → Buf (Elt Ideal) ((c.tc : Thread Cert.DsaPrepIdeal.nD Cert.DsaPrepIdeal.τ).loc Cert.DsaPrepIdeal.main_v8_3)) (v4 : (c : Dev Cert.DsaPrepIdeal.nD) → Buf (Elt Ideal) ((c.tc : Thread Cert.DsaPrepIdeal.nD Cert.DsaPrepIdeal.τ).loc Cert.DsaPrepIdeal.main_v8_4)) (v5 : (c : Dev Cert.DsaPrepIdeal.nD) → Buf (Elt Ideal) ((c.tc : Thread Cert.DsaPrepIdeal.nD Cert.DsaPrepIdeal.τ).loc Cert.DsaPrepIdeal.main_v8_5)),
      θ_run (Cert.DsaPrepIdeal.defs (F := Ideal)) (onTc (τ := Cert.DsaPrepIdeal.τ) (Cert.DsaPrepIdeal.main (F := Ideal))) ⟨m, fun _ => 0, g⟩ (fun r => ∀ c : Dev Cert.DsaPrepIdeal.nD,
          r.2.mem ((c.tc : Thread Cert.DsaPrepIdeal.nD Cert.DsaPrepIdeal.τ).loc Cert.DsaPrepIdeal.main_v8_0) = v0 c
          ∧ r.2.mem ((c.tc : Thread Cert.DsaPrepIdeal.nD Cert.DsaPrepIdeal.τ).loc Cert.DsaPrepIdeal.main_v8_1) = v1 c
          ∧ r.2.mem ((c.tc : Thread Cert.DsaPrepIdeal.nD Cert.DsaPrepIdeal.τ).loc Cert.DsaPrepIdeal.main_v8_2) = v2 c
          ∧ r.2.mem ((c.tc : Thread Cert.DsaPrepIdeal.nD Cert.DsaPrepIdeal.τ).loc Cert.DsaPrepIdeal.main_v8_3) = v3 c
          ∧ r.2.mem ((c.tc : Thread Cert.DsaPrepIdeal.nD Cert.DsaPrepIdeal.τ).loc Cert.DsaPrepIdeal.main_v8_4) = v4 c
          ∧ r.2.mem ((c.tc : Thread Cert.DsaPrepIdeal.nD Cert.DsaPrepIdeal.τ).loc Cert.DsaPrepIdeal.main_v8_5) = v5 c
          ∧ r.2.mem ((c.tc : Thread Cert.DsaPrepIdeal.nD Cert.DsaPrepIdeal.τ).loc Cert.DsaPrepIdeal.main_arg0) = m ((c.tc : Thread Cert.DsaPrepIdeal.nD Cert.DsaPrepIdeal.τ).loc Cert.DsaPrepIdeal.main_arg0)
          ∧ r.2.mem ((c.tc : Thread Cert.DsaPrepIdeal.nD Cert.DsaPrepIdeal.τ).loc Cert.DsaPrepIdeal.main_arg1) = m ((c.tc : Thread Cert.DsaPrepIdeal.nD Cert.DsaPrepIdeal.τ).loc Cert.DsaPrepIdeal.main_arg1)
          ∧ r.2.mem ((c.tc : Thread Cert.DsaPrepIdeal.nD Cert.DsaPrepIdeal.τ).loc Cert.DsaPrepIdeal.main_arg2) = m ((c.tc : Thread Cert.DsaPrepIdeal.nD Cert.DsaPrepIdeal.τ).loc Cert.DsaPrepIdeal.main_arg2)
          ∧ r.2.mem ((c.tc : Thread Cert.DsaPrepIdeal.nD Cert.DsaPrepIdeal.τ).loc Cert.DsaPrepIdeal.main_arg3) = m ((c.tc : Thread Cert.DsaPrepIdeal.nD Cert.DsaPrepIdeal.τ).loc Cert.DsaPrepIdeal.main_arg3)
          ∧ r.2.mem ((c.tc : Thread Cert.DsaPrepIdeal.nD Cert.DsaPrepIdeal.τ).loc Cert.DsaPrepIdeal.main_arg4) = m ((c.tc : Thread Cert.DsaPrepIdeal.nD Cert.DsaPrepIdeal.τ).loc Cert.DsaPrepIdeal.main_arg4)
          ∧ r.2.mem ((c.tc : Thread Cert.DsaPrepIdeal.nD Cert.DsaPrepIdeal.τ).loc Cert.DsaPrepIdeal.main_arg5) = m ((c.tc : Thread Cert.DsaPrepIdeal.nD Cert.DsaPrepIdeal.τ).loc Cert.DsaPrepIdeal.main_arg5)
          ∧ r.2.mem ((c.tc : Thread Cert.DsaPrepIdeal.nD Cert.DsaPrepIdeal.τ).loc Cert.DsaPrepIdeal.main_arg6) = m ((c.tc : Thread Cert.DsaPrepIdeal.nD Cert.DsaPrepIdeal.τ).loc Cert.DsaPrepIdeal.main_arg6)
          ∧ r.2.mem ((c.tc : Thread Cert.DsaPrepIdeal.nD Cert.DsaPrepIdeal.τ).loc Cert.DsaPrepIdeal.main_arg7) = m ((c.tc : Thread Cert.DsaPrepIdeal.nD Cert.DsaPrepIdeal.τ).loc Cert.DsaPrepIdeal.main_arg7))
      ∧ θ_run (Cert.DsaPrepReferenceIdeal.defs (F := Ideal)) (onTc (τ := Cert.DsaPrepReferenceIdeal.τ) (Cert.DsaPrepReferenceIdeal.main (F := Ideal))) ⟨m', fun _ => 0, g'⟩ (fun r => ∀ c : Dev Cert.DsaPrepReferenceIdeal.nD,
          r.2.mem ((c.tc : Thread Cert.DsaPrepReferenceIdeal.nD Cert.DsaPrepReferenceIdeal.τ).loc Cert.DsaPrepReferenceIdeal.main_v46) = v0 c
          ∧ r.2.mem ((c.tc : Thread Cert.DsaPrepReferenceIdeal.nD Cert.DsaPrepReferenceIdeal.τ).loc Cert.DsaPrepReferenceIdeal.main_v49) = v1 c
          ∧ r.2.mem ((c.tc : Thread Cert.DsaPrepReferenceIdeal.nD Cert.DsaPrepReferenceIdeal.τ).loc Cert.DsaPrepReferenceIdeal.main_v50) = v2 c
          ∧ r.2.mem ((c.tc : Thread Cert.DsaPrepReferenceIdeal.nD Cert.DsaPrepReferenceIdeal.τ).loc Cert.DsaPrepReferenceIdeal.main_v51) = v3 c
          ∧ r.2.mem ((c.tc : Thread Cert.DsaPrepReferenceIdeal.nD Cert.DsaPrepReferenceIdeal.τ).loc Cert.DsaPrepReferenceIdeal.main_v74) = v4 c
          ∧ r.2.mem ((c.tc : Thread Cert.DsaPrepReferenceIdeal.nD Cert.DsaPrepReferenceIdeal.τ).loc Cert.DsaPrepReferenceIdeal.main_v43) = v5 c
          ∧ r.2.mem ((c.tc : Thread Cert.DsaPrepReferenceIdeal.nD Cert.DsaPrepReferenceIdeal.τ).loc Cert.DsaPrepReferenceIdeal.main_arg0) = m' ((c.tc : Thread Cert.DsaPrepReferenceIdeal.nD Cert.DsaPrepReferenceIdeal.τ).loc Cert.DsaPrepReferenceIdeal.main_arg0)
          ∧ r.2.mem ((c.tc : Thread Cert.DsaPrepReferenceIdeal.nD Cert.DsaPrepReferenceIdeal.τ).loc Cert.DsaPrepReferenceIdeal.main_arg1) = m' ((c.tc : Thread Cert.DsaPrepReferenceIdeal.nD Cert.DsaPrepReferenceIdeal.τ).loc Cert.DsaPrepReferenceIdeal.main_arg1)
          ∧ r.2.mem ((c.tc : Thread Cert.DsaPrepReferenceIdeal.nD Cert.DsaPrepReferenceIdeal.τ).loc Cert.DsaPrepReferenceIdeal.main_arg2) = m' ((c.tc : Thread Cert.DsaPrepReferenceIdeal.nD Cert.DsaPrepReferenceIdeal.τ).loc Cert.DsaPrepReferenceIdeal.main_arg2)
          ∧ r.2.mem ((c.tc : Thread Cert.DsaPrepReferenceIdeal.nD Cert.DsaPrepReferenceIdeal.τ).loc Cert.DsaPrepReferenceIdeal.main_arg3) = m' ((c.tc : Thread Cert.DsaPrepReferenceIdeal.nD Cert.DsaPrepReferenceIdeal.τ).loc Cert.DsaPrepReferenceIdeal.main_arg3)
          ∧ r.2.mem ((c.tc : Thread Cert.DsaPrepReferenceIdeal.nD Cert.DsaPrepReferenceIdeal.τ).loc Cert.DsaPrepReferenceIdeal.main_arg4) = m' ((c.tc : Thread Cert.DsaPrepReferenceIdeal.nD Cert.DsaPrepReferenceIdeal.τ).loc Cert.DsaPrepReferenceIdeal.main_arg4)
          ∧ r.2.mem ((c.tc : Thread Cert.DsaPrepReferenceIdeal.nD Cert.DsaPrepReferenceIdeal.τ).loc Cert.DsaPrepReferenceIdeal.main_arg5) = m' ((c.tc : Thread Cert.DsaPrepReferenceIdeal.nD Cert.DsaPrepReferenceIdeal.τ).loc Cert.DsaPrepReferenceIdeal.main_arg5)
          ∧ r.2.mem ((c.tc : Thread Cert.DsaPrepReferenceIdeal.nD Cert.DsaPrepReferenceIdeal.τ).loc Cert.DsaPrepReferenceIdeal.main_arg6) = m' ((c.tc : Thread Cert.DsaPrepReferenceIdeal.nD Cert.DsaPrepReferenceIdeal.τ).loc Cert.DsaPrepReferenceIdeal.main_arg6)
          ∧ r.2.mem ((c.tc : Thread Cert.DsaPrepReferenceIdeal.nD Cert.DsaPrepReferenceIdeal.τ).loc Cert.DsaPrepReferenceIdeal.main_arg7) = m' ((c.tc : Thread Cert.DsaPrepReferenceIdeal.nD Cert.DsaPrepReferenceIdeal.τ).loc Cert.DsaPrepReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hOutLn : Cert.OutLn.Facts) (hOutLnIdeal : Cert.OutLnIdeal.Facts) (hOutLnReferenceIdeal : Cert.OutLnReferenceIdeal.Facts) (hGdnPrep : Cert.GdnPrep.Facts) (hGdnPrepIdeal : Cert.GdnPrepIdeal.Facts) (hGdnPrepReferenceIdeal : Cert.GdnPrepReferenceIdeal.Facts) (hDsaPrep : Cert.DsaPrep.Facts) (hDsaPrepIdeal : Cert.DsaPrepIdeal.Facts) (hDsaPrepReferenceIdeal : Cert.DsaPrepReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutLn (hOutLn := hOutLn)
    ∧ quiescent_OutLnIdeal (hOutLnIdeal := hOutLnIdeal)
    ∧ quiescent_OutLnReferenceIdeal (hOutLnReferenceIdeal := hOutLnReferenceIdeal)
    ∧ quiescent_GdnPrep (hGdnPrep := hGdnPrep)
    ∧ quiescent_GdnPrepIdeal (hGdnPrepIdeal := hGdnPrepIdeal)
    ∧ quiescent_GdnPrepReferenceIdeal (hGdnPrepReferenceIdeal := hGdnPrepReferenceIdeal)
    ∧ quiescent_DsaPrep (hDsaPrep := hDsaPrep)
    ∧ quiescent_DsaPrepIdeal (hDsaPrepIdeal := hDsaPrepIdeal)
    ∧ quiescent_DsaPrepReferenceIdeal (hDsaPrepReferenceIdeal := hDsaPrepReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_OutLn_OutLnIdeal
    ∧ algebraic_OutLnIdeal_OutLnReferenceIdeal (hOutLnIdeal := hOutLnIdeal) (hOutLnReferenceIdeal := hOutLnReferenceIdeal)
    ∧ preserves_GdnPrep_GdnPrepIdeal
    ∧ algebraic_GdnPrepIdeal_GdnPrepReferenceIdeal (hGdnPrepIdeal := hGdnPrepIdeal) (hGdnPrepReferenceIdeal := hGdnPrepReferenceIdeal)
    ∧ preserves_DsaPrep_DsaPrepIdeal
    ∧ algebraic_DsaPrepIdeal_DsaPrepReferenceIdeal (hDsaPrepIdeal := hDsaPrepIdeal) (hDsaPrepReferenceIdeal := hDsaPrepReferenceIdeal)
-- ==== Pre_finite.lean ====
abbrev S8192x1024 : Shape := ⟨2, ![8192, 1024]⟩
abbrev S8192x5120 : Shape := ⟨2, ![8192, 5120]⟩
abbrev S2x4096x8 : Shape := ⟨3, ![2, 4096, 8]⟩
abbrev S128 : Shape := ⟨1, ![128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_

variable [Facts]

def fn_part1 {F : FTy → Type} [FloatOps F] (main_arg5 : FVec F S2x4096x8 .f32) (main_v13 : IVec S_ 1) (main_v16 : IVec S2x4096x8 1) : IVec S_ 1 :=
  let main_c_5 : IVec S_ 1 := constantI S_ 1 1#1
  let main_v17 : IVec S_ 1 := (fun x v => Host.reduce IntOp.andi x v reducesTo_S2x4096x8_S_d0_1_2 h_S_) main_v16 main_c_5
  let main_v18 : IVec S_ 1 := andi main_v13 main_v17
  let main_v19 : FVec F S2x4096x8 .f32 := Host.absf main_arg5
  let main_cst_6 : FVec F S_ .f32 := constant S_ .f32 0x7F800000#32
  let main_v20 : FVec F S2x4096x8 .f32 := broadcastInDim S2x4096x8 ![] bcast_S_S2x4096x8 main_cst_6
  let main_v21 : IVec S2x4096x8 1 := cmpf .olt main_v19 main_v20
  let main_c_7 : IVec S_ 1 := constantI S_ 1 1#1
  let main_v22 : IVec S_ 1 := (fun x v => Host.reduce IntOp.andi x v reducesTo_S2x4096x8_S_d0_1_2 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8192x5120 .f32) (main_arg4 : FVec F S2x4096x8 .f32) (main_arg5 : FVec F S2x4096x8 .f32) (main_arg6 : FVec F S128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2x4096x8 .f32 := Host.absf main_arg4
  let main_cst_4 : FVec F S_ .f32 := constant S_ .f32 0x7F800000#32
  let main_v15 : FVec F S2x4096x8 .f32 := broadcastInDim S2x4096x8 ![] bcast_S_S2x4096x8 main_cst_4
  let main_v16 : IVec S2x4096x8 1 := cmpf .olt main_v14 main_v15
  fn_part1 (F := F) main_arg5 main_v13 main_v16
-- ==== Kernel.lean ====
abbrev S8192x1024 : Shape := ⟨2, ![8192, 1024]⟩
abbrev S8192x5120 : Shape := ⟨2, ![8192, 5120]⟩
abbrev S2x4096x8 : Shape := ⟨3, ![2, 4096, 8]⟩
abbrev S128 : Shape := ⟨1, ![128]⟩
abbrev S2x32x128x8 : Shape := ⟨4, ![2, 32, 128, 8]⟩
abbrev S_ : Shape := ⟨0, ![]⟩
abbrev S2x4096x16 : Shape := ⟨3, ![2, 4096, 16]⟩
abbrev S2x4096x96 : Shape := ⟨3, ![2, 4096, 96]⟩
abbrev S2x4096x128 : Shape := ⟨3, ![2, 4096, 128]⟩
abbrev S2x128x4096 : Shape := ⟨3, ![2, 128, 4096]⟩
abbrev S8192x128 : Shape := ⟨2, ![8192, 128]⟩
abbrev S1x128 : Shape := ⟨2, ![1, 128]⟩
abbrev S2x4096x1024 : Shape := ⟨3, ![2, 4096, 1024]⟩
abbrev S2x4096x5120 : Shape := ⟨3, ![2, 4096, 5120]⟩
abbrev S2x128x1024 : Shape := ⟨3, ![2, 128, 1024]⟩
abbrev S2x128x128 : Shape := ⟨3, ![2, 128, 128]⟩
abbrev S16x128x128 : Shape := ⟨3, ![16, 128, 128]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S1x1 : Shape := ⟨2, ![1, 1]⟩

abbrev nBuf : Space → Nat
  | .hbm => 26
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x5120, .f32⟩
  | .hbm, ⟨4, _⟩ => ⟨S2x4096x8, .f32⟩
  | .hbm, ⟨5, _⟩ => ⟨S2x4096x8, .f32⟩
  | .hbm, ⟨6, _⟩ => ⟨S128, .f32⟩
  | .hbm, ⟨7, _⟩ => ⟨S2x32x128x8, .f32⟩
  | .hbm, ⟨8, _⟩ => ⟨S_, .f32⟩
  | .hbm, ⟨9, _⟩ => ⟨S_, .f32⟩
  | .hbm, ⟨10, _⟩ => ⟨S2x32x128x8, .f32⟩
  | .hbm, ⟨11, _⟩ => ⟨S2x4096x8, .f32⟩
  | .hbm, ⟨12, _⟩ => ⟨S_, .f32⟩
  | .hbm, ⟨13, _⟩ => ⟨S2x4096x16, .f32⟩
  | .hbm, ⟨14, _⟩ => ⟨S_, .f32⟩
  | .hbm, ⟨15, _⟩ => ⟨S2x4096x96, .f32⟩
  | .hbm, ⟨16, _⟩ => ⟨S2x4096x128, .f32⟩
  | .hbm, ⟨17, _⟩ => ⟨S2x128x4096, .f32⟩
  | .hbm, ⟨18, _⟩ => ⟨S8192x128, .f32⟩
  | .hbm, ⟨19, _⟩ => ⟨S1x128, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x5120, .f32⟩
  | .hbm, ⟨24, _⟩ => ⟨S2x4096x128, .f32⟩
  | .hbm, ⟨25, _⟩ => ⟨S2x4096x1024, .bf16⟩
  | .local _ .vmem, ⟨0, _⟩ => ⟨S2x128x1024, .f32⟩
  | .local _ .vmem, ⟨1, _⟩ => ⟨S2x128x1024, .f32⟩
  | .local _ .vmem, ⟨2, _⟩ => ⟨S2x128x1024, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x128, .f32⟩
  | .local _ .vmem, ⟨9, _⟩ => ⟨S2x128x128, .f32⟩
  | .local _ .vmem, ⟨10, _⟩ => ⟨S2x128x128, .f32⟩
  | .local _ .vmem, ⟨11, _⟩ => ⟨S2x128x128, .f32⟩
  | .local _ .vmem, ⟨12, _⟩ => ⟨S1x128, .f32⟩
  | .local _ .vmem, ⟨13, _⟩ => ⟨S2x128x1024, .bf16⟩
  | .local _ .vmem, ⟨14, _⟩ => ⟨S2x128x1024, .bf16⟩
  | .local _ .vmem, ⟨15, _⟩ => ⟨S16x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x1024 : Shape := ⟨2, ![8192, 1024]⟩
abbrev S8192x5120 : Shape := ⟨2, ![8192, 5120]⟩
abbrev S2x4096x8 : Shape := ⟨3, ![2, 4096, 8]⟩
abbrev S128 : Shape := ⟨1, ![128]⟩
abbrev S2x4096x8x128 : Shape := ⟨4, ![2, 4096, 8, 128]⟩
abbrev S_ : Shape := ⟨0, ![]⟩
abbrev S2x8x128x128 : Shape := ⟨4, ![2, 8, 128, 128]⟩
abbrev S4096x2x8x128 : Shape := ⟨4, ![4096, 2, 8, 128]⟩
abbrev S4096x2x8 : Shape := ⟨3, ![4096, 2, 8]⟩
abbrev S1x2x8x128 : Shape := ⟨4, ![1, 2, 8, 128]⟩
abbrev S2x8x128 : Shape := ⟨3, ![2, 8, 128]⟩
abbrev S1x2x8 : Shape := ⟨3, ![1, 2, 8]⟩
abbrev S2x8 : Shape := ⟨2, ![2, 8]⟩
abbrev S2x8x1x1 : Shape := ⟨4, ![2, 8, 1, 1]⟩
abbrev S2x8x1 : Shape := ⟨3, ![2, 8, 1]⟩
abbrev S2x8x128x1 : Shape := ⟨4, ![2, 8, 128, 1]⟩
abbrev S2x8x1x128 : Shape := ⟨4, ![2, 8, 1, 128]⟩
abbrev S2x4096x8x1 : Shape := ⟨4, ![2, 4096, 8, 1]⟩
abbrev S1x1x1x128 : Shape := ⟨4, ![1, 1, 1, 128]⟩
abbrev S2x4096x1024 : Shape := ⟨3, ![2, 4096, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x5120, .f32⟩
  | .hbm, ⟨4, _⟩ => ⟨S2x4096x8, .f32⟩
  | .hbm, ⟨5, _⟩ => ⟨S2x4096x8, .f32⟩
  | .hbm, ⟨6, _⟩ => ⟨S128, .f32⟩
  | .hbm, ⟨7, _⟩ => ⟨S2x4096x8x128, .f32⟩
  | .hbm, ⟨8, _⟩ => ⟨S2x4096x8x128, .f32⟩
  | .hbm, ⟨9, _⟩ => ⟨S2x4096x8x128, .f32⟩
  | .hbm, ⟨10, _⟩ => ⟨S_, .f32⟩
  | .hbm, ⟨11, _⟩ => ⟨S2x8x128x128, .f32⟩
  | .hbm, ⟨12, _⟩ => ⟨S4096x2x8x128, .f32⟩
  | .hbm, ⟨13, _⟩ => ⟨S4096x2x8x128, .f32⟩
  | .hbm, ⟨14, _⟩ => ⟨S4096x2x8x128, .f32⟩
  | .hbm, ⟨15, _⟩ => ⟨S4096x2x8, .f32⟩
  | .hbm, ⟨16, _⟩ => ⟨S4096x2x8, .f32⟩
  | .hbm, ⟨17, _⟩ => ⟨S_, .f32⟩
  | .hbm, ⟨18, _⟩ => ⟨S4096x2x8x128, .f32⟩
  | .hbm, ⟨19, _⟩ => ⟨S_, .i32⟩
  | .hbm, ⟨20, _⟩ => ⟨S4096x2x8x128, .f32⟩
  | .hbm, ⟨21, _⟩ => ⟨S4096x2x8x128, .f32⟩
  | .hbm, ⟨22, _⟩ => ⟨S4096x2x8x128, .f32⟩
  | .hbm, ⟨23, _⟩ => ⟨S4096x2x8, .f32⟩
  | .hbm, ⟨24, _⟩ => ⟨S4096x2x8, .f32⟩
  | .hbm, ⟨25, _⟩ => ⟨S_, .i32⟩
  | .hbm, ⟨26, _⟩ => ⟨S2x8x128x128, .f32⟩
  | .hbm, ⟨27, _⟩ => ⟨S4096x2x8x128, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x2x8x128, .f32⟩
  | .hbm, ⟨34, _⟩ => ⟨S2x8x128, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x2x8x128, .f32⟩
  | .hbm, ⟨39, _⟩ => ⟨S2x8x128, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x2x8x128, .f32⟩
  | .hbm, ⟨44, _⟩ => ⟨S2x8x128, .f32⟩
  | .hbm, ⟨45, _⟩ => ⟨S_, .i32⟩
  | .hbm, ⟨46, _⟩ => ⟨S_, .i32⟩
  | .hbm, ⟨47, _⟩ => ⟨S1x2x8, .f32⟩
  | .hbm, ⟨48, _⟩ => ⟨S2x8, .f32⟩
  | .hbm, ⟨49, _⟩ => ⟨S_, .i32⟩
  | .hbm, ⟨50, _⟩ => ⟨S_, .i32⟩
  | .hbm, ⟨51, _⟩ => ⟨S1x2x8, .f32⟩
  | .hbm, ⟨52, _⟩ => ⟨S2x8, .f32⟩
  | .hbm, ⟨53, _⟩ => ⟨S2x8, .f32⟩
  | .hbm, ⟨54, _⟩ => ⟨S2x8x1x1, .f32⟩
  | .hbm, ⟨55, _⟩ => ⟨S2x8x128x128, .f32⟩
  | .hbm, ⟨56, _⟩ => ⟨S2x8x128x128, .f32⟩
  | .hbm, ⟨57, _⟩ => ⟨S2x8x128, .f32⟩
  | .hbm, ⟨58, _⟩ => ⟨S2x8x128, .f32⟩
  | .hbm, ⟨59, _⟩ => ⟨S2x8x1, .f32⟩
  | .hbm, ⟨60, _⟩ => ⟨S2x8x128, .f32⟩
  | .hbm, ⟨61, _⟩ => ⟨S2x8x128, .f32⟩
  | .hbm, ⟨62, _⟩ => ⟨S2x8x128x1, .f32⟩
  | .hbm, ⟨63, _⟩ => ⟨S2x8x1x128, .f32⟩
  | .hbm, ⟨64, _⟩ => ⟨S2x8x128x128, .f32⟩
  | .hbm, ⟨65, _⟩ => ⟨S2x8x128x128, .f32⟩
  | .hbm, ⟨66, _⟩ => ⟨S2x8x128x128, .f32⟩
  | .hbm, ⟨67, _⟩ => ⟨S2x8x128x128, .f32⟩
  | .hbm, ⟨68, _⟩ => ⟨S2x8x128, .f32⟩
  | .hbm, ⟨69, _⟩ => ⟨S1x2x8x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S4096x2x8x128, .f32⟩
  | .hbm, ⟨74, _⟩ => ⟨S_, .i32⟩
  | .hbm, ⟨75, _⟩ => ⟨S_, .i32⟩
  | .hbm, ⟨76, _⟩ => ⟨S8192x1024, .f32⟩
  | .hbm, ⟨77, _⟩ => ⟨S2x4096x8x128, .f32⟩
  | .hbm, ⟨78, _⟩ => ⟨S2x4096x8x128, .f32⟩
  | .hbm, ⟨79, _⟩ => ⟨S2x4096x8x128, .f32⟩
  | .hbm, ⟨80, _⟩ => ⟨S_, .f32⟩
  | .hbm, ⟨81, _⟩ => ⟨S2x4096x8, .f32⟩
  | .hbm, ⟨82, _⟩ => ⟨S2x4096x8x1, .f32⟩
  | .hbm, ⟨83, _⟩ => ⟨S_, .f32⟩
  | .hbm, ⟨84, _⟩ => ⟨S2x4096x8x1, .f32⟩
  | .hbm, ⟨85, _⟩ => ⟨S2x4096x8x1, .f32⟩
  | .hbm, ⟨86, _⟩ => ⟨S_, .f32⟩
  | .hbm, ⟨87, _⟩ => ⟨S2x4096x8x1, .f32⟩
  | .hbm, ⟨88, _⟩ => ⟨S2x4096x8x1, .f32⟩
  | .hbm, ⟨89, _⟩ => ⟨S2x4096x8x1, .f32⟩
  | .hbm, ⟨90, _⟩ => ⟨S2x4096x8x128, .f32⟩
  | .hbm, ⟨91, _⟩ => ⟨S2x4096x8x128, .f32⟩
  | .hbm, ⟨92, _⟩ => ⟨S1x1x1x128, .f32⟩
  | .hbm, ⟨93, _⟩ => ⟨S2x4096x8x128, .f32⟩
  | .hbm, ⟨94, _⟩ => ⟨S2x4096x8x128, .f32⟩
  | .hbm, ⟨95, _⟩ => ⟨S2x4096x8x128, .f32⟩
  | .hbm, ⟨96, _⟩ => ⟨S2x4096x8x128, .f32⟩
  | .hbm, ⟨97, _⟩ => ⟨S_, .f32⟩
  | .hbm, ⟨98, _⟩ => ⟨S2x4096x8x128, .f32⟩
  | .hbm, ⟨99, _⟩ => ⟨S2x4096x8x128, .f32⟩
  | .hbm, ⟨100, _⟩ => ⟨S_, .f32⟩
  | .hbm, ⟨101, _⟩ => ⟨S2x4096x8x128, .f32⟩
  | .hbm, ⟨102, _⟩ => ⟨S2x4096x8x128, .f32⟩
  | .hbm, ⟨103, _⟩ => ⟨S2x4096x8x128, .f32⟩
  | .hbm, ⟨104, _⟩ => ⟨S2x4096x8x128, .f32⟩
  | .hbm, ⟨105, _⟩ => ⟨S2x4096x1024, .f32⟩
  | .hbm, ⟨106, _⟩ => ⟨S2x4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_c : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_while0c_c_11 : Ref sig .tc := ⟨.hbm, 28, rfl⟩
abbrev main_while0c_v31 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_c_1 : Ref sig .tc := ⟨.hbm, 32, rfl⟩
abbrev main_while0b_call0_v0 : Ref sig .tc := ⟨.hbm, 33, rfl⟩
abbrev main_while0b_v31 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_c_1 : Ref sig .tc := ⟨.hbm, 37, rfl⟩
abbrev main_while0b_call1_v0 : Ref sig .tc := ⟨.hbm, 38, rfl⟩
abbrev main_while0b_v32 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_call2_c_1 : Ref sig .tc := ⟨.hbm, 42, rfl⟩
abbrev main_while0b_call2_v0 : Ref sig .tc := ⟨.hbm, 43, rfl⟩
abbrev main_while0b_v33 : Ref sig .tc := ⟨.hbm, 44, rfl⟩
abbrev main_while0b_call3_c : Ref sig .tc := ⟨.hbm, 45, rfl⟩
abbrev main_while0b_call3_c_0 : Ref sig .tc := ⟨.hbm, 46, rfl⟩
abbrev main_while0b_call3_v0 : Ref sig .tc := ⟨.hbm, 47, rfl⟩
abbrev main_while0b_v34 : Ref sig .tc := ⟨.hbm, 48, rfl⟩
abbrev main_while0b_call4_c : Ref sig .tc := ⟨.hbm, 49, rfl⟩
abbrev main_while0b_call4_c_0 : Ref sig .tc := ⟨.hbm, 50, rfl⟩
abbrev main_while0b_call4_v0 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_v46 : Ref sig .tc := ⟨.hbm, 63, rfl⟩
abbrev main_while0b_v47 : Ref sig .tc := ⟨.hbm, 64, rfl⟩
abbrev main_while0b_v48 : Ref sig .tc := ⟨.hbm, 65, rfl⟩
abbrev main_while0b_v49 : Ref sig .tc := ⟨.hbm, 66, rfl⟩
abbrev main_while0b_v50 : Ref sig .tc := ⟨.hbm, 67, rfl⟩
abbrev main_while0b_v51 : Ref sig .tc := ⟨.hbm, 68, rfl⟩
abbrev main_while0b_call5_v0 : Ref sig .tc := ⟨.hbm, 69, rfl⟩
abbrev main_while0b_call5_c : Ref sig .tc := ⟨.hbm, 70, rfl⟩
abbrev main_while0b_call5_c_0 : Ref sig .tc := ⟨.hbm, 71, rfl⟩
abbrev main_while0b_call5_c_1 : Ref sig .tc := ⟨.hbm, 72, rfl⟩
abbrev main_while0b_v52 : Ref sig .tc := ⟨.hbm, 73, rfl⟩
abbrev main_while0b_c_11 : Ref sig .tc := ⟨.hbm, 74, rfl⟩
abbrev main_while0b_v53 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_cst_1 : Ref sig .tc := ⟨.hbm, 80, rfl⟩
abbrev main_v15 : Ref sig .tc := ⟨.hbm, 81, rfl⟩
abbrev main_v16 : Ref sig .tc := ⟨.hbm, 82, rfl⟩
abbrev main_cst_2 : Ref sig .tc := ⟨.hbm, 83, rfl⟩
abbrev main_v17 : Ref sig .tc := ⟨.hbm, 84, rfl⟩
abbrev main_v18 : Ref sig .tc := ⟨.hbm, 85, rfl⟩
abbrev main_cst_3 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_call6_v0 : Ref sig .tc := ⟨.hbm, 95, rfl⟩
abbrev main_call6_v1 : Ref sig .tc := ⟨.hbm, 96, rfl⟩
abbrev main_call6_cst : Ref sig .tc := ⟨.hbm, 97, rfl⟩
abbrev main_call6_v2 : Ref sig .tc := ⟨.hbm, 98, rfl⟩
abbrev main_call6_v3 : Ref sig .tc := ⟨.hbm, 99, rfl⟩
abbrev main_call6_cst_0 : Ref sig .tc := ⟨.hbm, 100, rfl⟩
abbrev main_call6_v4 : Ref sig .tc := ⟨.hbm, 101, rfl⟩
abbrev main_call6_v5 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩

abbrev nD : Nat := 1
abbrev τ : Topo := Topo.v7x

variable {F : FTy → Type} [FloatOps F]

abbrev main_while0_count : Scf.Loop 32 := ⟨0#32, 4096#32, 1#32⟩
-- ==== Ffn.lean ====
abbrev S2x4096x2048 : Shape := ⟨3, ![2, 4096, 2048]⟩
abbrev S2048x5632 : Shape := ⟨2, ![2048, 5632]⟩
abbrev S5632x2048 : Shape := ⟨2, ![5632, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S2x4096x2048 : Shape := ⟨3, ![2, 4096, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S2x4096x5632 : Shape := ⟨3, ![2, 4096, 5632]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2x4096x2048, .f32⟩
  | .hbm, ⟨8, _⟩ => ⟨S2x4096x2048, .f32⟩
  | .hbm, ⟨9, _⟩ => ⟨S2x4096x5632, .f32⟩
  | .hbm, ⟨10, _⟩ => ⟨S2x4096x5632, .f32⟩
  | .hbm, ⟨11, _⟩ => ⟨S2x4096x5632, .f32⟩
  | .hbm, ⟨12, _⟩ => ⟨S_, .f32⟩
  | .hbm, ⟨13, _⟩ => ⟨S2x4096x5632, .f32⟩
  | .hbm, ⟨14, _⟩ => ⟨S2x4096x5632, .f32⟩
  | .hbm, ⟨15, _⟩ => ⟨S_, .f32⟩
  | .hbm, ⟨16, _⟩ => ⟨S2x4096x5632, .f32⟩
  | .hbm, ⟨17, _⟩ => ⟨S2x4096x5632, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x1, .f32⟩
  | .hbm, ⟨45, _⟩ => ⟨S2x4096x2048, .f32⟩
  | .hbm, ⟨46, _⟩ => ⟨S2x4096x2048, .f32⟩
  | .hbm, ⟨47, _⟩ => ⟨S1x1x2048, .f32⟩
  | .hbm, ⟨48, _⟩ => ⟨S2x4096x2048, .f32⟩
  | .hbm, ⟨49, _⟩ => ⟨S2x4096x2048, .f32⟩
  | .hbm, ⟨50, _⟩ => ⟨S1x1x2048, .f32⟩
  | .hbm, ⟨51, _⟩ => ⟨S2x4096x2048, .f32⟩
  | .hbm, ⟨52, _⟩ => ⟨S2x4096x2048, .f32⟩
  | .hbm, ⟨53, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== InProj.lean ====
abbrev S8192x2048 : Shape := ⟨2, ![8192, 2048]⟩
abbrev S2048x5024 : Shape := ⟨2, ![2048, 5024]⟩
abbrev S_ : Shape := ⟨0, ![]⟩
abbrev S2048x96 : Shape := ⟨2, ![2048, 96]⟩
abbrev S2048x896 : Shape := ⟨2, ![2048, 896]⟩
abbrev S2048x16 : Shape := ⟨2, ![2048, 16]⟩
abbrev S2048x1024 : Shape := ⟨2, ![2048, 1024]⟩
abbrev S2048x4096 : Shape := ⟨2, ![2048, 4096]⟩
abbrev S8192x5120 : Shape := ⟨2, ![8192, 5120]⟩
abbrev S512x2048 : Shape := ⟨2, ![512, 2048]⟩
abbrev S512x5120 : Shape := ⟨2, ![512, 5120]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5024, .f32⟩
  | .hbm, ⟨2, _⟩ => ⟨S2048x5024, .bf16⟩
  | .hbm, ⟨3, _⟩ => ⟨S_, .bf16⟩
  | .hbm, ⟨4, _⟩ => ⟨S2048x96, .bf16⟩
  | .hbm, ⟨5, _⟩ => ⟨S2048x896, .bf16⟩
  | .hbm, ⟨6, _⟩ => ⟨S2048x16, .bf16⟩
  | .hbm, ⟨7, _⟩ => ⟨S2048x16, .bf16⟩
  | .hbm, ⟨8, _⟩ => ⟨S2048x1024, .bf16⟩
  | .hbm, ⟨9, _⟩ => ⟨S2048x4096, .bf16⟩
  | .hbm, ⟨10, _⟩ => ⟨S8192x5120, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S2048x1024, .bf16⟩
  | .local _ .vmem, ⟨4, _⟩ => ⟨S512x5120, .f32⟩
  | .local _ .vmem, ⟨5, _⟩ => ⟨S512x5120, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjReferenceIdeal.lean ====
abbrev S8192x2048 : Shape := ⟨2, ![8192, 2048]⟩
abbrev S2048x5024 : Shape := ⟨2, ![2048, 5024]⟩
abbrev S8192x5024 : Shape := ⟨2, ![8192, 5024]⟩
abbrev S8192x512 : Shape := ⟨2, ![8192, 512]⟩
abbrev S8192x256 : Shape := ⟨2, ![8192, 256]⟩
abbrev S8192x128 : Shape := ⟨2, ![8192, 128]⟩
abbrev S8192x16 : Shape := ⟨2, ![8192, 16]⟩
abbrev S8192x4096 : Shape := ⟨2, ![8192, 4096]⟩
abbrev S_ : Shape := ⟨0, ![]⟩
abbrev S8192x96 : Shape := ⟨2, ![8192, 96]⟩
abbrev S8192x5120 : Shape := ⟨2, ![8192, 5120]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5024, .f32⟩
  | .hbm, ⟨2, _⟩ => ⟨S8192x5024, .f32⟩
  | .hbm, ⟨3, _⟩ => ⟨S8192x512, .f32⟩
  | .hbm, ⟨4, _⟩ => ⟨S8192x256, .f32⟩
  | .hbm, ⟨5, _⟩ => ⟨S8192x128, .f32⟩
  | .hbm, ⟨6, _⟩ => ⟨S8192x16, .f32⟩
  | .hbm, ⟨7, _⟩ => ⟨S8192x4096, .f32⟩
  | .hbm, ⟨8, _⟩ => ⟨S8192x16, .f32⟩
  | .hbm, ⟨9, _⟩ => ⟨S_, .f32⟩
  | .hbm, ⟨10, _⟩ => ⟨S8192x96, .f32⟩
  | .hbm, ⟨11, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutLn.lean ====
abbrev S8192x2048 : Shape := ⟨2, ![8192, 2048]⟩
abbrev S8192x1024 : Shape := ⟨2, ![8192, 1024]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S1024x1024 : Shape := ⟨2, ![1024, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnReferenceIdeal.lean ====
abbrev S8192x2048 : Shape := ⟨2, ![8192, 2048]⟩
abbrev S8192x1024 : Shape := ⟨2, ![8192, 1024]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== GdnPrep.lean ====
abbrev S8192x5120 : Shape := ⟨2, ![8192, 5120]⟩
abbrev S4x3072 : Shape := ⟨2, ![4, 3072]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S8192x1024 : Shape := ⟨2, ![8192, 1024]⟩
abbrev S8192x128 : Shape := ⟨2, ![8192, 128]⟩
abbrev S2x128x4096 : Shape := ⟨3, ![2, 128, 4096]⟩
abbrev S256x3072 : Shape := ⟨2, ![256, 3072]⟩
abbrev S8x3072 : Shape := ⟨2, ![8, 3072]⟩
abbrev S256x128 : Shape := ⟨2, ![256, 128]⟩
abbrev S256x1024 : Shape := ⟨2, ![256, 1024]⟩
abbrev S1x128x256 : Shape := ⟨3, ![1, 128, 256]⟩
abbrev S16x3072 : Shape := ⟨2, ![16, 3072]⟩
abbrev S256x256 : Shape := ⟨2, ![256, 256]⟩
abbrev S1x3072 : Shape := ⟨2, ![1, 3072]⟩
abbrev S248x3072 : Shape := ⟨2, ![248, 3072]⟩
abbrev S256 : Shape := ⟨1, ![256]⟩
abbrev S256x1 : Shape := ⟨2, ![256, 1]⟩
abbrev S128x256 : Shape := ⟨2, ![128, 256]⟩

abbrev nBuf : Space → Nat
  | .hbm => 25
  | .vmem => 19
  | .smem => 0
  | _ => 0

abbrev bufTy : (tb : Table) → Fin (tcTables nBuf tb) → BufTy
  | .hbm, ⟨0, _⟩ => ⟨S8192x5120, .f32⟩
  | .hbm, ⟨1, _⟩ => ⟨S4x3072, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x128, .f32⟩
  | .hbm, ⟨24, _⟩ => ⟨S2x128x4096, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S256x128, .f32⟩
  | .local _ .vmem, ⟨5, _⟩ => ⟨S256x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | .local _ .vmem, ⟨17, _⟩ => ⟨S1x128x256, .f32⟩
  | .local _ .vmem, ⟨18, _⟩ => ⟨S1x128x256, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c39_i32 : BitVec 32 := 39#32
  let c0_i32 : BitVec 32 := 0#32
  ![v1.toNat, c39_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GdnPrepReferenceIdeal.lean ====
abbrev S8192x5120 : Shape := ⟨2, ![8192, 5120]⟩
abbrev S4x3072 : Shape := ⟨2, ![4, 3072]⟩
abbrev S8 : Shape := ⟨1, ![8]⟩
abbrev S8192x3072 : Shape := ⟨2, ![8192, 3072]⟩
abbrev S2x4096x3072 : Shape := ⟨3, ![2, 4096, 3072]⟩
abbrev S_ : Shape := ⟨0, ![]⟩
abbrev S2x4099x3072 : Shape := ⟨3, ![2, 4099, 3072]⟩
abbrev S1x3072 : Shape := ⟨2, ![1, 3072]⟩
abbrev S3072 : Shape := ⟨1, ![3072]⟩
abbrev S1x1x3072 : Shape := ⟨3, ![1, 1, 3072]⟩
abbrev S2x4096x1024 : Shape := ⟨3, ![2, 4096, 1024]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S8192x128 : Shape := ⟨2, ![8192, 128]⟩
abbrev S8192x8 : Shape := ⟨2, ![8192, 8]⟩
abbrev S1x8 : Shape := ⟨2, ![1, 8]⟩
abbrev S64x128x8 : Shape := ⟨3, ![64, 128, 8]⟩
abbrev S8192x16 : Shape := ⟨2, ![8192, 16]⟩
abbrev S8192x104 : Shape := ⟨2, ![8192, 104]⟩
abbrev S8192x1024 : Shape := ⟨2, ![8192, 1024]⟩
abbrev S2x4096x128 : Shape := ⟨3, ![2, 4096, 128]⟩
abbrev S2x128x4096 : Shape := ⟨3, ![2, 128, 4096]⟩

abbrev nBuf : Space → Nat
  | .hbm => 121
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x3072, .f32⟩
  | .hbm, ⟨2, _⟩ => ⟨S8, .f32⟩
  | .hbm, ⟨3, _⟩ => ⟨S8, .f32⟩
  | .hbm, ⟨4, _⟩ => ⟨S8192x3072, .f32⟩
  | .hbm, ⟨5, _⟩ => ⟨S2x4096x3072, .f32⟩
  | .hbm, ⟨6, _⟩ => ⟨S_, .i32⟩
  | .hbm, ⟨7, _⟩ => ⟨S_, .f32⟩
  | .hbm, ⟨8, _⟩ => ⟨S2x4099x3072, .f32⟩
  | .hbm, ⟨9, _⟩ => ⟨S1x3072, .f32⟩
  | .hbm, ⟨10, _⟩ => ⟨S3072, .f32⟩
  | .hbm, ⟨11, _⟩ => ⟨S2x4096x3072, .f32⟩
  | .hbm, ⟨12, _⟩ => ⟨S1x1x3072, .f32⟩
  | .hbm, ⟨13, _⟩ => ⟨S2x4096x3072, .f32⟩
  | .hbm, ⟨14, _⟩ => ⟨S2x4096x3072, .f32⟩
  | .hbm, ⟨15, _⟩ => ⟨S_, .f32⟩
  | .hbm, ⟨16, _⟩ => ⟨S2x4096x3072, .f32⟩
  | .hbm, ⟨17, _⟩ => ⟨S2x4096x3072, .f32⟩
  | .hbm, ⟨18, _⟩ => ⟨S1x3072, .f32⟩
  | .hbm, ⟨19, _⟩ => ⟨S3072, .f32⟩
  | .hbm, ⟨20, _⟩ => ⟨S2x4096x3072, .f32⟩
  | .hbm, ⟨21, _⟩ => ⟨S1x1x3072, .f32⟩
  | .hbm, ⟨22, _⟩ => ⟨S2x4096x3072, .f32⟩
  | .hbm, ⟨23, _⟩ => ⟨S2x4096x3072, .f32⟩
  | .hbm, ⟨24, _⟩ => ⟨S2x4096x3072, .f32⟩
  | .hbm, ⟨25, _⟩ => ⟨S1x3072, .f32⟩
  | .hbm, ⟨26, _⟩ => ⟨S3072, .f32⟩
  | .hbm, ⟨27, _⟩ => ⟨S2x4096x3072, .f32⟩
  | .hbm, ⟨28, _⟩ => ⟨S1x1x3072, .f32⟩
  | .hbm, ⟨29, _⟩ => ⟨S2x4096x3072, .f32⟩
  | .hbm, ⟨30, _⟩ => ⟨S2x4096x3072, .f32⟩
  | .hbm, ⟨31, _⟩ => ⟨S2x4096x3072, .f32⟩
  | .hbm, ⟨32, _⟩ => ⟨S1x3072, .f32⟩
  | .hbm, ⟨33, _⟩ => ⟨S3072, .f32⟩
  | .hbm, ⟨34, _⟩ => ⟨S2x4096x3072, .f32⟩
  | .hbm, ⟨35, _⟩ => ⟨S1x1x3072, .f32⟩
  | .hbm, ⟨36, _⟩ => ⟨S2x4096x3072, .f32⟩
  | .hbm, ⟨37, _⟩ => ⟨S2x4096x3072, .f32⟩
  | .hbm, ⟨38, _⟩ => ⟨S2x4096x3072, .f32⟩
  | .hbm, ⟨39, _⟩ => ⟨S2x4096x3072, .f32⟩
  | .hbm, ⟨40, _⟩ => ⟨S2x4096x3072, .f32⟩
  | .hbm, ⟨41, _⟩ => ⟨S_, .f32⟩
  | .hbm, ⟨42, _⟩ => ⟨S2x4096x3072, .f32⟩
  | .hbm, ⟨43, _⟩ => ⟨S2x4096x3072, .f32⟩
  | .hbm, ⟨44, _⟩ => ⟨S_, .f32⟩
  | .hbm, ⟨45, _⟩ => ⟨S2x4096x3072, .f32⟩
  | .hbm, ⟨46, _⟩ => ⟨S2x4096x3072, .f32⟩
  | .hbm, ⟨47, _⟩ => ⟨S2x4096x3072, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x8x128, .f32⟩
  | .hbm, ⟨52, _⟩ => ⟨S2x4096x8x128, .f32⟩
  | .hbm, ⟨53, _⟩ => ⟨S_, .f32⟩
  | .hbm, ⟨54, _⟩ => ⟨S2x4096x8, .f32⟩
  | .hbm, ⟨55, _⟩ => ⟨S2x4096x8x1, .f32⟩
  | .hbm, ⟨56, _⟩ => ⟨S_, .f32⟩
  | .hbm, ⟨57, _⟩ => ⟨S2x4096x8x1, .f32⟩
  | .hbm, ⟨58, _⟩ => ⟨S2x4096x8x1, .f32⟩
  | .hbm, ⟨59, _⟩ => ⟨S2x4096x8x1, .f32⟩
  | .hbm, ⟨60, _⟩ => ⟨S2x4096x8x128, .f32⟩
  | .hbm, ⟨61, _⟩ => ⟨S2x4096x8x128, .f32⟩
  | .hbm, ⟨62, _⟩ => ⟨S_, .f32⟩
  | .hbm, ⟨63, _⟩ => ⟨S2x4096x8x128, .f32⟩
  | .hbm, ⟨64, _⟩ => ⟨S2x4096x8x128, .f32⟩
  | .hbm, ⟨65, _⟩ => ⟨S2x4096x8x128, .f32⟩
  | .hbm, ⟨66, _⟩ => ⟨S2x4096x8x128, .f32⟩
  | .hbm, ⟨67, _⟩ => ⟨S_, .f32⟩
  | .hbm, ⟨68, _⟩ => ⟨S2x4096x8, .f32⟩
  | .hbm, ⟨69, _⟩ => ⟨S2x4096x8x1, .f32⟩
  | .hbm, ⟨70, _⟩ => ⟨S_, .f32⟩
  | .hbm, ⟨71, _⟩ => ⟨S2x4096x8x1, .f32⟩
  | .hbm, ⟨72, _⟩ => ⟨S2x4096x8x1, .f32⟩
  | .hbm, ⟨73, _⟩ => ⟨S2x4096x8x1, .f32⟩
  | .hbm, ⟨74, _⟩ => ⟨S2x4096x8x128, .f32⟩
  | .hbm, ⟨75, _⟩ => ⟨S2x4096x8x128, .f32⟩
  | .hbm, ⟨76, _⟩ => ⟨S8192x128, .f32⟩
  | .hbm, ⟨77, _⟩ => ⟨S8192x8, .f32⟩
  | .hbm, ⟨78, _⟩ => ⟨S8, .f32⟩
  | .hbm, ⟨79, _⟩ => ⟨S8, .f32⟩
  | .hbm, ⟨80, _⟩ => ⟨S1x8, .f32⟩
  | .hbm, ⟨81, _⟩ => ⟨S8192x8, .f32⟩
  | .hbm, ⟨82, _⟩ => ⟨S8192x8, .f32⟩
  | .hbm, ⟨83, _⟩ => ⟨S_, .f32⟩
  | .hbm, ⟨84, _⟩ => ⟨S8192x8, .f32⟩
  | .hbm, ⟨85, _⟩ => ⟨S8192x8, .f32⟩
  | .hbm, ⟨86, _⟩ => ⟨S8192x8, .f32⟩
  | .hbm, ⟨87, _⟩ => ⟨S8192x8, .f32⟩
  | .hbm, ⟨88, _⟩ => ⟨S8192x8, .i1⟩
  | .hbm, ⟨89, _⟩ => ⟨S8192x8, .f32⟩
  | .hbm, ⟨90, _⟩ => ⟨S8192x8, .f32⟩
  | .hbm, ⟨91, _⟩ => ⟨S8192x8, .f32⟩
  | .hbm, ⟨92, _⟩ => ⟨S8192x8, .f32⟩
  | .hbm, ⟨93, _⟩ => ⟨S8192x8, .f32⟩
  | .hbm, ⟨94, _⟩ => ⟨S8192x8, .f32⟩
  | .hbm, ⟨95, _⟩ => ⟨S8192x8, .f32⟩
  | .hbm, ⟨96, _⟩ => ⟨S8192x8, .f32⟩
  | .hbm, ⟨97, _⟩ => ⟨S1x8, .f32⟩
  | .hbm, ⟨98, _⟩ => ⟨S8192x8, .f32⟩
  | .hbm, ⟨99, _⟩ => ⟨S8192x8, .f32⟩
  | .hbm, ⟨100, _⟩ => ⟨S64x128x8, .f32⟩
  | .hbm, ⟨101, _⟩ => ⟨S_, .f32⟩
  | .hbm, ⟨102, _⟩ => ⟨S_, .f32⟩
  | .hbm, ⟨103, _⟩ => ⟨S64x128x8, .f32⟩
  | .hbm, ⟨104, _⟩ => ⟨S8192x8, .f32⟩
  | .hbm, ⟨105, _⟩ => ⟨S8192x128, .f32⟩
  | .hbm, ⟨106, _⟩ => ⟨S8192x128, .f32⟩
  | .hbm, ⟨107, _⟩ => ⟨S_, .f32⟩
  | .hbm, ⟨108, _⟩ => ⟨S8192x128, .f32⟩
  | .hbm, ⟨109, _⟩ => ⟨S8192x128, .f32⟩
  | .hbm, ⟨110, _⟩ => ⟨S_, .f32⟩
  | .hbm, ⟨111, _⟩ => ⟨S8192x128, .f32⟩
  | .hbm, ⟨112, _⟩ => ⟨S8192x128, .f32⟩
  | .hbm, ⟨113, _⟩ => ⟨S8192x16, .f32⟩
  | .hbm, ⟨114, _⟩ => ⟨S8192x104, .f32⟩
  | .hbm, ⟨115, _⟩ => ⟨S8192x128, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S2x4096x128, .f32⟩
  | .hbm, ⟨120, _⟩ => ⟨S2x128x4096, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call3_call0_cst : Ref sig .tc := ⟨.hbm, 101, rfl⟩
abbrev main_call3_call0_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_5 : Ref sig .tc := ⟨.hbm, 107, rfl⟩
abbrev main_v72 : Ref sig .tc := ⟨.hbm, 108, rfl⟩
abbrev main_v73 : Ref sig .tc := ⟨.hbm, 109, rfl⟩
abbrev main_cst_6 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== DsaPrep.lean ====
abbrev S8192x5120 : Shape := ⟨2, ![8192, 5120]⟩
abbrev S512 : Shape := ⟨1, ![512]⟩
abbrev S256 : Shape := ⟨1, ![256]⟩
abbrev S512x8x128 : Shape := ⟨3, ![512, 8, 128]⟩
abbrev S8x128x256 : Shape := ⟨3, ![8, 128, 256]⟩
abbrev S512x2048 : Shape := ⟨2, ![512, 2048]⟩
abbrev S128 : Shape := ⟨1, ![128]⟩
abbrev S1x512 : Shape := ⟨2, ![1, 512]⟩
abbrev S1x256 : Shape := ⟨2, ![1, 256]⟩
abbrev S512x1024 : Shape := ⟨2, ![512, 1024]⟩
abbrev S1x128 : Shape := ⟨2, ![1, 128]⟩
abbrev S16x8x512x256 : Shape := ⟨4, ![16, 8, 512, 256]⟩
abbrev S16x16x512x128 : Shape := ⟨4, ![16, 16, 512, 128]⟩
abbrev S8192x256 : Shape := ⟨2, ![8192, 256]⟩
abbrev S16x272x512 : Shape := ⟨3, ![16, 272, 512]⟩
abbrev S8192x128 : Shape := ⟨2, ![8192, 128]⟩
abbrev S16x8192 : Shape := ⟨2, ![16, 8192]⟩
abbrev S512x512 : Shape := ⟨2, ![512, 512]⟩
abbrev S512x256 : Shape := ⟨2, ![512, 256]⟩
abbrev S512x128 : Shape := ⟨2, ![512, 128]⟩
abbrev S1x8x512x256 : Shape := ⟨4, ![1, 8, 512, 256]⟩
abbrev S1x16x512x128 : Shape := ⟨4, ![1, 16, 512, 128]⟩
abbrev S1x272x512 : Shape := ⟨3, ![1, 272, 512]⟩
abbrev S16x512 : Shape := ⟨2, ![16, 512]⟩
abbrev S512x1 : Shape := ⟨2, ![512, 1]⟩
abbrev S1x128x256 : Shape := ⟨3, ![1, 128, 256]⟩
abbrev S128x256 : Shape := ⟨2, ![128, 256]⟩
abbrev S1x512x256 : Shape := ⟨3, ![1, 512, 256]⟩
abbrev S1x1x512x256 : Shape := ⟨4, ![1, 1, 512, 256]⟩
abbrev S1x512x128 : Shape := ⟨3, ![1, 512, 128]⟩
abbrev S1x1x512x128 : Shape := ⟨4, ![1, 1, 512, 128]⟩
abbrev S256x512 : Shape := ⟨2, ![256, 512]⟩
abbrev S1x256x512 : Shape := ⟨3, ![1, 256, 512]⟩
abbrev S1x16x512 : Shape := ⟨3, ![1, 16, 512]⟩
abbrev S128x512 : Shape := ⟨2, ![128, 512]⟩

abbrev nBuf : Space → Nat
  | .hbm => 22
  | .vmem => 27
  | .smem => 0
  | _ => 0

abbrev bufTy : (tb : Table) → Fin (tcTables nBuf tb) → BufTy
  | .hbm, ⟨0, _⟩ => ⟨S8192x5120, .f32⟩
  | .hbm, ⟨1, _⟩ => ⟨S512, .f32⟩
  | .hbm, ⟨2, _⟩ => ⟨S256, .f32⟩
  | .hbm, ⟨3, _⟩ => ⟨S512x8x128, .f32⟩
  | .hbm, ⟨4, _⟩ => ⟨S8x128x256, .f32⟩
  | .hbm, ⟨5, _⟩ => ⟨S512x2048, .f32⟩
  | .hbm, ⟨6, _⟩ => ⟨S128, .f32⟩
  | .hbm, ⟨7, _⟩ => ⟨S128, .f32⟩
  | .hbm, ⟨8, _⟩ => ⟨S1x512, .f32⟩
  | .hbm, ⟨9, _⟩ => ⟨S1x256, .f32⟩
  | .hbm, ⟨10, _⟩ => ⟨S512x1024, .f32⟩
  | .hbm, ⟨11, _⟩ => ⟨S512x1024, .bf16⟩
  | .hbm, ⟨12, _⟩ => ⟨S8x128x256, .bf16⟩
  | .hbm, ⟨13, _⟩ => ⟨S512x2048, .bf16⟩
  | .hbm, ⟨14, _⟩ => ⟨S1x128, .f32⟩
  | .hbm, ⟨15, _⟩ => ⟨S1x128, .f32⟩
  | .hbm, ⟨16, _⟩ => ⟨S16x8x512x256, .bf16⟩
  | .hbm, ⟨17, _⟩ => ⟨S16x16x512x128, .bf16⟩
  | .hbm, ⟨18, _⟩ => ⟨S8192x256, .bf16⟩
  | .hbm, ⟨19, _⟩ => ⟨S16x272x512, .bf16⟩
  | .hbm, ⟨20, _⟩ => ⟨S8192x128, .bf16⟩
  | .hbm, ⟨21, _⟩ => ⟨S16x8192, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x256, .f32⟩
  | .local _ .vmem, ⟨10, _⟩ => ⟨S512x1024, .bf16⟩
  | .local _ .vmem, ⟨11, _⟩ => ⟨S8x128x256, .bf16⟩
  | .local _ .vmem, ⟨12, _⟩ => ⟨S512x2048, .bf16⟩
  | .local _ .vmem, ⟨13, _⟩ => ⟨S1x128, .f32⟩
  | .local _ .vmem, ⟨14, _⟩ => ⟨S1x128, .f32⟩
  | .local _ .vmem, ⟨15, _⟩ => ⟨S1x8x512x256, .bf16⟩
  | .local _ .vmem, ⟨16, _⟩ => ⟨S1x8x512x256, .bf16⟩
  | .local _ .vmem, ⟨17, _⟩ => ⟨S1x16x512x128, .bf16⟩
  | .local _ .vmem, ⟨18, _⟩ => ⟨S1x16x512x128, .bf16⟩
  | .local _ .vmem, ⟨19, _⟩ => ⟨S512x256, .bf16⟩
  | .local _ .vmem, ⟨20, _⟩ => ⟨S512x256, .bf16⟩
  | .local _ .vmem, ⟨21, _⟩ => ⟨S1x272x512, .bf16⟩
  | .local _ .vmem, ⟨22, _⟩ => ⟨S1x272x512, .bf16⟩
  | .local _ .vmem, ⟨23, _⟩ => ⟨S512x128, .bf16⟩
  | .local _ .vmem, ⟨24, _⟩ => ⟨S512x128, .bf16⟩
  | .local _ .vmem, ⟨25, _⟩ => ⟨S16x512, .f32⟩
  | .local _ .vmem, ⟨26, _⟩ => ⟨S16x512, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_3 (i : grid0.Coords) : Fin 2 → Nat :=
  let arg0 : BitVec 32 := BitVec.ofNat 32 (i 0).val
  let c39_i32 : BitVec 32 := 39#32
  let c0_i32 : BitVec 32 := 0#32
  ![arg0.toNat, c39_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x272x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== DsaPrepReferenceIdeal.lean ====
abbrev S8192x5120 : Shape := ⟨2, ![8192, 5120]⟩
abbrev S512 : Shape := ⟨1, ![512]⟩
abbrev S256 : Shape := ⟨1, ![256]⟩
abbrev S512x8x128 : Shape := ⟨3, ![512, 8, 128]⟩
abbrev S8x128x256 : Shape := ⟨3, ![8, 128, 256]⟩
abbrev S512x2048 : Shape := ⟨2, ![512, 2048]⟩
abbrev S128 : Shape := ⟨1, ![128]⟩
abbrev S8192x512 : Shape := ⟨2, ![8192, 512]⟩
abbrev S8192x256 : Shape := ⟨2, ![8192, 256]⟩
abbrev S8192x128 : Shape := ⟨2, ![8192, 128]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1x256 : Shape := ⟨2, ![1, 256]⟩
abbrev S8192x8x128 : Shape := ⟨3, ![8192, 8, 128]⟩
abbrev S8x256x8192 : Shape := ⟨3, ![8, 256, 8192]⟩
abbrev S8192x8x256 : Shape := ⟨3, ![8192, 8, 256]⟩
abbrev S8192x2048 : Shape := ⟨2, ![8192, 2048]⟩
abbrev S8192x16x128 : Shape := ⟨3, ![8192, 16, 128]⟩
abbrev S16x512x256 : Shape := ⟨3, ![16, 512, 256]⟩
abbrev S16x256x512 : Shape := ⟨3, ![16, 256, 512]⟩
abbrev S16x16x512 : Shape := ⟨3, ![16, 16, 512]⟩
abbrev S16x272x512 : Shape := ⟨3, ![16, 272, 512]⟩
abbrev S16x8192 : Shape := ⟨2, ![16, 8192]⟩
abbrev S16x512x8x256 : Shape := ⟨4, ![16, 512, 8, 256]⟩
abbrev S16x8x512x256 : Shape := ⟨4, ![16, 8, 512, 256]⟩
abbrev S16x512x16x128 : Shape := ⟨4, ![16, 512, 16, 128]⟩
abbrev S16x16x512x128 : Shape := ⟨4, ![16, 16, 512, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S512, .f32⟩
  | .hbm, ⟨2, _⟩ => ⟨S256, .f32⟩
  | .hbm, ⟨3, _⟩ => ⟨S512x8x128, .f32⟩
  | .hbm, ⟨4, _⟩ => ⟨S8x128x256, .f32⟩
  | .hbm, ⟨5, _⟩ => ⟨S512x2048, .f32⟩
  | .hbm, ⟨6, _⟩ => ⟨S128, .f32⟩
  | .hbm, ⟨7, _⟩ => ⟨S128, .f32⟩
  | .hbm, ⟨8, _⟩ => ⟨S8192x512, .f32⟩
  | .hbm, ⟨9, _⟩ => ⟨S8192x256, .f32⟩
  | .hbm, ⟨10, _⟩ => ⟨S8192x128, .f32⟩
  | .hbm, ⟨11, _⟩ => ⟨S8192x16, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S8192x8x128, .f32⟩
  | .hbm, ⟨45, _⟩ => ⟨S8x256x8192, .f32⟩
  | .hbm, ⟨46, _⟩ => ⟨S8192x8x256, .f32⟩
  | .hbm, ⟨47, _⟩ => ⟨S_, .f32⟩
  | .hbm, ⟨48, _⟩ => ⟨S8192x8x256, .f32⟩
  | .hbm, ⟨49, _⟩ => ⟨S8192x8x256, .f32⟩
  | .hbm, ⟨50, _⟩ => ⟨S8192x2048, .f32⟩
  | .hbm, ⟨51, _⟩ => ⟨S8192x16x128, .f32⟩
  | .hbm, ⟨52, _⟩ => ⟨S16x512x256, .f32⟩
  | .hbm, ⟨53, _⟩ => ⟨S16x256x512, .f32⟩
  | .hbm, ⟨54, _⟩ => ⟨S_, .f32⟩
  | .hbm, ⟨55, _⟩ => ⟨S16x16x512, .f32⟩
  | .hbm, ⟨56, _⟩ => ⟨S16x272x512, .f32⟩
  | .hbm, ⟨57, _⟩ => ⟨S16x8192, .f32⟩
  | .hbm, ⟨58, _⟩ => ⟨S_, .f32⟩
  | .hbm, ⟨59, _⟩ => ⟨S16x8192, .f32⟩
  | .hbm, ⟨60, _⟩ => ⟨S16x8192, .f32⟩
  | .hbm, ⟨61, _⟩ => ⟨S16x512x8x256, .f32⟩
  | .hbm, ⟨62, _⟩ => ⟨S16x8x512x256, .f32⟩
  | .hbm, ⟨63, _⟩ => ⟨S16x8x512x256, .bf16⟩
  | .hbm, ⟨64, _⟩ => ⟨S16x512x16x128, .f32⟩
  | .hbm, ⟨65, _⟩ => ⟨S16x16x512x128, .f32⟩
  | .hbm, ⟨66, _⟩ => ⟨S16x16x512x128, .bf16⟩
  | .hbm, ⟨67, _⟩ => ⟨S8192x256, .bf16⟩
  | .hbm, ⟨68, _⟩ => ⟨S16x272x512, .bf16⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x128, .f32⟩
  | .hbm, ⟨89, _⟩ => ⟨S8192x128, .f32⟩
  | .hbm, ⟨90, _⟩ => ⟨S1x128, .f32⟩
  | .hbm, ⟨91, _⟩ => ⟨S8192x128, .f32⟩
  | .hbm, ⟨92, _⟩ => ⟨S8192x128, .f32⟩
  | .hbm, ⟨93, _⟩ => ⟨S1x128, .f32⟩
  | .hbm, ⟨94, _⟩ => ⟨S8192x128, .f32⟩
  | .hbm, ⟨95, _⟩ => ⟨S8192x128, .f32⟩
  | .hbm, ⟨96, _⟩ => ⟨S8192x128, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Proof.FfnKernel.lean ====
/- What one grid point of the feed-forward kernel leaves in its output block and in its carried block, as values. -/
module

public import proofs.«01_k».proof.Proof.Gen.FfnIdeal.Value
public import Idealize.ShloMosaic.Lib.Pointwise
public import Idealize.ShloMosaic.Lib.Tactic

@[expose] public section

set_option maxRecDepth 16384

noncomputable section

namespace Cert.FfnIdeal.Steps

open Cert.FfnIdeal Cert.FfnIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl

section
variable (c : Dev nD) (i : grid0.Coords) (a2 : Memref sig .tc .vmem S1024x2048 .f32) (h2 : a2.IsWhole)
  (a3 : Memref sig .tc .vmem S2048x256 .f32) (h3 : a3.IsWhole) (a4 : Memref sig .tc .vmem S2048x256 .f32) (h4 : a4.IsWhole)
  (a5 : Memref sig .tc .vmem S256x2048 .f32) (h5 : a5.IsWhole) (a6 : Memref sig .tc .vmem S1x2048 .f32) (h6 : a6.IsWhole)
  (a7 : Memref sig .tc .vmem S1x2048 .f32) (h7 : a7.IsWhole) (a8 : Memref sig .tc .vmem S1024x2048 .f32) (h8 : a8.IsWhole)
  (a9 : Memref sig .tc .vmem S1024x2048 .bf16) (h9 : a9.IsWhole)
  (x0 : Vec F S1024x2048 .f32) (x1 x2 : Vec F S2048x256 .f32) (x3 : Vec F S256x2048 .f32) (x4 x5 : Vec F S1x2048 .f32)
  (o : Vec F S1024x2048 .f32) (s : Vec F S1024x2048 .bf16)

/-- At the first block of a row tile the carried block becomes the input tile. -/
theorem carried_first (hc0 : cond0_0 i) (hc1 : ¬cond0_1 i) :
    sout0_A_0 c i a2 h2 a3 h3 a4 h4 a5 h5 a6 h6 a7 h7 a8 h8 a9 h9 hc0 hc1 x0 x1 x2 x3 x4 x5 = k0_pay1 x0 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_unit_zero (S := S1024x2048) zeros2]
  simp only [View.readAt_eq_ld, h2.read_unread, View.ld_unit_zero (S := S1024x2048) zeros2]

/-- At the first block of a row tile the output block is the block's product added to zeros. -/
theorem out_first (hc0 : cond0_0 i) (hc1 : ¬cond0_1 i) :
    out0_A_6 c i a2 h2 a3 h3 a4 h4 a5 h5 a6 h6 a7 h7 a8 h8 a9 h9 hc0 hc1 x0 x1 x2 x3 x4 x5
      = k0_pay3 (k0_pay1 x0) x1 x2 k0_pay2 x3 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x2048) zeros2]
  simp only [View.readCov_unit_zero (S := S1024x2048) _ zeros2, View.readAt_eq_ld, h2.read_unread, h3.read_unread, h4.read_unread,
    h5.read_unread, View.ld_unit_zero (S := S1024x2048) zeros2, View.ld_unit_zero (S := S2048x256) zeros2,
    View.ld_unit_zero (S := S256x2048) zeros2]

/-- At a block in the middle the output block grows by the block's product. -/
theorem out_middle (hc0 : ¬cond0_0 i) (hc1 : ¬cond0_1 i) :
    out0_B_6 c i a2 h2 a3 h3 a4 h4 a5 h5 a6 h6 a7 h7 a8 h8 a9 h9 hc0 hc1 x0 x1 x2 x3 x4 x5 o s
      = k0_pay3 s x1 x2 o x3 := by
  unfold out0_B_6
  rw [View.read_writes_eq_canon _ _ _ (cover0_B_6 c i a2 h2 a3 h3 a4 h4 a5 h5 a6 h6 a7 h7 a8 h8 a9 h9 hc0 hc1 x0 x1 x2 x3 x4 x5 o s)]
  unfold kernelRun0_B
  dsimp only
  sl_unfold_words
  rw [View.canon_unit_zero (S := S1024x2048) zeros2]
  simp only [View.readAt_eq_ld, h8.read_unread, h9.read_unread, h3.read_unread, h4.read_unread,
    h5.read_unread, View.ld_unit_zero (S := S1024x2048) zeros2, View.ld_unit_zero (S := S2048x256) zeros2,
    View.ld_unit_zero (S := S256x2048) zeros2]

/-- At the last block the grown output block is normalised. -/
theorem out_last (hc0 : ¬cond0_0 i) (hc1 : cond0_1 i) :
    out0_C_6 c i a2 h2 a3 h3 a4 h4 a5 h5 a6 h6 a7 h7 a8 h8 a9 h9 hc0 hc1 x0 x1 x2 x3 x4 x5 o s
      = k0_pay4 x0 (k0_pay3 s x1 x2 o x3) x4 x5 := by
  unfold out0_C_6
  rw [View.read_writes_eq_canon _ _ _ (cover0_C_6 c i a2 h2 a3 h3 a4 h4 a5 h5 a6 h6 a7 h7 a8 h8 a9 h9 hc0 hc1 x0 x1 x2 x3 x4 x5 o s)]
  unfold kernelRun0_C
  dsimp only
  sl_unfold_words
  rw [View.canon_cons_unit_zero (S := S1024x2048) zeros2]
  simp only [View.readCov_unit_zero (S := S1024x2048) _ zeros2, View.readAt_eq_ld, h2.read_unread, h8.read_unread, h9.read_unread, h3.read_unread, h4.read_unread,
    h5.read_unread, h6.read_unread, h7.read_unread, View.ld_unit_zero (S := S1024x2048) zeros2, View.ld_unit_zero (S := S2048x256) zeros2,
    View.ld_unit_zero (S := S256x2048) zeros2, View.ld_unit_zero (S := S1x2048) zeros2]
end

end Cert.FfnIdeal.Steps

end
-- ==== Proof.FfnValue.lean ====
/- The feed-forward kernel's result array at the ideal instance: every row is the layer norm of a weighted sum of the
   input row and its gated feed-forward product, the product summed block by block over the hidden features. -/
module

public import proofs.«01_k».proof.Proof.FfnKernel
public import Idealize.ShloMosaic.Lib.Pipeline.ValueKit

@[expose] public section

set_option maxRecDepth 16384

noncomputable section

namespace Cert.FfnIdeal.Steps

open Cert.FfnIdeal Cert.FfnIdeal.Gen Idealize.ShloMosaic Idealize.ShloMosaic.TcCoe Idealize.SL.Sem

/-- One hidden feature of one row: the gate's product times its logistic function, times the up projection's product. -/
def gated (x a b : Fin 2048 → EReal) : EReal :=
  (∑ k, x k * a k) * Ideal.div 1 (1 + Ideal.exp (-∑ k, x k * a k)) * ∑ k, x k * b k

/-- The row before normalisation: the first weight times the input row plus half of the feed-forward row. -/
def mixed (x y : Fin 2048 → EReal) (j : Fin 2048) : EReal :=
  Ideal.ofBits .f32 1066940400#32 * x j + Ideal.ofBits .f32 1056964608#32 * y j

/-- The mean of a row of 2048 numbers. -/
def mean (y : Fin 2048 → EReal) : EReal := Ideal.div (∑ k, y k) (Ideal.ofBits .f32 1157627904#32)

/-- The layer norm of a row at one place, with gain `g` and bias `b`. -/
def layerNorm (y : Fin 2048 → EReal) (g b : EReal) (j : Fin 2048) : EReal :=
  (y j - mean y) * Ideal.rsqrt (mean (fun k => (y k - mean y) * (y k - mean y)) + Ideal.ofBits .f32 897988541#32) * g + b

/-- The accumulating payload at an index: what was there plus the block's share of the down projection. -/
theorem grow_apply (a : Vec Ideal S1024x2048 .bf16) (b d : Vec Ideal S2048x256 .f32) (o : Vec Ideal S1024x2048 .f32)
    (e : Vec Ideal S256x2048 .f32) (r : Fin 1024) (j : Fin 2048) :
    (k0_pay3 a b d o e (ix2 r j) : EReal) = o (ix2 r j)
      + ∑ f : Fin 256, gated (fun k => a (ix2 r k)) (fun k => b (ix2 k f)) (fun k => d (ix2 k f)) * e (ix2 f j) := by
  unfold_payloads
  pointwise
  simp only [gated, zero_sub]

/-- The closing payload at an index: the layer norm of the mixed row. -/
theorem close_apply (a o : Vec Ideal S1024x2048 .f32) (g b : Vec Ideal S1x2048 .f32) (r : Fin 1024) (j : Fin 2048) :
    (k0_pay4 a o g b (ix2 r j) : EReal)
      = layerNorm (mixed (fun k => a (ix2 r k)) (fun k => o (ix2 r k))) (g (ix2 0 j)) (b (ix2 0 j)) j := by
  unfold_payloads
  pointwise
  simp only [layerNorm, mean, mixed]

/-- The carried payload is its block. -/
theorem carry_apply (a : Vec Ideal S1024x2048 .f32) (r : Fin 1024) (k : Fin 2048) :
    (k0_pay1 a (ix2 r k) : EReal) = a (ix2 r k) := by
  unfold_payloads
  pointwise

/-- The starting payload is zero. -/
theorem start_apply (r : Fin 1024) (j : Fin 2048) : (k0_pay2 (F := Ideal) (ix2 r j) : EReal) = 0 := by
  unfold_payloads
  pointwise

variable (m : (ℓ : Loc nD τ sig) → Buf (Elt Ideal) ℓ) (c : Dev nD)

/-- The printed index maps over all grid points. -/
theorem idx : ∀ t : Fin cfg0.N, win0_0.index t = ![t.val / 22, 0] ∧ win0_1.index t = ![0, t.val % 22]
    ∧ win0_2.index t = ![0, t.val % 22] ∧ win0_3.index t = ![t.val % 22, 0] ∧ win0_4.index t = ![0, 0]
    ∧ win0_5.index t = ![0, 0] :=
  (by decide +kernel : ∀ t : Fin grid0.N, _)

/-- The layer input, the gate, up and down weights, the gain and the bias as launched. -/
abbrev inH : Vec Ideal S2x4096x2048 .f32 := m ((c : Thread nD τ).loc main_arg0)
abbrev inG : Vec Ideal S2048x5632 .f32 := m ((c : Thread nD τ).loc main_arg1)
abbrev inU : Vec Ideal S2048x5632 .f32 := m ((c : Thread nD τ).loc main_arg2)
abbrev inD : Vec Ideal S5632x2048 .f32 := m ((c : Thread nD τ).loc main_arg3)
abbrev inGain : Vec Ideal S2048 .f32 := m ((c : Thread nD τ).loc main_arg4)
abbrev inBias : Vec Ideal S2048 .f32 := m ((c : Thread nD τ).loc main_arg5)

/-- Row `r` of the input, rows numbered over both sequences. -/
def hrow (r : Fin 8192) (k : Fin 2048) : EReal :=
  inH m c (ix3 ⟨r.val / 4096, by omega⟩ ⟨r.val % 4096, by omega⟩ k)

theorem row_lt (t : Fin cfg0.N) (r : Fin 1024) : t.val / 22 * 1024 + r.val < 8192 := by
  have := lt_of_lt_of_eq t.isLt (show cfg0.N = 176 from N_0); omega

theorem feat_lt (t : Fin cfg0.N) (f : Fin 256) : t.val % 22 * 256 + f.val < 5632 := by omega

theorem blk_h (t : Fin cfg0.N) (r : Fin 1024) (k : Fin 2048) :
    (iblk m c 0 t (ix2 r k) : EReal) = hrow m c ⟨t.val / 22 * 1024 + r.val, row_lt t r⟩ k := by
  unfold hrow
  blk_ext! [iblk, idx t]

theorem blk_g (t : Fin cfg0.N) (k : Fin 2048) (f : Fin 256) :
    (iblk m c 1 t (ix2 k f) : EReal) = inG m c (ix2 k ⟨t.val % 22 * 256 + f.val, feat_lt t f⟩) := by
  blk_ext [iblk, V, idx t]

theorem blk_u (t : Fin cfg0.N) (k : Fin 2048) (f : Fin 256) :
    (iblk m c 2 t (ix2 k f) : EReal) = inU m c (ix2 k ⟨t.val % 22 * 256 + f.val, feat_lt t f⟩) := by
  blk_ext [iblk, V, idx t]

theorem blk_d (t : Fin cfg0.N) (f : Fin 256) (j : Fin 2048) :
    (iblk m c 3 t (ix2 f j) : EReal) = inD m c (ix2 ⟨t.val % 22 * 256 + f.val, feat_lt t f⟩ j) := by
  blk_ext [iblk, V, idx t]

theorem blk_gain (t : Fin cfg0.N) (j : Fin 2048) : (iblk m c 4 t (ix2 0 j) : EReal) = inGain m c (ix1 j) := by
  blk_ext! [iblk, idx t]

theorem blk_bias (t : Fin cfg0.N) (j : Fin 2048) : (iblk m c 5 t (ix2 0 j) : EReal) = inBias m c (ix1 j) := by
  blk_ext! [iblk, idx t]

/-- What grid point `t` adds to its output block at an index. -/
def addend (t : Fin cfg0.N) (r : Fin 1024) (j : Fin 2048) : EReal :=
  ∑ f : Fin 256, gated (hrow m c ⟨t.val / 22 * 1024 + r.val, row_lt t r⟩)
      (fun k => inG m c (ix2 k ⟨t.val % 22 * 256 + f.val, feat_lt t f⟩))
      (fun k => inU m c (ix2 k ⟨t.val % 22 * 256 + f.val, feat_lt t f⟩))
    * inD m c (ix2 ⟨t.val % 22 * 256 + f.val, feat_lt t f⟩ j)

/-- The accumulating payload at point `t`, over a carried block that holds the tile's rows. -/
theorem grow_at (t : Fin cfg0.N) (s : Vec Ideal S1024x2048 .bf16) (o : Vec Ideal S1024x2048 .f32) (r : Fin 1024) (j : Fin 2048)
    (hs : ∀ k, (s (ix2 r k) : EReal) = hrow m c ⟨t.val / 22 * 1024 + r.val, row_lt t r⟩ k) :
    (k0_pay3 s (iblk m c 1 t) (iblk m c 2 t) o (iblk m c 3 t) (ix2 r j) : EReal) = o (ix2 r j) + addend m c t r j := by
  rw [grow_apply]
  unfold addend
  simp only [hs, blk_g, blk_u, blk_d]

/-- The point numbered `n`, if there is one; past the grid, the last (never read). -/
def pt (n : ℕ) : Fin cfg0.N := ⟨min n 175, lt_of_lt_of_eq (by omega) N_0.symm⟩

theorem pt_eq (n : ℕ) (h : n < cfg0.N) : pt n = ⟨n, h⟩ :=
  Fin.ext (by have := lt_of_lt_of_eq h (show cfg0.N = 176 from N_0); show min n 175 = n; omega)

/-- After block `s` of row tile `q`, before the last: the output block is the sum of the blocks' shares so far, and the
    carried block is the tile. -/
theorem after_block (q : ℕ) : ∀ (s : ℕ) (hs : s ≤ 20) (h : 22 * q + s < cfg0.N) (r : Fin 1024) (j : Fin 2048),
    (((outsAt0 m c (22 * q + s) h).1 (ix2 r j) : EReal) = ∑ n ∈ Finset.range (s + 1), addend m c (pt (22 * q + n)) r j)
    ∧ ((outsAt0 m c (22 * q + s) h).2 (ix2 r j) : EReal) = hrow m c ⟨q * 1024 + r.val, by
        have := lt_of_lt_of_eq h (show cfg0.N = 176 from N_0); omega⟩ j
  | 0, _, h, r, j => by
    have hN := lt_of_lt_of_eq h (show cfg0.N = 176 from N_0)
    have hq : (22 * q + 0) / 22 = q := by omega
    have hc : ∀ k, (k0_pay1 (iblk m c 0 ⟨22 * q + 0, h⟩) (ix2 r k) : EReal) = hrow m c ⟨(22 * q + 0) / 22 * 1024 + r.val, by omega⟩ k :=
      fun k => (carry_apply _ r k).trans (blk_h m c ⟨22 * q + 0, h⟩ r k)
    rw [outsAt0_A m c ⟨22 * q + 0, h⟩ (by show (22 * q + 0) % 22 = 0; omega) (by show ¬(22 * q + 0) % 22 = 21; omega)]
    constructor
    · dsimp only
      rw [out_first, grow_at m c ⟨22 * q + 0, h⟩ _ _ r j hc, start_apply, zero_add, Finset.sum_range_one, pt_eq _ h]
    · dsimp only
      rw [carried_first, hc]
      simp only [hq]
  | s + 1, hs, h, r, j => by
    have hN := lt_of_lt_of_eq h (show cfg0.N = 176 from N_0)
    have hq : (22 * q + (s + 1)) / 22 = q := by omega
    have ih := fun k => after_block q s (by omega) (by omega) r k
    rw [outsAt0_B m c ⟨22 * q + (s + 1), h⟩ (by show ¬(22 * q + (s + 1)) % 22 = 0; omega)
      (by show ¬(22 * q + (s + 1)) % 22 = 21; omega)]
    constructor
    · dsimp only
      rw [out_middle, grow_at m c ⟨22 * q + (s + 1), h⟩ _ _ r j (fun k => ?_), Finset.sum_range_succ, pt_eq _ h]
      · exact congrArg (· + _) (ih j).1
      · refine ((ih k).2).trans ?_
        simp only [hq]
    · exact (ih j).2

/-- The feed-forward row `r` at place `j`: the gated features against the down projection. -/
def ffnRow (r : Fin 8192) (j : Fin 2048) : EReal :=
  ∑ f : Fin 5632, gated (hrow m c r) (fun k => inG m c (ix2 k f)) (fun k => inU m c (ix2 k f)) * inD m c (ix2 f j)

/-- The 22 blocks' shares together are the whole feed-forward row. -/
theorem sum_addend (q : ℕ) (hq : q < 8) (r : Fin 1024) (j : Fin 2048) :
    ∑ n ∈ Finset.range 22, addend m c (pt (22 * q + n)) r j = ffnRow m c ⟨q * 1024 + r.val, by omega⟩ j := by
  rw [← Fin.sum_univ_eq_sum_range (fun n => addend m c (pt (22 * q + n)) r j) 22]
  unfold addend ffnRow
  refine Fin.sum_mul_add_congr fun s k hl => ?_
  have e : pt (22 * q + s.val) = ⟨22 * q + s.val, lt_of_lt_of_eq (by omega) N_0.symm⟩ := pt_eq _ _
  have e1 : (22 * q + s.val) / 22 = q := by omega
  have e2 : (22 * q + s.val) % 22 = s.val := by omega
  simp only [e, e1, e2]

/-- THE RESULT ROW: the layer norm of the mixed row. -/
def result (r : Fin 8192) (j : Fin 2048) : EReal :=
  layerNorm (mixed (hrow m c r) (ffnRow m c r)) (inGain m c (ix1 j)) (inBias m c (ix1 j)) j

/-- After the last block of row tile `q` the output block holds the tile's result rows. -/
theorem after_last (q : ℕ) (h : 22 * q + 21 < cfg0.N) (r : Fin 1024) (j : Fin 2048) :
    ((outsAt0 m c (22 * q + 21) h).1 (ix2 r j) : EReal) = result m c ⟨q * 1024 + r.val, by
      have := lt_of_lt_of_eq h (show cfg0.N = 176 from N_0); omega⟩ j := by
  have hN := lt_of_lt_of_eq h (show cfg0.N = 176 from N_0)
  have hq : (22 * q + 21) / 22 = q := by omega
  have ih := fun k => after_block m c q 20 le_rfl (by omega) r k
  have grown : ∀ k, (k0_pay3 (outsAt0 m c (22 * q + 20) (by omega)).2 (iblk m c 1 ⟨22 * q + 21, h⟩) (iblk m c 2 ⟨22 * q + 21, h⟩)
      (outsAt0 m c (22 * q + 20) (by omega)).1 (iblk m c 3 ⟨22 * q + 21, h⟩) (ix2 r k) : EReal)
      = ffnRow m c ⟨q * 1024 + r.val, by omega⟩ k := fun k => by
    rw [grow_at m c ⟨22 * q + 21, h⟩ _ _ r k (fun k => ?_), (ih k).1, ← pt_eq _ h,
      ← Finset.sum_range_succ (fun n => addend m c (pt (22 * q + n)) r k), sum_addend m c q (by omega)]
    refine ((ih k).2).trans ?_
    simp only [hq]
  rw [outsAt0_C m c ⟨22 * q + 21, h⟩ (by show ¬(22 * q + 21) % 22 = 0; omega) (by show (22 * q + 21) % 22 = 21; omega)]
  dsimp only
  rw [out_last, close_apply]
  unfold result
  rw [blk_gain, blk_bias]
  refine congrArg (fun y => layerNorm y _ _ j) ?_
  refine congrArg₂ mixed (funext fun k => ?_) (funext fun k => grown k)
  rw [blk_h]
  simp only [hq]

/-- THE RESULT ARRAY: every row is the result row. -/
theorem result_array (i : S8192x2048.Idx) : (Cert.FfnIdeal.Value.G6 m c i : EReal) = result m c (i 0) (i 1) := by
  obtain ⟨r, j, rfl⟩ : ∃ r j, i = ix2 r j := ⟨i 0, i 1, eq_ix2 i⟩
  have hN := N_0
  have hr := r.isLt
  have hj := j.isLt
  unfold Cert.FfnIdeal.Value.G6
  have hp : Cert.FfnIdeal.Value.pt6Of (ix2 r j) = 22 * (r.val / 1024) + 21 := by
    show 22 * (1 * (r.val / 1024 - 0) + 1 * (j.val / 2048 - 0)) + 21 = _
    omega
  have hlt : 22 * (r.val / 1024) + 21 < cfg0.N := lt_of_lt_of_eq (by omega) hN.symm
  have hl : Cert.FfnIdeal.Value.loc6Of (ix2 r j) = ix2 ⟨r.val % 1024, by omega⟩ j := by
    funext a; apply Fin.ext
    match a with
    | ⟨0, _⟩ => rfl
    | ⟨1, _⟩ => show j.val % 2048 = j.val; omega
  rw [dif_pos (by rw [hp]; exact hlt), hl, Cert.FfnIdeal.Value.fold0_congr m c _ _ _ (by omega) hp,
    ← Cert.FfnIdeal.Value.outsAt0_sweep m c _ hlt, after_last]
  show result m c _ j = result m c r j
  congr 1
  apply Fin.ext
  show r.val / 1024 * 1024 + r.val % 1024 = r.val
  omega

end Cert.FfnIdeal.Steps

end
-- ==== Proof.FfnTie.lean ====
/- The feed-forward kernel against its reference: both results are the same row, at every row and place. -/
module

public import proofs.«01_k».proof.Proof.FfnValue
public import proofs.«01_k».proof.Proof.Gen.FfnReferenceIdeal.Read
public import Idealize.ShloMosaic.Lib.Pointwise

@[expose] public section

set_option maxRecDepth 16384

noncomputable section

namespace Cert.FfnIdeal.Tie

open Idealize.ShloMosaic Idealize.ShloMosaic.TcCoe Idealize.SL.Sem Cert.FfnIdeal.Steps Cert.FfnReferenceIdeal.Read

/-- The reference's result at row `r`, place `j`, over its six arguments: the layer norm of the mixed row. -/
theorem reference_apply (x0 : Vec Ideal Cert.FfnReferenceIdeal.S2x4096x2048 .f32) (x1 x2 : Vec Ideal Cert.FfnReferenceIdeal.S2048x5632 .f32)
    (x3 : Vec Ideal Cert.FfnReferenceIdeal.S5632x2048 .f32) (x4 x5 : Vec Ideal Cert.FfnReferenceIdeal.S2048 .f32) (r : Fin 8192) (j : Fin 2048) :
    (val_main_v32 (F := Ideal) x0 x1 x2 x3 x4 x5 (ix2 r j) : EReal)
      = layerNorm (mixed (fun k => x0 (ix3 ⟨r.val / 4096, by omega⟩ ⟨r.val % 4096, by omega⟩ k))
          (fun i => ∑ f : Fin 5632, gated (fun k => x0 (ix3 ⟨r.val / 4096, by omega⟩ ⟨r.val % 4096, by omega⟩ k))
            (fun k => x1 (ix2 k f)) (fun k => x2 (ix2 k f)) * x3 (ix2 f i))) (x4 (ix1 j)) (x5 (ix1 j)) j := by
  pointwise [val_main_v32, val_main_v31, val_main_v30, val_main_v29, val_main_v28, val_main_v27, val_main_v26,
    val_main_v25, val_main_v24, val_main_v23, val_main_v22, val_main_v21, val_main_cst_5, val_main_v20,
    val_main_v19, val_main_cst_4, val_main_v18, val_main_v17, val_main_cst_3, val_main_v16, val_main_v15,
    val_main_v14, val_main_v13, val_main_v12, val_main_cst_2, val_main_v11, val_main_v10, val_main_cst_1,
    val_main_v9, val_main_v8, val_main_v7, val_main_cst_0, val_main_v6, val_main_v5, val_main_v4, val_main_v3,
    val_main_call0_v5, val_main_call0_v4, val_main_call0_cst_0, val_main_call0_v3, val_main_call0_v2,
    val_main_call0_cst, val_main_call0_v1, val_main_call0_v0, val_main_v2, val_main_v1, val_main_v0, val_main_cst]
  simp only [layerNorm, mean, mixed, gated]

/-- The two result arrays are one, for arguments that agree. -/
theorem results_agree (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ)
    (c : Dev Cert.FfnIdeal.nD) (i : Cert.FfnIdeal.S8192x2048.Idx) :
    (val_main_v32 (F := Ideal) (inH m c) (inG m c) (inU m c) (inD m c) (inGain m c) (inBias m c) i : EReal)
      = Cert.FfnIdeal.Value.G6 m c i := by
  obtain ⟨r, j, rfl⟩ : ∃ r j, i = ix2 r j := ⟨i 0, i 1, eq_ix2 i⟩
  rw [result_array, reference_apply]
  rfl

end Cert.FfnIdeal.Tie

end
-- ==== Proof.GdnUnit.lean ====
/- One head's chunk of the gated delta rule, as the kernel computes it: the functions that every head's stored blocks are. -/
module

public import proofs.«01_k».proof.Proof.Gen.KernelIdeal.Value
public import Idealize.ShloMosaic.Lib.Pointwise
public import Idealize.ShloMosaic.Lib.Tactic

@[expose] public section

set_option maxRecDepth 16384

noncomputable section

namespace Cert.KernelIdeal.Unit

open Cert.KernelIdeal Cert.KernelIdeal.Gen Idealize.ShloMosaic Idealize.ShloMosaic.TcCoe Idealize.SL.Sem

variable {F : FTy → Type} [FloatOps F]

/-- The row numbers of a chunk. -/
def rowNo : IVec S128x128 32 := iota .tc S128x128 32 [0] iota_S128x128_d0_w32
/-- The column numbers of a chunk. -/
def colNo : IVec S128x128 32 := iota .tc S128x128 32 [1] iota_S128x128_d1_w32
/-- The word constant as a vector. -/
def fill (w : BitVec 32) : Vec F S128x128 .f32 := broadcast S128x128 (Scalar.ofBits .f32 w)
/-- Whether row and column lie in the same block of `2^w` tokens. -/
def sameBlock (w : BitVec 32) : IVec S128x128 1 :=
  cmpi .eq (shrsi rowNo (broadcast S128x128 w)) (shrsi colNo (broadcast S128x128 w))
/-- The matrix product. -/
def prod (a b : Vec F S128x128 .f32) : Vec F S128x128 .f32 :=
  matmul dot_S128x128_S128x128_S128x128_1_0_0_1_n_n none (truncf .bf16 a bitsLt_bf16_f32) (truncf .bf16 b bitsLt_bf16_f32)
    (constant S128x128 .f32 0x00000000#32)
/-- The product with the second factor transposed. -/
def prodT (a b : Vec F S128x128 .f32) : Vec F S128x128 .f32 :=
  matmul dot_S128x128_S128x128_S128x128_1_1_0_0_n_n none (truncf .bf16 a bitsLt_bf16_f32) (truncf .bf16 b bitsLt_bf16_f32)
    (constant S128x128 .f32 0x00000000#32)
/-- A column spread over the lanes. -/
def spread (x : Vec F S128x1 .f32) : Vec F S128x128 .f32 := broadcastTo S128x128 x broadcasts_S128x1_S128x128

/-- The decay between two tokens of the chunk, zero above the diagonal. -/
def decay (a : Vec F S128x1 .f32) (r : Vec F S1x128 .f32) : Vec F S128x128 .f32 :=
  exp (select (cmpi .sge rowNo colNo) (subf (spread a) (broadcastTo S128x128 r broadcasts_S1x128_S128x128)) (fill 0xFF800000#32))
/-- The strictly lower triangular matrix of the chunk's linear system. -/
def system (kb k dec : Vec F S128x128 .f32) : Vec F S128x128 .f32 :=
  select (cmpi .sgt rowNo colNo) (mulf (prodT kb k) dec) (fill 0x00000000#32)
/-- The identity matrix. -/
def eye : Vec F S128x128 .f32 := select (cmpi .eq rowNo colNo) (fill 0x3F800000#32) (fill 0x00000000#32)
/-- The part of the matrix inside blocks of sixteen tokens. -/
def inner (A : Vec F S128x128 .f32) : Vec F S128x128 .f32 := select (sameBlock 4#32) A (fill 0x00000000#32)
/-- The inverse of one plus the inner part, by repeated squaring. -/
def start (d : Vec F S128x128 .f32) : Vec F S128x128 .f32 :=
  let d2 := prod d d
  let d4 := prod d2 d2
  let d8 := prod d4 d4
  let x0 := subf eye d
  let x1 := addf x0 (prod x0 d2)
  let x2 := addf x1 (prod x1 d4)
  addf x2 (prod x2 d8)
/-- The part of the matrix inside blocks of `2^hi` tokens and outside blocks of `2^lo` tokens. -/
def ring (hi lo : BitVec 32) (A : Vec F S128x128 .f32) : Vec F S128x128 .f32 :=
  select (sameBlock lo) (fill 0x00000000#32) (select (sameBlock hi) A (fill 0x00000000#32))
/-- One doubling of the block size of the inverse. -/
def double (hi lo : BitVec 32) (A x : Vec F S128x128 .f32) : Vec F S128x128 .f32 := subf x (prod x (prod (ring hi lo A) x))
/-- The inverse of one plus the matrix. -/
def inverse (A : Vec F S128x128 .f32) : Vec F S128x128 .f32 :=
  double 7#32 6#32 A (double 6#32 5#32 A (double 5#32 4#32 A (start (inner A))))
/-- The two right-hand sides, side by side, under the inverse. -/
def solved (t u w : Vec F S128x128 .f32) : Vec F S128x256 .f32 :=
  matmul dot_S128x128_S128x256_S128x256_1_0_0_1_n_n none (truncf .bf16 t bitsLt_bf16_f32)
    (truncf .bf16 (concatenate S128x256 1 [⟨S128x128, u⟩, ⟨S128x128, w⟩] concatenates_S128x128_S128x128_S128x256_d1 : Vec F S128x256 .f32) bitsLt_bf16_f32)
    (constant S128x256 .f32 0x00000000#32)
/-- The chunk's updates: the first solution less the second one applied to the state. -/
def updates (sol : Vec F S128x256 .f32) (s : Vec F S128x128 .f32) : Vec F S128x128 .f32 :=
  subf (extractStridedSlice S128x128 ![0, 0] sol slices_S128x256_o0_0_S128x128)
    (prod (extractStridedSlice S128x128 ![0, 128] sol slices_S128x256_o0_128_S128x128) s)

section
variable (q k v z s gc gr : Vec F S128x128 .f32) (ng : Vec F S1x128 .f32) (la lb : Nat)
  (ha : S128x128.Slices ![0, la] S128x1) (hb : S128x128.Slices ![0, lb] S128x1) (hr : S128x128.Slices ![la, 0] S1x128)
  (hl : S128x1.Slices ![la, 0] S1x1)

/-- One head's decay. -/
def headDecay : Vec F S128x128 .f32 := decay (extractStridedSlice S128x1 ![0, la] gc ha) (extractStridedSlice S1x128 ![la, 0] gr hr)
/-- One head's keys under their rates. -/
def headRated : Vec F S128x128 .f32 := mulf k (spread (extractStridedSlice S128x1 ![0, lb] gc hb))
/-- One head's updates over the chunk. -/
def headUpdates : Vec F S128x128 .f32 :=
  updates (solved (inverse (system (headRated k gc lb hb) k (headDecay gc gr la ha hr)))
    (mulf v (spread (extractStridedSlice S128x1 ![0, lb] gc hb)))
    (mulf (headRated k gc lb hb) (spread (extractStridedSlice S128x1 ![0, la] (exp gc) ha)))) s
/-- The chunk's decay from each token to the chunk's end, all heads. -/
def toEnd : Vec F S128x128 .f32 :=
  exp (subf (broadcastTo S128x128 (extractStridedSlice S1x128 ![127, 0] gc slices_S128x128_o127_0_S1x128 : Vec F S1x128 .f32) broadcasts_S1x128_S128x128) gc)
/-- The chunk's whole decay, all heads. -/
def whole : Vec F S128x1 .f32 := exp (extractStridedSlice S128x1 ![0, 127] gr slices_S128x128_o0_127_S128x1)
/-- One head's state after the chunk. -/
def headState : Vec F S128x128 .f32 :=
  addf (mulf s (broadcastTo S128x128 (extractStridedSlice S1x1 ![la, 0] (whole gr) hl) broadcasts_S1x1_S128x128))
    (prod (transpose S128x128 [1, 0] (mulf k (spread (extractStridedSlice S128x1 ![0, la] (toEnd gc) ha))) transposes_S128x128_p1_0_S128x128)
      (headUpdates k v s gc gr la lb ha hb hr))
/-- One head's outputs over the chunk before the norm. -/
def headRead : Vec F S128x128 .f32 :=
  addf (prod (mulf q (spread (extractStridedSlice S128x1 ![0, la] (exp gc) ha))) s)
    (prod (mulf (prodT q k) (headDecay gc gr la ha hr)) (headUpdates k v s gc gr la lb ha hb hr))
/-- The norm over the lanes, the gain and the gate. -/
def finish (o : Vec F S128x128 .f32) (ng : Vec F S1x128 .f32) (z : Vec F S128x128 .f32) : Vec F S128x128 .bf16 :=
  truncf .bf16
    (mulf
      (mulf
        (mulf o (spread (rsqrt (addf
          (divf (shapeCast S128x1 (multiReduction .add [1] S128 (mulf o o) 0x00000000#32 reduces_S128x128_S128 (.inl rfl) rfl : Vec F S128 .f32) shapeCasts_S128_S128x1)
            (broadcast S128x1 (Scalar.ofBits .f32 0x43000000#32)))
          (broadcast S128x1 (Scalar.ofBits .f32 0x358637BD#32))))))
        (broadcastTo S128x128 (shapeCast S1x128 ng shapeCasts_S1x128_S1x128 : Vec F S1x128 .f32) broadcasts_S1x128_S128x128))
      (mulf z (divf (fill 0x3F800000#32) (addf (fill 0x3F800000#32) (exp (subf (fill 0x00000000#32) z))))))
    bitsLt_bf16_f32
/-- One head's stored outputs over the chunk. -/
def headOut : Vec F S128x128 .bf16 := finish (headRead q k v s gc gr la lb ha hb hr) ng z
end

/-- A loaded block as a matrix. -/
def mat (x : Vec F S1x128x128 .f32) : Vec F S128x128 .f32 := shapeCast S128x128 x shapeCasts_S1x128x128_S128x128

end Cert.KernelIdeal.Unit
end
-- ==== Proof.GdnReal.lean ====
/- The gated delta rule over the reals: a chunk's closed form with a blocked triangular inverse, and the token-by-token recurrence it equals. -/
module

public import Mathlib.Data.Matrix.Mul
public import Mathlib.LinearAlgebra.Matrix.NonsingularInverse
public import Mathlib.Analysis.SpecialFunctions.Exp
public import Mathlib.Tactic.NoncommRing
public import Mathlib.Tactic.Ring
public import Mathlib.Tactic.Abel

@[expose] public section

noncomputable section

namespace Cert.DeltaRule

open Real

/-- A chunk's matrices. -/
abbrev Mat := Matrix (Fin 128) (Fin 128) ℝ

/-! ## The blocked inverse of a unit lower triangular matrix -/

/-- Row and column in the same block of `2^w`. -/
abbrev Same (w : Nat) (i j : Fin 128) : Prop := i.val / 2 ^ w = j.val / 2 ^ w

/-- Zero outside the blocks of `2^w`. -/
def BlockDiag (w : Nat) (x : Mat) : Prop := ∀ i j, ¬Same w i j → x i j = 0

/-- Zero on and above the diagonal. -/
def StrictLower (x : Mat) : Prop := ∀ i j, i ≤ j → x i j = 0

/-- The part inside blocks of `2^w`. -/
def inner (w : Nat) (A : Mat) : Mat := fun i j => if Same w i j then A i j else 0

/-- The part inside blocks of `2^hi` and outside blocks of `2^lo`. -/
def ring (hi lo : Nat) (A : Mat) : Mat := fun i j => if Same lo i j then 0 else if Same hi i j then A i j else 0

/-- The inverse of one plus a matrix whose sixteenth power is zero. -/
def start (d : Mat) : Mat :=
  let d2 := d * d
  let d4 := d2 * d2
  let d8 := d4 * d4
  let x0 := 1 - d
  let x1 := x0 + x0 * d2
  let x2 := x1 + x1 * d4
  x2 + x2 * d8

/-- One doubling of the inverse's blocks. -/
def double (hi lo : Nat) (A x : Mat) : Mat := x - x * (ring hi lo A * x)

/-- The whole inverse. -/
def inverse (A : Mat) : Mat := double 7 6 A (double 6 5 A (double 5 4 A (start (inner 4 A))))

theorem BlockDiag.one (w : Nat) : BlockDiag w 1 := fun i j h => Matrix.one_apply_ne fun e => h (by rw [e])
theorem BlockDiag.add {w : Nat} {x y : Mat} (hx : BlockDiag w x) (hy : BlockDiag w y) : BlockDiag w (x + y) :=
  fun i j h => by rw [Matrix.add_apply, hx i j h, hy i j h, add_zero]
theorem BlockDiag.sub {w : Nat} {x y : Mat} (hx : BlockDiag w x) (hy : BlockDiag w y) : BlockDiag w (x - y) :=
  fun i j h => by rw [Matrix.sub_apply, hx i j h, hy i j h, sub_zero]
theorem BlockDiag.mul {w : Nat} {x y : Mat} (hx : BlockDiag w x) (hy : BlockDiag w y) : BlockDiag w (x * y) := fun i j h => by
  rw [Matrix.mul_apply]
  refine Finset.sum_eq_zero fun k _ => ?_
  by_cases hk : Same w i k
  · rw [hy k j fun e => h (hk.trans e), mul_zero]
  · rw [hx i k hk, zero_mul]
theorem BlockDiag.succ {w : Nat} {x : Mat} (hx : BlockDiag w x) : BlockDiag (w + 1) x := fun i j h =>
  hx i j fun e => h (by
    unfold Same at e ⊢
    rw [pow_succ, ← Nat.div_div_eq_div_mul, ← Nat.div_div_eq_div_mul, e])
theorem BlockDiag.inner (w : Nat) (A : Mat) : BlockDiag w (inner w A) := fun i j h => if_neg h
theorem BlockDiag.ring (hi lo : Nat) (A : Mat) : BlockDiag hi (ring hi lo A) := fun i j h => by
  unfold DeltaRule.ring
  split
  · rfl
  · rfl
theorem BlockDiag.start {w : Nat} {d : Mat} (h : BlockDiag w d) : BlockDiag w (start d) := by
  have h2 := h.mul h
  have h4 := h2.mul h2
  have h8 := h4.mul h4
  have x0 := (BlockDiag.one w).sub h
  have x1 := x0.add (x0.mul h2)
  have x2 := x1.add (x1.mul h4)
  exact x2.add (x2.mul h8)

/-- A power of a strictly lower triangular block keeps to the block and moves `n` below the diagonal. -/
theorem pow_apply_zero {d : Mat} (hl : StrictLower d) (hb : BlockDiag 4 d) :
    ∀ (n : Nat) (i j : Fin 128), ¬(Same 4 i j ∧ j.val + n ≤ i.val) → (d ^ n) i j = 0
  | 0, i, j, h => by
    rw [pow_zero]
    refine Matrix.one_apply_ne fun e => h ?_
    subst e
    exact ⟨rfl, le_refl _⟩
  | n + 1, i, j, h => by
    rw [pow_succ, Matrix.mul_apply]
    refine Finset.sum_eq_zero fun k _ => ?_
    by_cases hk : Same 4 i k ∧ k.val + n ≤ i.val
    · by_cases hk2 : Same 4 k j
      · by_cases hk3 : k ≤ j
        · rw [hl k j hk3, mul_zero]
        · exfalso
          refine h ⟨hk.1.trans hk2, ?_⟩
          have : j.val < k.val := not_le.mp hk3
          omega
      · rw [hb k j hk2, mul_zero]
    · rw [pow_apply_zero hl hb n i k hk, zero_mul]

/-- The sixteenth power of the inner part is zero. -/
theorem pow_sixteen {d : Mat} (hl : StrictLower d) (hb : BlockDiag 4 d) : d ^ 16 = 0 := by
  ext i j
  refine pow_apply_zero hl hb 16 i j fun h => ?_
  have h1 : i.val / 16 = j.val / 16 := h.1
  omega

/-- Repeated squaring inverts one plus the inner part. -/
theorem mul_start {d : Mat} (h : d ^ 16 = 0) : (1 + d) * start d = 1 := by
  have e : start d = (1 - d) * (1 + d ^ 2) * (1 + d ^ 4) * (1 + d ^ 8) := by
    unfold start
    simp only [mul_add, mul_one]
    rw [show d * d = d ^ 2 from (pow_two d).symm, show d ^ 2 * d ^ 2 = d ^ 4 from (pow_add d 2 2).symm,
      show d ^ 4 * d ^ 4 = d ^ 8 from (pow_add d 4 4).symm]
  have c : ∀ n : Nat, (1 - d ^ n) * (1 + d ^ n) = 1 - d ^ (n + n) := fun n => by
    rw [pow_add]
    noncomm_ring
  have e0 : (1 + d) * (1 - d) = 1 - d ^ 2 := by rw [pow_two]; noncomm_ring
  rw [e, ← mul_assoc, ← mul_assoc, ← mul_assoc, e0, c 2, c 4, c 8, h, sub_zero]

/-- The inner part of doubled blocks is the inner part and the ring around it. -/
theorem inner_succ (w : Nat) (A : Mat) : inner (w + 1) A = inner w A + ring (w + 1) w A := by
  ext i j
  rw [Matrix.add_apply]
  unfold inner ring
  by_cases h : Same w i j
  · have h' : Same (w + 1) i j := by
      unfold Same at h ⊢
      rw [pow_succ, ← Nat.div_div_eq_div_mul, ← Nat.div_div_eq_div_mul, h]
    rw [if_pos h', if_pos h, if_pos h, add_zero]
  · rw [if_neg h, if_neg h, zero_add]

/-- A ring entry of a strictly lower triangular matrix goes from an odd block to an even one. -/
theorem ring_ne {w : Nat} {A : Mat} (hl : StrictLower A) {i j : Fin 128} (h : ring (w + 1) w A i j ≠ 0) :
    i.val / 2 ^ w % 2 = 1 ∧ j.val / 2 ^ w % 2 = 0 := by
  unfold ring at h
  split at h
  · exact absurd rfl h
  next hs =>
    split at h
    next hb =>
      have hij : j < i := not_le.mp fun hle => h (hl i j hle)
      have hd : j.val / 2 ^ w ≤ i.val / 2 ^ w := Nat.div_le_div_right (le_of_lt hij)
      unfold Same at hs hb
      rw [pow_succ, ← Nat.div_div_eq_div_mul, ← Nat.div_div_eq_div_mul] at hb
      omega
    · exact absurd rfl h

/-- Two ring entries do not meet through a block-diagonal matrix. -/
theorem ring_mul_ring {w : Nat} {A x : Mat} (hl : StrictLower A) (hx : BlockDiag w x) : ring (w + 1) w A * x * ring (w + 1) w A = 0 := by
  ext i l
  rw [Matrix.mul_apply]
  refine Finset.sum_eq_zero fun k _ => ?_
  by_cases hk : ring (w + 1) w A k l = 0
  · rw [hk, mul_zero]
  · rw [Matrix.mul_apply, Finset.sum_eq_zero, zero_mul]
    intro j _
    by_cases hj : ring (w + 1) w A i j = 0
    · rw [hj, zero_mul]
    · rw [hx j k, mul_zero]
      intro e
      have h1 := (ring_ne hl hk).1
      have h2 := (ring_ne hl hj).2
      unfold Same at e
      omega

/-- One doubling turns the inverse at one block size into the inverse at the next. -/
theorem double_spec {w : Nat} {A x : Mat} (hl : StrictLower A) (hx : BlockDiag w x) (h : (1 + inner w A) * x = 1) :
    BlockDiag (w + 1) (double (w + 1) w A x) ∧ (1 + inner (w + 1) A) * double (w + 1) w A x = 1 := by
  refine ⟨hx.succ.sub (hx.succ.mul ((BlockDiag.ring _ _ A).mul hx.succ)), ?_⟩
  rw [inner_succ]
  unfold double
  have hq := ring_mul_ring (A := A) hl hx
  generalize ring (w + 1) w A = q at hq ⊢
  calc (1 + (inner w A + q)) * (x - x * (q * x))
      = (1 + inner w A) * x - ((1 + inner w A) * x) * (q * x) + q * x - (q * x * q) * x := by noncomm_ring
    _ = 1 := by rw [h, hq, one_mul, zero_mul]; abel

/-- The blocked inverse inverts one plus a strictly lower triangular matrix. -/
theorem mul_inverse {A : Mat} (hl : StrictLower A) : (1 + A) * inverse A = 1 := by
  have hb := BlockDiag.inner 4 A
  have hi : StrictLower (inner 4 A) := fun i j h => by
    unfold inner
    split
    · exact hl i j h
    · rfl
  have h4 := mul_start (pow_sixteen hi hb)
  have h5 := double_spec hl hb.start h4
  have h6 := double_spec hl h5.1 h5.2
  have h7 := double_spec hl h6.1 h6.2
  have e : inner 7 A = A := by
    ext i j
    unfold inner
    refine if_pos ?_
    unfold Same
    have := i.isLt
    have := j.isLt
    omega
  have h := h7.2
  rw [show (4 + 1 + 1 + 1 : Nat) = 7 from rfl, e] at h
  exact h

/-! ## A chunk's closed form -/

/-- The decay between two tokens. -/
def dec (G : Fin 128 → ℝ) : Mat := fun i j => if j ≤ i then exp (G i - G j) else 0
/-- The chunk's linear system. -/
def sys (K : Mat) (β G : Fin 128 → ℝ) : Mat := fun i j => if j < i then (∑ d, K i d * β i * K j d) * dec G i j else 0
/-- The values times their rates. -/
def rated (V : Mat) (β : Fin 128 → ℝ) : Mat := fun i b => V i b * β i
/-- The keys times their rates and decays. -/
def faded (K : Mat) (β G : Fin 128 → ℝ) : Mat := fun i d => K i d * β i * exp (G i)
/-- The chunk's updates. -/
def upd (K V S : Mat) (β G : Fin 128 → ℝ) : Mat := inverse (sys K β G) * rated V β - inverse (sys K β G) * faded K β G * S
/-- The state after the chunk. -/
def next (K V S : Mat) (β G : Fin 128 → ℝ) : Mat :=
  fun a b => S a b * exp (G 127) + ∑ j, K j a * exp (G 127 - G j) * upd K V S β G j b
/-- The chunk's outputs. -/
def read (Q K V S : Mat) (β G : Fin 128 → ℝ) : Mat :=
  fun i b => ∑ a, Q i a * exp (G i) * S a b + ∑ j, (∑ d, Q i d * K j d) * dec G i j * upd K V S β G j b

/-! ## The recurrence -/

/-- One token's step. -/
def step (g β : ℝ) (k v : Fin 128 → ℝ) (S : Mat) : Mat :=
  fun a b => S a b * exp g + k a * ((v b - ∑ d, k d * (S d b * exp g)) * β)

/-- The updates solve the chunk's linear system, row by row. -/
theorem upd_row (K V S : Mat) (β G : Fin 128 → ℝ) (i b : Fin 128) :
    upd K V S β G i b = (V i b - ∑ d, K i d * (S d b * exp (G i))) * β i - ∑ j, sys K β G i j * upd K V S β G j b := by
  have hl : StrictLower (sys K β G) := fun i j h => if_neg (not_lt.mpr h)
  have h : (1 + sys K β G) * upd K V S β G = rated V β - faded K β G * S := by
    unfold upd
    rw [mul_sub, ← mul_assoc, ← mul_assoc, ← mul_assoc, mul_inverse hl, one_mul, one_mul]
  have h' := congrFun (congrFun h i) b
  rw [add_mul, one_mul, Matrix.add_apply, Matrix.mul_apply, Matrix.sub_apply, Matrix.mul_apply] at h'
  have e : ∑ d, faded K β G i d * S d b = (∑ d, K i d * (S d b * exp (G i))) * β i := by
    rw [Finset.sum_mul]
    exact Finset.sum_congr rfl fun d _ => by simp only [faded]; ring
  rw [e, show rated V β i b = V i b * β i from rfl] at h'
  rw [sub_mul, ← h']
  ring

/-- The state after the chunk's first `n` tokens, by the recurrence. -/
def run (g β : Nat → ℝ) (k v : Nat → Fin 128 → ℝ) (S : Mat) : Nat → Mat
  | 0 => S
  | n + 1 => step (g n) (β n) (k n) (v n) (run g β k v S n)

section
variable (g β : Nat → ℝ) (k v q : Nat → Fin 128 → ℝ) (S : Mat)

/-- The log-decay summed over the first `n` tokens. -/
def cum (n : Nat) : ℝ := ∑ i ∈ Finset.range n, g i

/-- The chunk's keys. -/
def mat (k : Nat → Fin 128 → ℝ) : Mat := fun i d => k i.val d
/-- The chunk's rates. -/
def vec (β : Nat → ℝ) : Fin 128 → ℝ := fun i => β i.val
/-- The chunk's cumulative log-decays. -/
def cums : Fin 128 → ℝ := fun i => cum g (i.val + 1)

/-- The state after `n` tokens is the first state decayed and every update decayed since its token. -/
theorem run_eq : ∀ (n : Nat), n ≤ 128 → ∀ a b : Fin 128,
    run g β k v S n a b = S a b * exp (cum g n)
      + ∑ j : Fin 128, if j.val < n then k j.val a * exp (cum g n - cums g j) * upd (mat k) (mat v) S (vec β) (cums g) j b else 0
  | 0, _, a, b => by
    simp [run, cum]
  | n + 1, hn, a, b => by
    have hlt : n < 128 := hn
    have ih := run_eq n (le_of_lt hlt)
    have hc : cum g (n + 1) = cum g n + g n := Finset.sum_range_succ _ _
    set U := upd (mat k) (mat v) S (vec β) (cums g) with hU
    -- the decayed state
    have hD : ∀ a b, run g β k v S n a b * exp (g n) = S a b * exp (cum g (n + 1))
        + ∑ j : Fin 128, if j.val < n then k j.val a * exp (cum g (n + 1) - cums g j) * U j b else 0 := fun a b => by
      rw [ih a b, add_mul, Finset.sum_mul, hc, exp_add, mul_assoc]
      congr 1
      refine Finset.sum_congr rfl fun j _ => ?_
      split
      · rw [show cum g n + g n - cums g j = (cum g n - cums g j) + g n by ring, exp_add]
        ring
      · rw [zero_mul]
    -- the update of token n
    have hu : (v n b - ∑ d, k n d * (run g β k v S n d b * exp (g n))) * β n = U ⟨n, hlt⟩ b := by
      rw [hU, upd_row, ← hU]
      have e1 : ∑ d, k n d * (run g β k v S n d b * exp (g n))
          = ∑ d, k n d * (S d b * exp (cum g (n + 1)))
            + ∑ j : Fin 128, if j.val < n then (∑ d, k n d * k j.val d) * exp (cum g (n + 1) - cums g j) * U j b else 0 := by
        simp only [hD, mul_add, Finset.sum_add_distrib, Finset.mul_sum]
        congr 1
        rw [Finset.sum_comm]
        refine Finset.sum_congr rfl fun j _ => ?_
        split
        · rw [Finset.sum_mul, Finset.sum_mul]
          exact Finset.sum_congr rfl fun d _ => by ring
        · simp
      have e2 : ∑ j : Fin 128, sys (mat k) (vec β) (cums g) ⟨n, hlt⟩ j * U j b
          = (∑ j : Fin 128, if j.val < n then (∑ d, k n d * k j.val d) * exp (cum g (n + 1) - cums g j) * U j b else 0) * β n := by
        rw [Finset.sum_mul]
        refine Finset.sum_congr rfl fun j _ => ?_
        unfold sys dec
        by_cases h : j.val < n
        · have h1 : j < (⟨n, hlt⟩ : Fin 128) := h
          rw [if_pos h1, if_pos (le_of_lt h1), if_pos h]
          have e3 : ∑ d, mat k ⟨n, hlt⟩ d * vec β ⟨n, hlt⟩ * mat k j d = (∑ d, k n d * k j.val d) * β n := by
            rw [Finset.sum_mul]
            exact Finset.sum_congr rfl fun d _ => by simp only [mat, vec]; ring
          rw [e3]
          simp only [cums]
          ring
        · have h1 : ¬j < (⟨n, hlt⟩ : Fin 128) := h
          rw [if_neg h1, if_neg h, zero_mul, zero_mul]
      rw [e1, e2]
      simp only [mat, vec, cums]
      ring
    show step (g n) (β n) (k n) (v n) (run g β k v S n) a b = _
    unfold step
    rw [hu, hD a b, add_assoc]
    congr 1
    have e4 : ∀ j : Fin 128, (if j.val < n + 1 then k j.val a * exp (cum g (n + 1) - cums g j) * U j b else 0)
        = (if j.val < n then k j.val a * exp (cum g (n + 1) - cums g j) * U j b else 0) + if j = ⟨n, hlt⟩ then k n a * U ⟨n, hlt⟩ b else 0 := fun j => by
      by_cases h : j.val < n
      · rw [if_pos (by omega), if_pos h, if_neg (by intro e; rw [e] at h; exact absurd h (lt_irrefl n)), add_zero]
      · by_cases h2 : j.val = n
        · have h3 : j = ⟨n, hlt⟩ := Fin.ext h2
          subst h3
          simp [cums]
        · rw [if_neg (by omega), if_neg h, if_neg (by intro e; exact h2 (by rw [e])), add_zero]
    rw [Finset.sum_congr rfl fun j _ => e4 j, Finset.sum_add_distrib, Finset.sum_ite_eq' Finset.univ]
    simp

/-- The chunk's closed form is the state after its 128 tokens. -/
theorem next_eq : next (mat k) (mat v) S (vec β) (cums g) = run g β k v S 128 := by
  ext a b
  rw [run_eq g β k v S 128 le_rfl a b]
  unfold next
  congr 1

/-- The chunk's outputs are the queries applied to the state after each token. -/
theorem read_eq (i b : Fin 128) : read (mat q) (mat k) (mat v) S (vec β) (cums g) i b = ∑ a, q i.val a * run g β k v S (i.val + 1) a b := by
  unfold read
  simp only [run_eq g β k v S (i.val + 1) (by have := i.isLt; omega), mul_add, Finset.sum_add_distrib, Finset.mul_sum]
  congr 1
  · refine Finset.sum_congr rfl fun a _ => ?_
    simp only [mat, cums]
    ring
  · rw [Finset.sum_comm]
    refine Finset.sum_congr rfl fun j _ => ?_
    unfold dec
    by_cases h : j ≤ i
    · have h1 : j.val < i.val + 1 := Nat.lt_succ_of_le h
      simp only [if_pos h, if_pos h1, Finset.sum_mul]
      refine Finset.sum_congr rfl fun a _ => ?_
      simp only [mat, cums]
      ring
    · have h1 : ¬j.val < i.val + 1 := fun h2 => h (Nat.le_of_lt_succ h2)
      simp only [if_neg h, if_neg h1, mul_zero, zero_mul, Finset.sum_const_zero]

end

end Cert.DeltaRule
end
-- ==== Proof.GdnIdeal.lean ====
/- One head's chunk over real numbers: the kernel's functions on real matrices are the chunk's closed form. -/
module

public import proofs.«01_k».proof.Proof.GdnUnit
public import proofs.«01_k».proof.Proof.GdnReal

@[expose] public section

set_option maxRecDepth 16384

noncomputable section

namespace Cert.KernelIdeal.Unit

open Cert.KernelIdeal Cert.KernelIdeal.Gen Idealize.ShloMosaic Idealize.ShloMosaic.TcCoe Idealize.SL.Sem

/-- A real matrix as a vector. -/
def up (M : Cert.DeltaRule.Mat) : Vec Ideal S128x128 .f32 := fun i => ((M (i 0) (i 1) : ℝ) : EReal)

theorem up_apply (M : Cert.DeltaRule.Mat) (r j : Fin 128) : (up M (ix2 r j) : EReal) = ((M r j : ℝ) : EReal) := rfl

/-- A vector that reads a real matrix everywhere is it. -/
theorem eq_up {x : Vec Ideal S128x128 .f32} {M : Cert.DeltaRule.Mat} (h : ∀ r j, (x (ix2 r j) : EReal) = ((M r j : ℝ) : EReal)) : x = up M := by
  funext i
  obtain ⟨r, j, rfl⟩ : ∃ r j, i = ix2 r j := ⟨i 0, i 1, eq_ix2 i⟩
  exact h r j

/-- A sum of reals is the sum over the extended reals. -/
theorem coe_sum {n : Nat} (f : Fin n → ℝ) : ((∑ i, f i : ℝ) : EReal) = ∑ i, (f i : EReal) :=
  map_sum (⟨⟨Real.toEReal, rfl⟩, EReal.coe_add⟩ : ℝ →+ EReal) f Finset.univ

/-- A comparison of row and column numbers, `≥`. -/
theorem select_sge (r j : Fin 128) (x y : EReal) :
    (Scalar.select (IntOp.cmpi CmpIPredicate.sge (BitVec.ofNat 32 r.val) (BitVec.ofNat 32 j.val)) x y : EReal) = if j ≤ r then x else y := by
  have h : ∀ r j : Fin 128, IntOp.cmpi CmpIPredicate.sge (BitVec.ofNat 32 r.val) (BitVec.ofNat 32 j.val) = if j ≤ r then 1#1 else 0#1 := by decide +kernel
  rw [h]
  split <;> rfl
/-- A comparison of row and column numbers, `>`. -/
theorem select_sgt (r j : Fin 128) (x y : EReal) :
    (Scalar.select (IntOp.cmpi CmpIPredicate.sgt (BitVec.ofNat 32 r.val) (BitVec.ofNat 32 j.val)) x y : EReal) = if j < r then x else y := by
  have h : ∀ r j : Fin 128, IntOp.cmpi CmpIPredicate.sgt (BitVec.ofNat 32 r.val) (BitVec.ofNat 32 j.val) = if j < r then 1#1 else 0#1 := by decide +kernel
  rw [h]
  split <;> rfl
/-- A comparison of row and column numbers, `=`. -/
theorem select_eq (r j : Fin 128) (x y : EReal) :
    (Scalar.select (IntOp.cmpi CmpIPredicate.eq (BitVec.ofNat 32 r.val) (BitVec.ofNat 32 j.val)) x y : EReal) = if r = j then x else y := by
  have h : ∀ r j : Fin 128, IntOp.cmpi CmpIPredicate.eq (BitVec.ofNat 32 r.val) (BitVec.ofNat 32 j.val) = if r = j then 1#1 else 0#1 := by decide +kernel
  rw [h]
  split <;> rfl
/-- The same block, for blocks of sixteen to 128. -/
theorem select_block (w : Nat) (hw : w ∈ [4, 5, 6, 7]) (r j : Fin 128) (x y : EReal) :
    (Scalar.select (IntOp.cmpi CmpIPredicate.eq (IntOp.shrsi ArithUnit.vector (BitVec.ofNat 32 r.val) (BitVec.ofNat 32 w))
      (IntOp.shrsi ArithUnit.vector (BitVec.ofNat 32 j.val) (BitVec.ofNat 32 w))) x y : EReal) = if Cert.DeltaRule.Same w r j then x else y := by
  have h : ∀ w ∈ [4, 5, 6, 7], ∀ r : Fin 128, IntOp.shrsi ArithUnit.vector (BitVec.ofNat 32 r.val) (BitVec.ofNat 32 w) = BitVec.ofNat 32 (r.val / 2 ^ w) := by
    decide +kernel
  have hd : ∀ r : Fin 128, r.val / 2 ^ w < 128 := fun r => lt_of_le_of_lt (Nat.div_le_self _ _) r.isLt
  rw [h w hw, h w hw]
  refine (select_eq ⟨r.val / 2 ^ w, hd r⟩ ⟨j.val / 2 ^ w, hd j⟩ x y).trans ?_
  simp only [Fin.mk.injEq]

/-! ## The functions on real matrices -/

theorem prod_up (A B : Cert.DeltaRule.Mat) : prod (up A) (up B) = up (A * B) := eq_up fun r j => by
  unfold prod; pointwise
  simp only [up_apply, Matrix.mul_apply, coe_sum, EReal.coe_mul]
theorem add_up (A B : Cert.DeltaRule.Mat) : addf (F := Ideal) (φ := .f32) (up A) (up B) = up (A + B) := eq_up fun r j => by
  pointwise
  simp only [up_apply, Matrix.add_apply, EReal.coe_add]
theorem sub_up (A B : Cert.DeltaRule.Mat) : subf (F := Ideal) (φ := .f32) (up A) (up B) = up (A - B) := eq_up fun r j => by
  pointwise
  simp only [up_apply, Matrix.sub_apply, EReal.coe_sub]
theorem eye_up : (eye : Vec Ideal S128x128 .f32) = up 1 := eq_up fun r j => by
  unfold eye fill rowNo colNo; pointwise
  rw [select_eq, Matrix.one_apply]
  split <;> rfl
theorem inner_up (A : Cert.DeltaRule.Mat) : inner (up A) = up (Cert.DeltaRule.inner 4 A) := eq_up fun r j => by
  unfold inner sameBlock fill rowNo colNo; pointwise
  refine (select_block 4 (by decide) r j _ _).trans ?_
  unfold Cert.DeltaRule.inner
  split <;> rfl
theorem ring_up (hi lo : Nat) (hh : hi ∈ [4, 5, 6, 7]) (hl : lo ∈ [4, 5, 6, 7]) (A : Cert.DeltaRule.Mat) :
    ring (BitVec.ofNat 32 hi) (BitVec.ofNat 32 lo) (up A) = up (Cert.DeltaRule.ring hi lo A) := eq_up fun r j => by
  unfold ring sameBlock fill rowNo colNo; pointwise
  refine (select_block lo hl r j _ _).trans ?_
  rw [select_block hi hh r j]
  unfold Cert.DeltaRule.ring
  split
  · rfl
  · split <;> rfl
theorem start_up (A : Cert.DeltaRule.Mat) : start (up A) = up (Cert.DeltaRule.start A) := by
  unfold start Cert.DeltaRule.start
  simp only [prod_up, add_up, sub_up, eye_up]
theorem double_up (hi lo : Nat) (hh : hi ∈ [4, 5, 6, 7]) (hl : lo ∈ [4, 5, 6, 7]) (A x : Cert.DeltaRule.Mat) :
    double (BitVec.ofNat 32 hi) (BitVec.ofNat 32 lo) (up A) (up x) = up (Cert.DeltaRule.double hi lo A x) := by
  unfold double Cert.DeltaRule.double
  rw [ring_up hi lo hh hl, prod_up, prod_up, sub_up]
theorem inverse_up (A : Cert.DeltaRule.Mat) : inverse (up A) = up (Cert.DeltaRule.inverse A) := by
  unfold inverse Cert.DeltaRule.inverse
  rw [inner_up, start_up]
  rw [show (5#32 : BitVec 32) = BitVec.ofNat 32 5 from rfl, show (4#32 : BitVec 32) = BitVec.ofNat 32 4 from rfl,
    show (6#32 : BitVec 32) = BitVec.ofNat 32 6 from rfl, show (7#32 : BitVec 32) = BitVec.ofNat 32 7 from rfl,
    double_up 5 4 (by decide) (by decide), double_up 6 5 (by decide) (by decide), double_up 7 6 (by decide) (by decide)]

/-- The updates, from the two solutions side by side. -/
theorem updates_up (T U W S : Cert.DeltaRule.Mat) : updates (solved (up T) (up U) (up W)) (up S) = up (T * U - T * W * S) := eq_up fun r j => by
  have h1 : ∀ j : Fin 128, (solved (up T) (up U) (up W) (ix2 r (⟨j.val, by omega⟩ : Fin 256)) : EReal) = (((T * U) r j : ℝ) : EReal) := fun j => by
    unfold solved; pointwise
    simp only [j.isLt, dite_true, up_apply, Matrix.mul_apply, coe_sum, EReal.coe_mul]
  have h2 : ∀ j : Fin 128, (solved (up T) (up U) (up W) (ix2 r (⟨128 + j.val, by omega⟩ : Fin 256)) : EReal) = (((T * W) r j : ℝ) : EReal) := fun j => by
    have hj : ¬128 + j.val < 128 := by omega
    have he : ∀ p, (⟨128 + j.val - 128, p⟩ : Fin 128) = j := fun p => Fin.ext (Nat.add_sub_cancel_left 128 j.val)
    unfold solved; pointwise
    simp only [hj, dite_false, he, up_apply, Matrix.mul_apply, coe_sum, EReal.coe_mul]
  unfold updates prod; pointwise
  simp only [h1, h2, up_apply]
  rw [Matrix.sub_apply, Matrix.mul_apply (M := T * W), EReal.coe_sub, coe_sum]
  simp only [EReal.coe_mul]

section
variable (Q K V S : Cert.DeltaRule.Mat) (β G : Fin 128 → ℝ) (gc gr : Vec Ideal S128x128 .f32) (la lb : Nat)
  (ha : S128x128.Slices ![0, la] S128x1) (hb : S128x128.Slices ![0, lb] S128x1) (hr : S128x128.Slices ![la, 0] S1x128)
  (hl : S128x1.Slices ![la, 0] S1x1) (la' : la < 128) (lb' : lb < 128)
  (hG : ∀ r : Fin 128, (gc (ix2 r (⟨la, la'⟩ : Fin 128)) : EReal) = ((G r : ℝ) : EReal))
  (hR : ∀ j : Fin 128, (gr (ix2 (⟨la, la'⟩ : Fin 128) j) : EReal) = ((G j : ℝ) : EReal))
  (hB : ∀ r : Fin 128, (gc (ix2 r (⟨lb, lb'⟩ : Fin 128)) : EReal) = ((β r : ℝ) : EReal))
include hG hR hB

/-- The decay between two tokens. -/
theorem headDecay_up : headDecay gc gr la ha hr = up (Cert.DeltaRule.dec G) := eq_up fun r j => by
  unfold headDecay decay spread rowNo colNo fill; pointwise
  rw [select_sge, hG, hR]
  unfold Cert.DeltaRule.dec
  split
  · rw [← EReal.coe_sub, Ideal.exp_coe]
  · rw [show Ideal.ofBits FTy.f32 4286578688#32 = ⊥ by first | rfl | simp, Ideal.exp_bot]
    rfl
/-- A matrix times its rates. -/
theorem rated_up (X : Cert.DeltaRule.Mat) :
    mulf (F := Ideal) (φ := .f32) (up X) (spread (F := Ideal) (extractStridedSlice S128x1 ![0, lb] gc hb)) = up (Cert.DeltaRule.rated X β) := eq_up fun r j => by
  unfold spread; pointwise
  rw [hB, up_apply, ← EReal.coe_mul]
  rfl
/-- A matrix times its decays from the chunk's start. -/
theorem fromStart_up (X : Cert.DeltaRule.Mat) :
    mulf (F := Ideal) (φ := .f32) (up X) (spread (F := Ideal) (extractStridedSlice S128x1 ![0, la] (exp (F := Ideal) (φ := .f32) gc) ha)) = up (fun i d => X i d * Real.exp (G i)) := eq_up fun r j => by
  unfold spread; pointwise
  rw [hG, up_apply, Ideal.exp_coe, ← EReal.coe_mul]
/-- The chunk's linear system. -/
theorem system_up : system (headRated (up K) gc lb hb) (up K) (headDecay gc gr la ha hr) = up (Cert.DeltaRule.sys K β G) := eq_up fun r j => by
  unfold headRated
  rw [headDecay_up β G gc gr la lb ha hr la' lb' hG hR hB, rated_up β G gc gr la lb hb la' lb' hG hR hB K]
  unfold system prodT rowNo colNo fill; pointwise
  rw [select_sgt]
  unfold Cert.DeltaRule.sys
  split
  · simp only [up_apply, Cert.DeltaRule.rated]
    rw [EReal.coe_mul, coe_sum]
    simp only [EReal.coe_mul]
  · rfl
/-- The chunk's updates. -/
theorem headUpdates_up : headUpdates (up K) (up V) (up S) gc gr la lb ha hb hr = up (Cert.DeltaRule.upd K V S β G) := by
  unfold headUpdates Cert.DeltaRule.upd
  rw [system_up K β G gc gr la lb ha hb hr la' lb' hG hR hB, inverse_up]
  unfold headRated
  rw [rated_up β G gc gr la lb hb la' lb' hG hR hB K, rated_up β G gc gr la lb hb la' lb' hG hR hB V,
    fromStart_up β G gc gr la lb ha la' lb' hG hR hB]
  exact updates_up _ _ (Cert.DeltaRule.faded K β G) _
/-- The state after the chunk. -/
theorem headState_up : headState (up K) (up V) (up S) gc gr la lb ha hb hr hl = up (Cert.DeltaRule.next K V S β G) := eq_up fun r j => by
  unfold headState
  rw [headUpdates_up K V S β G gc gr la lb ha hb hr la' lb' hG hR hB]
  unfold prod whole toEnd spread; pointwise
  simp only [hG, hR, up_apply, ← EReal.coe_sub, Ideal.exp_coe, ← EReal.coe_mul, ← coe_sum, ← EReal.coe_add]
  rfl
/-- The outputs before the norm. -/
theorem headRead_up : headRead (up Q) (up K) (up V) (up S) gc gr la lb ha hb hr = up (Cert.DeltaRule.read Q K V S β G) := eq_up fun r j => by
  unfold headRead
  rw [headUpdates_up K V S β G gc gr la lb ha hb hr la' lb' hG hR hB, fromStart_up β G gc gr la lb ha la' lb' hG hR hB,
    headDecay_up β G gc gr la lb ha hr la' lb' hG hR hB]
  unfold prod prodT; pointwise
  simp only [up_apply, ← EReal.coe_mul, ← coe_sum, ← EReal.coe_add]
  rfl
end

end Cert.KernelIdeal.Unit
end
-- ==== Proof.GdnPieces.lean ====
/- What one grid point of the gated-delta kernel leaves in its output block and in its carried states: every head's chunk. -/
module

public import proofs.«01_k».proof.Proof.GdnUnit
public import Idealize.ShloMosaic.Lib.Pipeline.ValueKit
public import Idealize.ShloMosaic.Lib.Pipeline.ReadBack

@[expose] public section

set_option maxRecDepth 16384

noncomputable section

namespace Cert.KernelIdeal.Unit

open Cert.KernelIdeal Cert.KernelIdeal.Gen Idealize.ShloMosaic Idealize.ShloMosaic.TcCoe Idealize.SL.Sem

variable {F : FTy → Type} [FloatOps F]

/-- Head `h`'s lanes of batch `b`'s tokens. -/
def tile (x : Vec F S2x128x1024 .f32) (b : Fin 2) (h : Fin 8) : Vec F S128x128 .f32 :=
  fun i => x (ix3 b (i 0) (⟨128 * h.val + (i 1).val, by have h1 : (i 1).val < 128 := (i 1).isLt; have h2 := h.isLt; omega⟩ : Fin 1024))
/-- Batch `b`'s page of the rates. -/
def page (x : Vec F S2x128x128 .f32) (b : Fin 2) : Vec F S128x128 .f32 := fun i => x (ix3 b (i 0) (i 1))
/-- Unit `u`'s state. -/
def slot (xs : Vec F S16x128x128 .f32) (u : Fin 16) : Vec F S128x128 .f32 := fun i => xs (ix3 u (i 0) (i 1))

theorem slices_col (n : Nat) (h : n < 128) : S128x128.Slices ![0, n] S128x1 :=
  ⟨rfl, fun a => by fin_cases a <;> simp <;> omega⟩
theorem slices_row (n : Nat) (h : n < 128) : S128x128.Slices ![n, 0] S1x128 :=
  ⟨rfl, fun a => by fin_cases a <;> simp <;> omega⟩
theorem slices_one (n : Nat) (h : n < 128) : S128x1.Slices ![n, 0] S1x1 :=
  ⟨rfl, fun a => by fin_cases a <;> simp <;> omega⟩

/-- Head `h` of batch `b`: its state after the chunk, over the blocks loaded and the state before. -/
def unitState (x1 x2 : Vec F S2x128x1024 .f32) (x4 x5 : Vec F S2x128x128 .f32) (b : Fin 2) (h : Fin 8) (s : Vec F S128x128 .f32) : Vec F S128x128 .f32 :=
  headState (tile x1 b h) (tile x2 b h) s (page x4 b) (page x5 b) (16 + h.val) (24 + h.val) (slices_col _ (by omega)) (slices_col _ (by omega))
    (slices_row _ (by omega)) (slices_one _ (by omega))
/-- Head `h` of batch `b`: its outputs over the chunk. -/
def unitOut (x0 x1 x2 x3 : Vec F S2x128x1024 .f32) (x4 x5 : Vec F S2x128x128 .f32) (x6 : Vec F S1x128 .f32) (b : Fin 2) (h : Fin 8) (s : Vec F S128x128 .f32) :
    Vec F S128x128 .bf16 :=
  headOut (tile x0 b h) (tile x1 b h) (tile x2 b h) (tile x3 b h) s (page x4 b) (page x5 b) x6 (16 + h.val) (24 + h.val) (slices_col _ (by omega)) (slices_col _ (by omega))
    (slices_row _ (by omega))
/-- The batch of a unit. -/
def batchOf (u : Fin 16) : Fin 2 := ⟨u.val / 8, by omega⟩
/-- The head of a unit. -/
def headOf (u : Fin 16) : Fin 8 := ⟨u.val % 8, by omega⟩
/-- The unit of a batch and a lane. -/
def unitOf (b : Fin 2) (l : Fin 1024) : Fin 16 := ⟨8 * b.val + l.val / 128, by omega⟩
/-- All states after the chunk. -/
def allStates (x1 x2 : Vec F S2x128x1024 .f32) (x4 x5 : Vec F S2x128x128 .f32) (xs : Vec F S16x128x128 .f32) : Vec F S16x128x128 .f32 :=
  fun y => unitState x1 x2 x4 x5 (batchOf (y 0)) (headOf (y 0)) (slot xs (y 0)) (ix2 (y 1) (y 2))
/-- All outputs over the chunk. -/
def allOuts (x0 x1 x2 x3 : Vec F S2x128x1024 .f32) (x4 x5 : Vec F S2x128x128 .f32) (x6 : Vec F S1x128 .f32) (xs : Vec F S16x128x128 .f32) : Vec F S2x128x1024 .bf16 :=
  fun y => unitOut x0 x1 x2 x3 x4 x5 x6 (y 0) (⟨(y 2).val / 128, by have h : (y 2).val < 1024 := (y 2).isLt; omega⟩ : Fin 8) (slot xs (unitOf (y 0) (y 2)))
    (ix2 (y 1) (⟨(y 2).val % 128, Nat.mod_lt _ (by decide)⟩ : Fin 128))
/-- The states that the first chunk starts from. -/
def zeros : Vec F S16x128x128 .f32 := k0_pay2

/-- A loaded block of one head's lanes. -/
def rd (a : Memref sig .tc .vmem S2x128x1024 .f32) (ha : a.IsWhole) (x : Vec F S2x128x1024 .f32) (b l : Nat)
    (inb : ∀ d, (![b, 0, l] : Fin 3 → Nat) d + S1x128x128.size d ≤ S2x128x1024.size d) : Vec F S1x128x128 .f32 :=
  View.readAt (Elt F) a.view (Rect.unit (s := S2x128x1024) ![b, 0, l] S1x128x128.size inb).toLoadRect (ha.unread x)
/-- A loaded page of the rates. -/
def rdG (a : Memref sig .tc .vmem S2x128x128 .f32) (ha : a.IsWhole) (x : Vec F S2x128x128 .f32) (b : Nat)
    (inb : ∀ d, (![b, 0, 0] : Fin 3 → Nat) d + S1x128x128.size d ≤ S2x128x128.size d) : Vec F S1x128x128 .f32 :=
  View.readAt (Elt F) a.view (Rect.unit (s := S2x128x128) ![b, 0, 0] S1x128x128.size inb).toLoadRect (ha.unread x)
/-- A loaded state. -/
def rdS (a : Memref sig .tc .vmem S16x128x128 .f32) (ha : a.IsWhole) (x : Vec F S16x128x128 .f32) (u : Nat)
    (inb : ∀ d, (![u, 0, 0] : Fin 3 → Nat) d + S1x128x128.size d ≤ S16x128x128.size d) : Vec F S1x128x128 .f32 :=
  View.readAt (Elt F) a.view (Rect.unit (s := S16x128x128) ![u, 0, 0] S1x128x128.size inb).toLoadRect (ha.unread x)

/-- A loaded block as a matrix reads the block without its unit axis. -/
theorem mat_apply (L : Vec F S1x128x128 .f32) (r j : Fin 128) : mat L (ix2 r j) = L (ix3 (0 : Fin 1) r j) := by
  unfold mat; pointwise

/-- A matrix stored under a unit axis reads the matrix. -/
theorem cast_apply (W : Vec F S128x128 .f32) (z : Fin 1) (r j : Fin 128) :
    (shapeCast S1x128x128 W shapeCasts_S128x128_S1x128x128 : Vec F S1x128x128 .f32) (ix3 z r j) = W (ix2 r j) := by
  obtain rfl : z = 0 := Subsingleton.elim _ _
  pointwise
/-- The same for the output's type. -/
theorem castH_apply (W : Vec F S128x128 .bf16) (z : Fin 1) (r j : Fin 128) :
    (shapeCast S1x128x128 W shapeCasts_S128x128_S1x128x128 : Vec F S1x128x128 .bf16) (ix3 z r j) = W (ix2 r j) := by
  obtain rfl : z = 0 := Subsingleton.elim _ _
  pointwise

/-- A loaded block of a head is that head's tile. -/
theorem mat_rd (a : Memref sig .tc .vmem S2x128x1024 .f32) (ha : a.IsWhole) (x : Vec F S2x128x1024 .f32) (b h l : Nat) (hb : b < 2) (hh : h < 8) (hl : l = 128 * h)
    (inb : ∀ d, (![b, 0, l] : Fin 3 → Nat) d + S1x128x128.size d ≤ S2x128x1024.size d) : mat (rd a ha x b l inb) = tile x ⟨b, hb⟩ ⟨h, hh⟩ := by
  subst hl
  funext i
  obtain ⟨r, j, rfl⟩ : ∃ r j, i = ix2 r j := ⟨i 0, i 1, eq_ix2 i⟩
  rw [mat_apply]
  unfold rd tile
  rw [View.readAt_eq_ld, Memref.IsWhole.read_unread]
  exact View.ld_unit_apply_of _ _ _ _ _ _ (fun d => by fin_cases d <;> simp)

/-- A loaded page is that batch's page. -/
theorem mat_rdG (a : Memref sig .tc .vmem S2x128x128 .f32) (ha : a.IsWhole) (x : Vec F S2x128x128 .f32) (b : Nat) (hb : b < 2)
    (inb : ∀ d, (![b, 0, 0] : Fin 3 → Nat) d + S1x128x128.size d ≤ S2x128x128.size d) : mat (rdG a ha x b inb) = page x ⟨b, hb⟩ := by
  funext i
  obtain ⟨r, j, rfl⟩ : ∃ r j, i = ix2 r j := ⟨i 0, i 1, eq_ix2 i⟩
  rw [mat_apply]
  unfold rdG page
  rw [View.readAt_eq_ld, Memref.IsWhole.read_unread]
  exact View.ld_unit_apply_of _ _ _ _ _ _ (fun d => by fin_cases d <;> simp)

/-- A loaded state is that unit's state. -/
theorem rdS_apply (a : Memref sig .tc .vmem S16x128x128 .f32) (ha : a.IsWhole) (x : Vec F S16x128x128 .f32) (u : Nat)
    (inb : ∀ d, (![u, 0, 0] : Fin 3 → Nat) d + S1x128x128.size d ≤ S16x128x128.size d) (hu : u < 16) : mat (rdS a ha x u inb) = slot x ⟨u, hu⟩ := by
  funext i
  obtain ⟨r, j, rfl⟩ : ∃ r j, i = ix2 r j := ⟨i 0, i 1, eq_ix2 i⟩
  rw [mat_apply]
  unfold rdS slot
  rw [View.readAt_eq_ld, Memref.IsWhole.read_unread]
  exact View.ld_unit_apply_of _ _ _ _ _ _ (fun d => by fin_cases d <;> simp)

/-- A state loaded after the states were zeroed is a zero state. -/
theorem zero_read (a : Memref sig .tc .vmem S16x128x128 .f32) (u : Nat)
    (inb : ∀ d, (![u, 0, 0] : Fin 3 → Nat) d + S1x128x128.size d ≤ S16x128x128.size d) (hu : u < 16) :
    mat (a.view.readCov (kernelRun0_A.sl.HS0_1 (F := F)) (Rect.unit (s := S16x128x128) ![u, 0, 0] S1x128x128.size inb).toLoadRect : Vec F S1x128x128 .f32)
      = slot (zeros : Vec F S16x128x128 .f32) ⟨u, hu⟩ := by
  funext i
  obtain ⟨r, j, rfl⟩ : ∃ r j, i = ix2 r j := ⟨i 0, i 1, eq_ix2 i⟩
  rw [mat_apply]
  unfold slot zeros
  rw [View.readCov_eq_canon']
  unfold kernelRun0_A.sl.HS0_1
  rw [View.canon_unit_zero (S := S16x128x128) (funext fun d => by fin_cases d <;> rfl)]
  exact congrArg _ (funext fun d => Fin.ext (by fin_cases d <;> simp))

/-- Unit `u` is head `h` of batch `b`: its first lane is `l`, its decay's lane `la` and its rate's lane `lb`. -/
abbrev Place (u b h l la lb : Nat) : Prop := b < 2 ∧ h < 8 ∧ u = 8 * b + h ∧ l = 128 * h ∧ la = 16 + h ∧ lb = 24 + h

section
variable {u b h l la lb : Nat} (hk : Place u b h l la lb)
include hk

theorem Place.tile : ∀ d, (![b, 0, l] : Fin 3 → Nat) d + S1x128x128.size d ≤ S2x128x1024.size d := by
  obtain ⟨hb, hh, hu, hl, hla, hlb⟩ := hk
  intro d; fin_cases d <;> simp <;> omega
theorem Place.page : ∀ d, (![b, 0, 0] : Fin 3 → Nat) d + S1x128x128.size d ≤ S2x128x128.size d := by
  obtain ⟨hb, hh, hu, hl, hla, hlb⟩ := hk
  intro d; fin_cases d <;> simp <;> omega
theorem Place.slot : ∀ d, (![u, 0, 0] : Fin 3 → Nat) d + S1x128x128.size d ≤ S16x128x128.size d := by
  obtain ⟨hb, hh, hu, hl, hla, hlb⟩ := hk
  intro d; fin_cases d <;> simp <;> omega
theorem Place.col : S128x128.Slices ![0, la] S128x1 := slices_col la (by obtain ⟨hb, hh, hu, hl, hla, hlb⟩ := hk; omega)
theorem Place.rate : S128x128.Slices ![0, lb] S128x1 := slices_col lb (by obtain ⟨hb, hh, hu, hl, hla, hlb⟩ := hk; omega)
theorem Place.row : S128x128.Slices ![la, 0] S1x128 := slices_row la (by obtain ⟨hb, hh, hu, hl, hla, hlb⟩ := hk; omega)
theorem Place.one : S128x1.Slices ![la, 0] S1x1 := slices_one la (by obtain ⟨hb, hh, hu, hl, hla, hlb⟩ := hk; omega)
end

section
variable (arg1 : Memref sig .tc .vmem S2x128x1024 .f32) (harg1 : arg1.IsWhole)
  (arg2 : Memref sig .tc .vmem S2x128x1024 .f32) (harg2 : arg2.IsWhole) (arg3 : Memref sig .tc .vmem S2x128x1024 .f32) (harg3 : arg3.IsWhole)
  (arg4 : Memref sig .tc .vmem S2x128x1024 .f32) (harg4 : arg4.IsWhole) (arg5 : Memref sig .tc .vmem S2x128x128 .f32) (harg5 : arg5.IsWhole)
  (arg6 : Memref sig .tc .vmem S2x128x128 .f32) (harg6 : arg6.IsWhole) (arg7 : Memref sig .tc .vmem S1x128 .f32) (harg7 : arg7.IsWhole)
  (x0 x1 x2 x3 : Vec F S2x128x1024 .f32) (x4 x5 : Vec F S2x128x128 .f32) (x6 : Vec F S1x128 .f32) (xs : Vec F S16x128x128 .f32)
  (T : ∀ u : Nat, (∀ d, (![u, 0, 0] : Fin 3 → Nat) d + S1x128x128.size d ≤ S16x128x128.size d) → Vec F S1x128x128 .f32)
  (hT : ∀ u inb (hu : u < 16), mat (T u inb) = slot xs ⟨u, hu⟩) (u b h l la lb : Nat)

include hT in
/-- One unit's stored state is the unit's part of all states. -/
theorem state_piece (hk : Place u b h l la lb)
    (x : S1x128x128.Idx) :
    (shapeCast S1x128x128 (headState (mat (rd arg2 harg2 x1 b l hk.tile)) (mat (rd arg3 harg3 x2 b l hk.tile)) (mat (T u hk.slot)) (mat (rdG arg5 harg5 x4 b hk.page)) (mat (rdG arg6 harg6 x5 b hk.page))
      la lb hk.col hk.rate hk.row hk.one) shapeCasts_S128x128_S1x128x128 : Vec F S1x128x128 .f32) x
      = allStates x1 x2 x4 x5 xs ((Rect.unit (s := S16x128x128) ![u, 0, 0] S1x128x128.size hk.slot).emb x) := by
  have hb := hk.1
  have hh := hk.2.1
  have hu := hk.2.2.1
  have hl := hk.2.2.2.1
  have hla := hk.2.2.2.2.1
  have hlb := hk.2.2.2.2.2
  rw [mat_rd arg2 harg2 x1 b h l hb hh hl, mat_rd arg3 harg3 x2 b h l hb hh hl, mat_rdG arg5 harg5 x4 b hb, mat_rdG arg6 harg6 x5 b hb, hT u hk.slot (by omega)]
  subst hla hlb
  obtain ⟨z, r, j, rfl⟩ : ∃ z r j, x = ix3 z r j := ⟨x 0, x 1, x 2, eq_ix3 x⟩
  have hy : (Rect.unit (s := S16x128x128) ![u, 0, 0] S1x128x128.size hk.slot).emb (ix3 z r j) = ix3 (⟨u, by omega⟩ : Fin 16) r j :=
    funext fun d => Fin.ext ((Rect.idx_unit_val _ _ _ _ d).trans (by fin_cases d <;> simp <;> omega))
  rw [hy]
  have hbb : batchOf (⟨u, by omega⟩ : Fin 16) = ⟨b, hb⟩ := Fin.ext (by simp only [batchOf]; omega)
  have hhh : headOf (⟨u, by omega⟩ : Fin 16) = ⟨h, hh⟩ := Fin.ext (by simp only [headOf]; omega)
  show _ = unitState x1 x2 x4 x5 (batchOf (⟨u, by omega⟩ : Fin 16)) (headOf (⟨u, by omega⟩ : Fin 16)) (slot xs ⟨u, by omega⟩) (ix2 r j)
  rw [hbb, hhh]
  exact cast_apply _ z r j

include hT in
/-- One unit's stored outputs are the unit's part of all outputs. -/
theorem out_piece (hk : Place u b h l la lb)
    (x : S1x128x128.Idx) :
    (shapeCast S1x128x128 (headOut (mat (rd arg1 harg1 x0 b l hk.tile)) (mat (rd arg2 harg2 x1 b l hk.tile)) (mat (rd arg3 harg3 x2 b l hk.tile)) (mat (rd arg4 harg4 x3 b l hk.tile)) (mat (T u hk.slot))
      (mat (rdG arg5 harg5 x4 b hk.page)) (mat (rdG arg6 harg6 x5 b hk.page))
      (View.readAt (Elt F) arg7.view (Rect.unit (s := S1x128) ![0, 0] S1x128.size inb_S1x128_S1x128_0_0).toLoadRect (harg7.unread x6))
      la lb hk.col hk.rate hk.row) shapeCasts_S128x128_S1x128x128 : Vec F S1x128x128 .bf16) x
      = allOuts x0 x1 x2 x3 x4 x5 x6 xs ((Rect.unit (s := S2x128x1024) ![b, 0, l] S1x128x128.size hk.tile).emb x) := by
  have hb := hk.1
  have hh := hk.2.1
  have hu := hk.2.2.1
  have hl := hk.2.2.2.1
  have hla := hk.2.2.2.2.1
  have hlb := hk.2.2.2.2.2
  rw [mat_rd arg1 harg1 x0 b h l hb hh hl, mat_rd arg2 harg2 x1 b h l hb hh hl, mat_rd arg3 harg3 x2 b h l hb hh hl, mat_rd arg4 harg4 x3 b h l hb hh hl,
    mat_rdG arg5 harg5 x4 b hb, mat_rdG arg6 harg6 x5 b hb, hT u hk.slot (by omega), View.readAt_eq_ld, Memref.IsWhole.read_unread,
    View.ld_unit_zero (S := S1x128) (funext fun d => by fin_cases d <;> rfl)]
  subst hla hlb
  obtain ⟨z, r, j, rfl⟩ : ∃ z r j, x = ix3 z r j := ⟨x 0, x 1, x 2, eq_ix3 x⟩
  have hl' : l + j.val < 1024 := by omega
  have hy : (Rect.unit (s := S2x128x1024) ![b, 0, l] S1x128x128.size hk.tile).emb (ix3 z r j) = ix3 (⟨b, hb⟩ : Fin 2) r (⟨l + j.val, hl'⟩ : Fin 1024) :=
    funext fun d => Fin.ext ((Rect.idx_unit_val _ _ _ _ d).trans (by fin_cases d <;> simp <;> omega))
  rw [hy]
  have e1 : ((⟨(l + j.val) / 128, by omega⟩ : Fin 8)) = ⟨h, hh⟩ := Fin.ext (by show (l + j.val) / 128 = h; omega)
  have e2 : ((⟨(l + j.val) % 128, Nat.mod_lt _ (by decide)⟩ : Fin 128)) = j := Fin.ext (by show (l + j.val) % 128 = j.val; omega)
  have e3 : unitOf (⟨b, hb⟩ : Fin 2) (⟨l + j.val, hl'⟩ : Fin 1024) = ⟨u, by omega⟩ := Fin.ext (by simp only [unitOf]; omega)
  show _ = unitOut x0 x1 x2 x3 x4 x5 x6 (⟨b, hb⟩ : Fin 2) (⟨(l + j.val) / 128, by omega⟩ : Fin 8) (slot xs (unitOf (⟨b, hb⟩ : Fin 2) (⟨l + j.val, hl'⟩ : Fin 1024)))
    (ix2 r (⟨(l + j.val) % 128, Nat.mod_lt _ (by decide)⟩ : Fin 128))
  rw [e1, e2, e3]
  exact castH_apply _ z r j
end

section
variable (c : Dev nD) (i : grid0.Coords) (arg1 : Memref sig .tc .vmem S2x128x1024 .f32) (harg1 : arg1.IsWhole)
  (arg2 : Memref sig .tc .vmem S2x128x1024 .f32) (harg2 : arg2.IsWhole) (arg3 : Memref sig .tc .vmem S2x128x1024 .f32) (harg3 : arg3.IsWhole)
  (arg4 : Memref sig .tc .vmem S2x128x1024 .f32) (harg4 : arg4.IsWhole) (arg5 : Memref sig .tc .vmem S2x128x128 .f32) (harg5 : arg5.IsWhole)
  (arg6 : Memref sig .tc .vmem S2x128x128 .f32) (harg6 : arg6.IsWhole) (arg7 : Memref sig .tc .vmem S1x128 .f32) (harg7 : arg7.IsWhole)
  (arg8 : Memref sig .tc .vmem S2x128x1024 .bf16) (harg8 : arg8.IsWhole) (arg9 : Memref sig .tc .vmem S16x128x128 .f32) (harg9 : arg9.IsWhole)
  (x0 x1 x2 x3 : Vec F S2x128x1024 .f32) (x4 x5 : Vec F S2x128x128 .f32) (x6 : Vec F S1x128 .f32) (xs : Vec F S16x128x128 .f32)

/-- What a later point leaves in the states. -/
theorem states_B (hc0 : ¬cond0_0 i) : sout0_B_0 c i arg1 harg1 arg2 harg2 arg3 harg3 arg4 harg4 arg5 harg5 arg6 harg6 arg7 harg7 arg8 harg8 arg9 harg9 hc0 x0 x1 x2 x3 x4 x5 x6 xs = allStates x1 x2 x4 x5 xs := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 x6 xs)]
  funext y
  have hc := View.cover_of_tiledL (List.take 16 (kernelRun0_B c i arg1 harg1 arg2 harg2 arg3 harg3 arg4 harg4 arg5 harg5 arg6 harg6 arg7 harg7 arg8 harg8 arg9 harg9 hc0 x0 x1 x2 x3 x4 x5 x6 xs).2.1) S1x128x128.size (by sl_kernel_rfl) y
  rw [← List.take_append_drop 16 (kernelRun0_B c i arg1 harg1 arg2 harg2 arg3 harg3 arg4 harg4 arg5 harg5 arg6 harg6 arg7 harg7 arg8 harg8 arg9 harg9 hc0 x0 x1 x2 x3 x4 x5 x6 xs).2.1]
  refine View.canon_append_of_piecesOf (allStates x1 x2 x4 x5 xs) _ _ ?_ y hc
  unfold kernelRun0_B
  dsimp only [List.take_succ_cons, List.take_zero]
  have P := state_piece arg2 harg2 arg3 harg3 arg5 harg5 arg6 harg6 x1 x2 x4 x5 xs
    (rdS arg9 harg9 xs) (rdS_apply arg9 harg9 xs)
  exact ⟨P 15 1 7 896 23 31 (of_decide_eq_true rfl),
    P 14 1 6 768 22 30 (of_decide_eq_true rfl),
    P 13 1 5 640 21 29 (of_decide_eq_true rfl),
    P 12 1 4 512 20 28 (of_decide_eq_true rfl),
    P 11 1 3 384 19 27 (of_decide_eq_true rfl),
    P 10 1 2 256 18 26 (of_decide_eq_true rfl),
    P 9 1 1 128 17 25 (of_decide_eq_true rfl),
    P 8 1 0 0 16 24 (of_decide_eq_true rfl),
    P 7 0 7 896 23 31 (of_decide_eq_true rfl),
    P 6 0 6 768 22 30 (of_decide_eq_true rfl),
    P 5 0 5 640 21 29 (of_decide_eq_true rfl),
    P 4 0 4 512 20 28 (of_decide_eq_true rfl),
    P 3 0 3 384 19 27 (of_decide_eq_true rfl),
    P 2 0 2 256 18 26 (of_decide_eq_true rfl),
    P 1 0 1 128 17 25 (of_decide_eq_true rfl),
    P 0 0 0 0 16 24 (of_decide_eq_true rfl), trivial⟩

/-- What a later point leaves in the output block. -/
theorem outs_B (hc0 : ¬cond0_0 i) : out0_B_7 c i arg1 harg1 arg2 harg2 arg3 harg3 arg4 harg4 arg5 harg5 arg6 harg6 arg7 harg7 arg8 harg8 arg9 harg9 hc0 x0 x1 x2 x3 x4 x5 x6 xs = allOuts x0 x1 x2 x3 x4 x5 x6 xs := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs)]
  funext y
  have hc := cover0_B_7 c i arg1 harg1 arg2 harg2 arg3 harg3 arg4 harg4 arg5 harg5 arg6 harg6 arg7 harg7 arg8 harg8 arg9 harg9 hc0 x0 x1 x2 x3 x4 x5 x6 xs y
  rw [← List.append_nil (kernelRun0_B c i arg1 harg1 arg2 harg2 arg3 harg3 arg4 harg4 arg5 harg5 arg6 harg6 arg7 harg7 arg8 harg8 arg9 harg9 hc0 x0 x1 x2 x3 x4 x5 x6 xs).1]
  refine View.canon_append_of_piecesOf (allOuts x0 x1 x2 x3 x4 x5 x6 xs) _ _ ?_ y hc
  unfold kernelRun0_B
  dsimp only
  have P := out_piece arg1 harg1 arg2 harg2 arg3 harg3 arg4 harg4 arg5 harg5 arg6 harg6 arg7 harg7 x0 x1 x2 x3 x4 x5 x6 xs
    (rdS arg9 harg9 xs) (rdS_apply arg9 harg9 xs)
  exact ⟨P 15 1 7 896 23 31 (of_decide_eq_true rfl),
    P 14 1 6 768 22 30 (of_decide_eq_true rfl),
    P 13 1 5 640 21 29 (of_decide_eq_true rfl),
    P 12 1 4 512 20 28 (of_decide_eq_true rfl),
    P 11 1 3 384 19 27 (of_decide_eq_true rfl),
    P 10 1 2 256 18 26 (of_decide_eq_true rfl),
    P 9 1 1 128 17 25 (of_decide_eq_true rfl),
    P 8 1 0 0 16 24 (of_decide_eq_true rfl),
    P 7 0 7 896 23 31 (of_decide_eq_true rfl),
    P 6 0 6 768 22 30 (of_decide_eq_true rfl),
    P 5 0 5 640 21 29 (of_decide_eq_true rfl),
    P 4 0 4 512 20 28 (of_decide_eq_true rfl),
    P 3 0 3 384 19 27 (of_decide_eq_true rfl),
    P 2 0 2 256 18 26 (of_decide_eq_true rfl),
    P 1 0 1 128 17 25 (of_decide_eq_true rfl),
    P 0 0 0 0 16 24 (of_decide_eq_true rfl), trivial⟩

/-- What the first point leaves in the states. -/
theorem states_A (hc0 : cond0_0 i) : sout0_A_0 c i arg1 harg1 arg2 harg2 arg3 harg3 arg4 harg4 arg5 harg5 arg6 harg6 arg7 harg7 arg8 harg8 arg9 harg9 hc0 x0 x1 x2 x3 x4 x5 x6 = allStates x1 x2 x4 x5 zeros := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  funext y
  have hc := View.cover_of_tiledL (List.take 16 (kernelRun0_A c i arg1 harg1 arg2 harg2 arg3 harg3 arg4 harg4 arg5 harg5 arg6 harg6 arg7 harg7 arg8 harg8 arg9 harg9 hc0 x0 x1 x2 x3 x4 x5 x6).2.1) S1x128x128.size (by sl_kernel_rfl) y
  rw [← List.take_append_drop 16 (kernelRun0_A c i arg1 harg1 arg2 harg2 arg3 harg3 arg4 harg4 arg5 harg5 arg6 harg6 arg7 harg7 arg8 harg8 arg9 harg9 hc0 x0 x1 x2 x3 x4 x5 x6).2.1]
  refine View.canon_append_of_piecesOf (allStates x1 x2 x4 x5 zeros) _ _ ?_ y hc
  unfold kernelRun0_A
  dsimp only [List.take_succ_cons, List.take_zero]
  have P := state_piece arg2 harg2 arg3 harg3 arg5 harg5 arg6 harg6 x1 x2 x4 x5 zeros
    (fun u inb => arg9.view.readCov (kernelRun0_A.sl.HS0_1 (F := F)) (Rect.unit (s := S16x128x128) ![u, 0, 0] S1x128x128.size inb).toLoadRect) (zero_read arg9)
  exact ⟨P 15 1 7 896 23 31 (of_decide_eq_true rfl),
    P 14 1 6 768 22 30 (of_decide_eq_true rfl),
    P 13 1 5 640 21 29 (of_decide_eq_true rfl),
    P 12 1 4 512 20 28 (of_decide_eq_true rfl),
    P 11 1 3 384 19 27 (of_decide_eq_true rfl),
    P 10 1 2 256 18 26 (of_decide_eq_true rfl),
    P 9 1 1 128 17 25 (of_decide_eq_true rfl),
    P 8 1 0 0 16 24 (of_decide_eq_true rfl),
    P 7 0 7 896 23 31 (of_decide_eq_true rfl),
    P 6 0 6 768 22 30 (of_decide_eq_true rfl),
    P 5 0 5 640 21 29 (of_decide_eq_true rfl),
    P 4 0 4 512 20 28 (of_decide_eq_true rfl),
    P 3 0 3 384 19 27 (of_decide_eq_true rfl),
    P 2 0 2 256 18 26 (of_decide_eq_true rfl),
    P 1 0 1 128 17 25 (of_decide_eq_true rfl),
    P 0 0 0 0 16 24 (of_decide_eq_true rfl), trivial⟩

/-- What the first point leaves in the output block. -/
theorem outs_A (hc0 : cond0_0 i) : out0_A_7 c i arg1 harg1 arg2 harg2 arg3 harg3 arg4 harg4 arg5 harg5 arg6 harg6 arg7 harg7 arg8 harg8 arg9 harg9 hc0 x0 x1 x2 x3 x4 x5 x6 = allOuts x0 x1 x2 x3 x4 x5 x6 zeros := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  funext y
  have hc := cover0_A_7 c i arg1 harg1 arg2 harg2 arg3 harg3 arg4 harg4 arg5 harg5 arg6 harg6 arg7 harg7 arg8 harg8 arg9 harg9 hc0 x0 x1 x2 x3 x4 x5 x6 y
  rw [← List.append_nil (kernelRun0_A c i arg1 harg1 arg2 harg2 arg3 harg3 arg4 harg4 arg5 harg5 arg6 harg6 arg7 harg7 arg8 harg8 arg9 harg9 hc0 x0 x1 x2 x3 x4 x5 x6).1]
  refine View.canon_append_of_piecesOf (allOuts x0 x1 x2 x3 x4 x5 x6 zeros) _ _ ?_ y hc
  unfold kernelRun0_A
  dsimp only
  have P := out_piece arg1 harg1 arg2 harg2 arg3 harg3 arg4 harg4 arg5 harg5 arg6 harg6 arg7 harg7 x0 x1 x2 x3 x4 x5 x6 zeros
    (fun u inb => arg9.view.readCov (kernelRun0_A.sl.HS0_1 (F := F)) (Rect.unit (s := S16x128x128) ![u, 0, 0] S1x128x128.size inb).toLoadRect) (zero_read arg9)
  exact ⟨P 15 1 7 896 23 31 (of_decide_eq_true rfl),
    P 14 1 6 768 22 30 (of_decide_eq_true rfl),
    P 13 1 5 640 21 29 (of_decide_eq_true rfl),
    P 12 1 4 512 20 28 (of_decide_eq_true rfl),
    P 11 1 3 384 19 27 (of_decide_eq_true rfl),
    P 10 1 2 256 18 26 (of_decide_eq_true rfl),
    P 9 1 1 128 17 25 (of_decide_eq_true rfl),
    P 8 1 0 0 16 24 (of_decide_eq_true rfl),
    P 7 0 7 896 23 31 (of_decide_eq_true rfl),
    P 6 0 6 768 22 30 (of_decide_eq_true rfl),
    P 5 0 5 640 21 29 (of_decide_eq_true rfl),
    P 4 0 4 512 20 28 (of_decide_eq_true rfl),
    P 3 0 3 384 19 27 (of_decide_eq_true rfl),
    P 2 0 2 256 18 26 (of_decide_eq_true rfl),
    P 1 0 1 128 17 25 (of_decide_eq_true rfl),
    P 0 0 0 0 16 24 (of_decide_eq_true rfl), trivial⟩
end

end Cert.KernelIdeal.Unit
end
-- ==== Proof.GdnSeq.lean ====
/- The token-by-token recurrence over a layer's real arrays: each head's queries, keys, values, decays and rates as sequences, its states and its outputs. -/
module

public import proofs.«01_k».proof.Proof.GdnReal

@[expose] public section

noncomputable section

namespace Cert.DeltaRule

/-- The layer's real arrays. -/
structure Data where
  /-- The queries: rows are tokens, lanes are the heads' channels. -/
  q : Fin 8192 → Fin 1024 → ℝ
  /-- The keys. -/
  k : Fin 8192 → Fin 1024 → ℝ
  /-- The values. -/
  v : Fin 8192 → Fin 1024 → ℝ
  /-- The logarithms of the decays: sequence, token, head. -/
  g : Fin 2 → Fin 4096 → Fin 8 → ℝ
  /-- The rates. -/
  β : Fin 2 → Fin 4096 → Fin 8 → ℝ

/-- The token of a number. -/
def tok (n : Nat) : Fin 4096 := ⟨n % 4096, Nat.mod_lt _ (by decide)⟩
/-- The row of the flat arrays that holds token `n` of sequence `b`. -/
def row (b : Fin 2) (n : Fin 4096) : Fin 8192 := ⟨4096 * b.val + n.val, by omega⟩
/-- The lane that holds channel `d` of head `h`. -/
def lane (h : Fin 8) (d : Fin 128) : Fin 1024 := ⟨128 * h.val + d.val, by omega⟩

theorem tok_val (n : Fin 4096) : tok n.val = n := Fin.ext (Nat.mod_eq_of_lt n.isLt)

variable (D : Data) (b : Fin 2) (h : Fin 8)

/-- A head's queries. -/
def Data.queries : Nat → Fin 128 → ℝ := fun n d => D.q (row b (tok n)) (lane h d)
/-- A head's keys. -/
def Data.keys : Nat → Fin 128 → ℝ := fun n d => D.k (row b (tok n)) (lane h d)
/-- A head's values. -/
def Data.vals : Nat → Fin 128 → ℝ := fun n d => D.v (row b (tok n)) (lane h d)
/-- A head's logarithms of the decays. -/
def Data.logs : Nat → ℝ := fun n => D.g b (tok n) h
/-- A head's rates. -/
def Data.rates : Nat → ℝ := fun n => D.β b (tok n) h
/-- A head's state after `n` tokens. -/
def Data.state (n : Nat) : Mat := run (D.logs b h) (D.rates b h) (D.keys b h) (D.vals b h) 0 n
/-- A head's output at token `n`: the query applied to the state after the token. -/
def Data.out (n : Nat) (e : Fin 128) : ℝ := ∑ a, D.queries b h n a * D.state b h (n + 1) a e

/-- A run of `a + n` tokens is a run of `n` tokens from where a run of `a` tokens ends. -/
theorem run_add (g β : Nat → ℝ) (k v : Nat → Fin 128 → ℝ) (S : Mat) (a n : Nat) :
    run g β k v S (a + n) = run (fun i => g (a + i)) (fun i => β (a + i)) (fun i => k (a + i)) (fun i => v (a + i)) (run g β k v S a) n := by
  induction n with
  | zero => rfl
  | succ n ih => rw [← Nat.add_assoc]; simp only [run, ih]

/-- The state after a further chunk is the chunk's closed form. -/
theorem Data.state_chunk (t : Nat) :
    next (mat fun i => D.keys b h (128 * t + i)) (mat fun i => D.vals b h (128 * t + i)) (D.state b h (128 * t)) (vec fun i => D.rates b h (128 * t + i))
      (cums fun i => D.logs b h (128 * t + i)) = D.state b h (128 * (t + 1)) := by
  rw [next_eq, Nat.mul_add, Nat.mul_one]
  exact (run_add _ _ _ _ _ _ _).symm

/-- The outputs over a chunk are the chunk's closed form. -/
theorem Data.out_chunk (t : Nat) (i e : Fin 128) :
    read (mat fun i => D.queries b h (128 * t + i)) (mat fun i => D.keys b h (128 * t + i)) (mat fun i => D.vals b h (128 * t + i)) (D.state b h (128 * t))
      (vec fun i => D.rates b h (128 * t + i)) (cums fun i => D.logs b h (128 * t + i)) i e = D.out b h (128 * t + i.val) e := by
  rw [read_eq]
  unfold Data.out
  refine Finset.sum_congr rfl fun a _ => ?_
  rw [Nat.add_assoc]
  exact congrArg _ (congrFun (congrFun (run_add _ _ _ _ _ _ _).symm a) e)

end Cert.DeltaRule
end
-- ==== Proof.GdnHost.lean ====
module

public import proofs.«01_k».proof.Proof.GdnPieces
public import proofs.«01_k».proof.Proof.GdnSeq
public import Idealize.ShloMosaic.Lib.StableHlo.ReadAt
public import Idealize.ShloMosaic.Lib.Pointwise
public import Idealize.ShloMosaic.Lib.Pipeline.ValueKit

/-! What the arrays hold that the host lays out before the recurrence's launch, read at an index from the launch's own arguments. -/

@[expose] public section

set_option maxRecDepth 16384
noncomputable section

namespace Cert.KernelIdeal.Unit

open Cert.KernelIdeal Cert.KernelIdeal.Gen Idealize.ShloMosaic Idealize.ShloMosaic.TcCoe Idealize.SL.Sem

/-! ## A running sum along a window -/

/-- A left fold of additions is its start and the sum of what is added. -/
theorem foldl_add {α : Type} (f : α → EReal) (l : List α) (v : EReal) :
    l.foldl (fun r n => r + f n) v = v + (l.map f).sum := by
  induction l generalizing v with
  | nil => simp
  | cons a l ih => simp [ih, add_assoc]

/-- The window of 128 positions along the third axis: a position's row-major number is its third coordinate, and the other coordinates are 0. -/
theorem window_at : ∀ n : Fin (⟨S2x32x128x8.rank, ![1, 1, 128, 1]⟩ : Shape).numel,
    ((⟨S2x32x128x8.rank, ![1, 1, 128, 1]⟩ : Shape).rowMajor.symm n ⟨0, by decide⟩).val = 0 ∧ ((⟨S2x32x128x8.rank, ![1, 1, 128, 1]⟩ : Shape).rowMajor.symm n ⟨1, by decide⟩).val = 0 ∧
    ((⟨S2x32x128x8.rank, ![1, 1, 128, 1]⟩ : Shape).rowMajor.symm n ⟨2, by decide⟩).val = n.val ∧ ((⟨S2x32x128x8.rank, ![1, 1, 128, 1]⟩ : Shape).rowMajor.symm n ⟨3, by decide⟩).val = 0 := by
  decide +kernel

/-- A sum over the last part of 128 positions, counted from the position where it begins. -/
theorem sum_tail (X : Nat → EReal) (j : Nat) (hj : j < 128) :
    ∑ n ∈ Finset.range 128, (if 127 ≤ j + n then X (j + n - 127) else 0) = ∑ i ∈ Finset.range (j + 1), X i := by
  obtain ⟨d, hd⟩ : ∃ d, 127 = j + d := ⟨127 - j, by omega⟩
  rw [Finset.sum_ite, Finset.sum_const_zero, add_zero]
  refine Finset.sum_nbij' (fun n => j + n - 127) (fun i => i + d) ?_ ?_ ?_ ?_ ?_ <;>
    simp only [Finset.mem_filter, Finset.mem_range] <;> intros <;> first | omega | (constructor <;> omega) | rfl

/-- The running sum that the host computes: at position `j` of a chunk it is the sum of the chunk's elements up to and with `j`. -/
theorem runningSum (x : Vec Ideal S2x32x128x8 .f32) (v : Vec Ideal S_ .f32) (hv : ∀ i, v i = (0 : EReal)) (hw) (hu) (b : Fin 2) (t : Fin 32) (j : Fin 128) (h : Fin 8)
    (p : S2x32x128x8.Idx) (hp : p = ix4 b t j h) :
    (Host.reduceWindowAdd (F := Ideal) (φ := .f32) ![1, 1, 128, 1] ![1, 1, 1, 1] ![0, 0, 127, 0] ![0, 0, 0, 0] x v hw hu : Vec Ideal S2x32x128x8 .f32) p
      = ∑ i ∈ Finset.range (j.val + 1), (x (ix4 b t ⟨i % 128, Nat.mod_lt _ (by decide)⟩ h) : EReal) := by
  subst hp
  rw [← sum_tail (fun i => (x (ix4 b t ⟨i % 128, Nat.mod_lt _ (by decide)⟩ h) : EReal)) j.val j.isLt]
  show List.foldl _ _ _ = _
  rw [hv]
  refine (foldl_add _ _ _).trans ?_
  rw [zero_add, ← Fin.sum_univ_def]
  refine Eq.trans (Finset.sum_congr rfl fun n _ => ?_) (Fin.sum_univ_eq_sum_range (fun n => if 127 ≤ j.val + n then (x (ix4 b t ⟨(j.val + n - 127) % 128, Nat.mod_lt _ (by decide)⟩ h) : EReal) else 0) _)
  obtain ⟨h0, h1, h2, h3⟩ := window_at n
  have hn : n.val < 128 := lt_of_lt_of_eq n.isLt (by decide)
  have hj := j.isLt
  split_ifs with hin hc hc
  · congr 1
    funext a
    apply Fin.ext
    match a with
    | ⟨0, _⟩ => show b.val * 1 + _ - 0 = b.val; have := h0; omega
    | ⟨1, _⟩ => show t.val * 1 + _ - 0 = t.val; have := h1; omega
    | ⟨2, _⟩ => show j.val * 1 + _ - 127 = (j.val + n.val - 127) % 128; have := h2; omega
    | ⟨3, _⟩ => show h.val * 1 + _ - 0 = h.val; have := h3; omega
  · have h' : 127 ≤ j.val * 1 + _ := (hin ⟨2, by decide⟩).1
    have := h2
    omega
  · refine absurd (fun a => ?_) hin
    match a with
    | ⟨0, _⟩ => show 0 ≤ b.val * 1 + _ ∧ b.val * 1 + _ - 0 < 2; have := h0; omega
    | ⟨1, _⟩ => show 0 ≤ t.val * 1 + _ ∧ t.val * 1 + _ - 0 < 32; have := h1; omega
    | ⟨2, _⟩ => show 127 ≤ j.val * 1 + _ ∧ j.val * 1 + _ - 127 < 128; have := h2; omega
    | ⟨3, _⟩ => show 0 ≤ h.val * 1 + _ ∧ h.val * 1 + _ - 0 < 8; have := h3; omega
  · rfl

/-! ## The laid-out arrays -/

/-- Two pairs of coordinates with the same values are the same index. -/
theorem ext2 {n0 n1 : Nat} {a a' : Fin n0} {b b' : Fin n1} (ha : a.val = a'.val) (hb : b = b') : ix2 a b = ix2 a' b' := by
  obtain rfl := Fin.ext ha; rw [hb]

/-- Two triples of coordinates with the same values are the same index. -/
theorem ext3 {n0 n1 n2 : Nat} {a a' : Fin n0} {b b' : Fin n1} {d d' : Fin n2} (ha : a.val = a'.val) (hb : b.val = b'.val) (hd : d.val = d'.val) :
    ix3 a b d = ix3 a' b' d' := by
  obtain rfl := Fin.ext ha; obtain rfl := Fin.ext hb; obtain rfl := Fin.ext hd; rfl

/-- Two quadruples of coordinates with the same values are the same index. -/
theorem ext4 {n0 n1 n2 n3 : Nat} {a a' : Fin n0} {b b' : Fin n1} {d d' : Fin n2} {e e' : Fin n3} (ha : a.val = a'.val) (hb : b.val = b'.val)
    (hd : d.val = d'.val) (he : e.val = e'.val) : ix4 a b d e = ix4 a' b' d' e' := by
  obtain rfl := Fin.ext ha; obtain rfl := Fin.ext hb; obtain rfl := Fin.ext hd; obtain rfl := Fin.ext he; rfl

variable (m : (ℓ : Loc nD τ sig) → Buf (Elt Ideal) ℓ) (c : Dev nD)

/-- The queries. -/
def argQ : Vec Ideal S8192x1024 .f32 := m (c, Proc.tc.devRef main_arg0)
/-- The keys. -/
def argK : Vec Ideal S8192x1024 .f32 := m (c, Proc.tc.devRef main_arg1)
/-- The values. -/
def argV : Vec Ideal S8192x1024 .f32 := m (c, Proc.tc.devRef main_arg2)
/-- The projection whose fourth thousand lanes hold the gate. -/
def argZ : Vec Ideal S8192x5120 .f32 := m (c, Proc.tc.devRef main_arg3)
/-- The logarithms of the decays. -/
def argG : Vec Ideal S2x4096x8 .f32 := m (c, Proc.tc.devRef main_arg4)
/-- The rates. -/
def argB : Vec Ideal S2x4096x8 .f32 := m (c, Proc.tc.devRef main_arg5)
/-- The norm's scale. -/
def argN : Vec Ideal S128 .f32 := m (c, Proc.tc.devRef main_arg6)

/-- The queries by sequence. -/
theorem V_q (b : Fin 2) (n : Fin 4096) (l : Fin 1024) :
    (Gen.V m c main_v9 : Vec Ideal S2x4096x1024 .f32) (ix3 b n l) = argQ m c (ix2 (Cert.DeltaRule.row b n) l) := by
  unfold Gen.V
  simp only [List.flatten_cons, List.flatten_nil, hostOps0, hostOps0_1, hostOps0_2, List.cons_append, List.nil_append, List.append_nil]
  after_reads_at
  exact congrArg (argQ m c) (ext2 (by show b.val * 4096 + n.val = 4096 * b.val + n.val; omega) rfl)

/-- The keys by sequence. -/
theorem V_k (b : Fin 2) (n : Fin 4096) (l : Fin 1024) :
    (Gen.V m c main_v10 : Vec Ideal S2x4096x1024 .f32) (ix3 b n l) = argK m c (ix2 (Cert.DeltaRule.row b n) l) := by
  unfold Gen.V
  simp only [List.flatten_cons, List.flatten_nil, hostOps0, hostOps0_1, hostOps0_2, List.cons_append, List.nil_append, List.append_nil]
  after_reads_at
  exact congrArg (argK m c) (ext2 (by show b.val * 4096 + n.val = 4096 * b.val + n.val; omega) rfl)

/-- The values by sequence. -/
theorem V_v (b : Fin 2) (n : Fin 4096) (l : Fin 1024) :
    (Gen.V m c main_v11 : Vec Ideal S2x4096x1024 .f32) (ix3 b n l) = argV m c (ix2 (Cert.DeltaRule.row b n) l) := by
  unfold Gen.V
  simp only [List.flatten_cons, List.flatten_nil, hostOps0, hostOps0_1, hostOps0_2, List.cons_append, List.nil_append, List.append_nil]
  after_reads_at
  exact congrArg (argV m c) (ext2 (by show b.val * 4096 + n.val = 4096 * b.val + n.val; omega) rfl)

/-- The projection by sequence. -/
theorem V_z (b : Fin 2) (n : Fin 4096) (l : Fin 5120) :
    (Gen.V m c main_v12 : Vec Ideal S2x4096x5120 .f32) (ix3 b n l) = argZ m c (ix2 (Cert.DeltaRule.row b n) l) := by
  unfold Gen.V
  simp only [List.flatten_cons, List.flatten_nil, hostOps0, hostOps0_1, hostOps0_2, List.cons_append, List.nil_append, List.append_nil]
  after_reads_at
  exact congrArg (argZ m c) (ext2 (by show b.val * 4096 + n.val = 4096 * b.val + n.val; omega) rfl)

/-- The norm's scale as one row. -/
theorem V_n (r : Fin 1) (l : Fin 128) :
    (Gen.V m c main_v8 : Vec Ideal S1x128 .f32) (ix2 r l) = argN m c (ix1 l) := by
  unfold Gen.V
  simp only [List.flatten_cons, List.flatten_nil, hostOps0, hostOps0_1, hostOps0_2, List.cons_append, List.nil_append, List.append_nil]
  after_reads_at
  rfl

/-- Lane `24 + h` of the page of decays and rates holds the rates of head `h`. -/
theorem V_beta (b : Fin 2) (n : Fin 4096) (h : Fin 8) :
    (Gen.V m c main_v13 : Vec Ideal S2x4096x128 .f32) (ix3 b n ⟨24 + h.val, by omega⟩) = argB m c (ix3 b n h) := by
  unfold Gen.V
  simp only [List.flatten_cons, List.flatten_nil, hostOps0, hostOps0_1, hostOps0_2, List.cons_append, List.nil_append, List.append_nil]
  after_reads_at
  simp only [StableHlo.upto, List.take]
  after_reads_at
  rw [dif_neg (show ¬24 + h.val < 16 by omega), dif_neg (show ¬24 + h.val - 16 < 8 by omega), dif_pos (show 24 + h.val - 16 - 8 < 8 by omega)]
  exact congrArg (argB m c) (ext3 (by show (b.val * 4096 + n.val) / 4096 = b.val; omega) (by show (b.val * 4096 + n.val) % 4096 = n.val; omega)
    (by show 24 + h.val - 16 - 8 = h.val; omega))

/-- Lane `16 + h` of the page holds, at position `j` of chunk `t`, the sum of the chunk's logarithms of head `h` up to and with that position. -/
theorem V_cum (b : Fin 2) (t : Fin 32) (j : Fin 128) (h : Fin 8) :
    (Gen.V m c main_v13 : Vec Ideal S2x4096x128 .f32) (ix3 b ⟨128 * t.val + j.val, by omega⟩ ⟨16 + h.val, by omega⟩)
      = ∑ i ∈ Finset.range (j.val + 1), (argG m c (ix3 b ⟨(128 * t.val + i) % 4096, Nat.mod_lt _ (by decide)⟩ h) : EReal) := by
  unfold Gen.V
  simp only [List.flatten_cons, List.flatten_nil, hostOps0, hostOps0_1, hostOps0_2, List.cons_append, List.nil_append, List.append_nil]
  after_reads_at
  simp only [StableHlo.upto, List.take]
  after_reads_at
  refine (runningSum _ _ (fun i => ?_) _ _ b t j h _ ?_).trans ?_
  · pointwise
  · exact ext4 (by show (b.val * 4096 + (128 * t.val + j.val)) / 4096 = b.val; omega) rfl rfl rfl
  refine Finset.sum_congr rfl fun i hi => ?_
  have hi' := Finset.mem_range.1 hi
  exact congrArg (argG m c) (ext3 rfl (by show t.val * 128 + i % 128 = (128 * t.val + i) % 4096; omega) rfl)

/-- The same sums in the transposed page, at row `16 + h`. -/
theorem V_cumT (b : Fin 2) (t : Fin 32) (j : Fin 128) (h : Fin 8) :
    (Gen.V m c main_v6 : Vec Ideal S2x128x4096 .f32) (ix3 b ⟨16 + h.val, by omega⟩ ⟨128 * t.val + j.val, by omega⟩)
      = ∑ i ∈ Finset.range (j.val + 1), (argG m c (ix3 b ⟨(128 * t.val + i) % 4096, Nat.mod_lt _ (by decide)⟩ h) : EReal) := by
  unfold Gen.V
  simp only [List.flatten_cons, List.flatten_nil, hostOps0, hostOps0_1, hostOps0_2, List.cons_append, List.nil_append, List.append_nil]
  after_reads_at
  simp only [StableHlo.upto, List.take]
  after_reads_at
  refine (runningSum _ _ (fun i => ?_) _ _ b t j h _ ?_).trans ?_
  · pointwise
  · rfl
  refine Finset.sum_congr rfl fun i hi => ?_
  have hi' := Finset.mem_range.1 hi
  exact congrArg (argG m c) (ext3 rfl (by show t.val * 128 + i % 128 = (128 * t.val + i) % 4096; omega) rfl)

end Cert.KernelIdeal.Unit
end
-- ==== Proof.GdnFold.lean ====
/- What the gated-delta launch leaves in its result: every head's outputs of the token-by-token recurrence, normed and gated. -/
module

public import proofs.«01_k».proof.Proof.GdnIdeal
public import proofs.«01_k».proof.Proof.GdnHost
public import proofs.«01_k».proof.Proof.Gen.KernelIdeal.Value

@[expose] public section

set_option maxRecDepth 16384

noncomputable section

namespace Cert.KernelIdeal.Unit

open Cert.KernelIdeal Cert.KernelIdeal.Gen Idealize.ShloMosaic Idealize.ShloMosaic.TcCoe Idealize.SL.Sem
open Cert.DeltaRule (Data tok row lane)

/-- The places of the blocks that each point loads. -/
theorem places : ∀ t : Fin cfg0.N, win0_0.index t = ![0, t.val, 0] ∧ win0_1.index t = ![0, t.val, 0] ∧ win0_2.index t = ![0, t.val, 0] ∧ win0_3.index t = ![0, t.val, 3]
    ∧ win0_4.index t = ![0, t.val, 0] ∧ win0_5.index t = ![0, 0, t.val] ∧ win0_6.index t = ![0, 0] :=
  (by decide +kernel : ∀ t : Fin grid0.N, _)

theorem points (t : Fin cfg0.N) : t.val < 32 := lt_of_lt_of_eq t.isLt (show cfg0.N = 32 from N_0)

/-- The number of token `n` of chunk `t`. -/
theorem tok_eq {t n : Nat} (h : 128 * t + n < 4096) : (⟨128 * t + n, h⟩ : Fin 4096) = tok (128 * t + n) := Fin.ext (Nat.mod_eq_of_lt h).symm

/-- A finite sum of reals in the extended reals. -/
theorem coe_range (f : Nat → ℝ) (n : Nat) : ((∑ i ∈ Finset.range n, f i : ℝ) : EReal) = ∑ i ∈ Finset.range n, (f i : EReal) :=
  map_sum (⟨⟨Real.toEReal, rfl⟩, EReal.coe_add⟩ : ℝ →+ EReal) f (Finset.range n)

/-! ## The blocks of a chunk -/

section
variable (m : (ℓ : Loc nD τ sig) → Buf (Elt Ideal) ℓ) (c : Dev nD) (t : Fin cfg0.N)

theorem blk_q (b : Fin 2) (n : Fin 128) (l : Fin 1024) :
    (iblk m c 0 t : Vec Ideal S2x128x1024 .f32) (ix3 b n l) = argQ m c (ix2 (row b (tok (128 * t.val + n.val))) l) := by
  have ht := points t
  rw [← tok_eq (by omega), ← V_q]
  blk_ext [iblk, places t]
theorem blk_k (b : Fin 2) (n : Fin 128) (l : Fin 1024) :
    (iblk m c 1 t : Vec Ideal S2x128x1024 .f32) (ix3 b n l) = argK m c (ix2 (row b (tok (128 * t.val + n.val))) l) := by
  have ht := points t
  rw [← tok_eq (by omega), ← V_k]
  blk_ext [iblk, places t]
theorem blk_v (b : Fin 2) (n : Fin 128) (l : Fin 1024) :
    (iblk m c 2 t : Vec Ideal S2x128x1024 .f32) (ix3 b n l) = argV m c (ix2 (row b (tok (128 * t.val + n.val))) l) := by
  have ht := points t
  rw [← tok_eq (by omega), ← V_v]
  blk_ext [iblk, places t]
theorem blk_z (b : Fin 2) (n : Fin 128) (l : Fin 1024) :
    (iblk m c 3 t : Vec Ideal S2x128x1024 .f32) (ix3 b n l) = argZ m c (ix2 (row b (tok (128 * t.val + n.val))) ⟨3072 + l.val, by omega⟩) := by
  have ht := points t
  rw [← tok_eq (by omega), ← V_z]
  blk_ext [iblk, places t]
theorem blk_n (r : Fin 1) (l : Fin 128) : (iblk m c 6 t : Vec Ideal S1x128 .f32) (ix2 r l) = argN m c (ix1 l) := by
  rw [← V_n m c r]
  blk_ext [iblk, places t]
theorem blk_beta (b : Fin 2) (n : Fin 128) (h : Fin 8) :
    (iblk m c 4 t : Vec Ideal S2x128x128 .f32) (ix3 b n ⟨24 + h.val, by omega⟩) = argB m c (ix3 b (tok (128 * t.val + n.val)) h) := by
  have ht := points t
  rw [← tok_eq (by omega), ← V_beta]
  blk_ext [iblk, places t]
theorem blk_cum (b : Fin 2) (n : Fin 128) (h : Fin 8) :
    (iblk m c 4 t : Vec Ideal S2x128x128 .f32) (ix3 b n ⟨16 + h.val, by omega⟩)
      = ∑ i ∈ Finset.range (n.val + 1), (argG m c (ix3 b (tok (128 * t.val + i)) h) : EReal) := by
  refine Eq.trans ?_ (V_cum m c b ⟨t.val, points t⟩ n h)
  have ht := points t
  blk_ext [iblk, places t]
theorem blk_cumT (b : Fin 2) (n : Fin 128) (h : Fin 8) :
    (iblk m c 5 t : Vec Ideal S2x128x128 .f32) (ix3 b ⟨16 + h.val, by omega⟩ n)
      = ∑ i ∈ Finset.range (n.val + 1), (argG m c (ix3 b (tok (128 * t.val + i)) h) : EReal) := by
  refine Eq.trans ?_ (V_cumT m c b ⟨t.val, points t⟩ n h)
  have ht := points t
  blk_ext [iblk, places t]
end

/-! ## One head over one chunk -/

/-- The launch's arrays hold these reals. -/
structure Holds (m : (ℓ : Loc nD τ sig) → Buf (Elt Ideal) ℓ) (c : Dev nD) (D : Data) : Prop where
  q : ∀ r l, (argQ m c (ix2 r l) : EReal) = ((D.q r l : ℝ) : EReal)
  k : ∀ r l, (argK m c (ix2 r l) : EReal) = ((D.k r l : ℝ) : EReal)
  v : ∀ r l, (argV m c (ix2 r l) : EReal) = ((D.v r l : ℝ) : EReal)
  g : ∀ b n h, (argG m c (ix3 b n h) : EReal) = ((D.g b n h : ℝ) : EReal)
  β : ∀ b n h, (argB m c (ix3 b n h) : EReal) = ((D.β b n h : ℝ) : EReal)

section
variable {m : (ℓ : Loc nD τ sig) → Buf (Elt Ideal) ℓ} {c : Dev nD} {D : Data} (H : Holds m c D) (t : Fin cfg0.N) (b : Fin 2) (h : Fin 8)
include H

theorem tile_q : tile (iblk m c 0 t : Vec Ideal S2x128x1024 .f32) b h = up (Cert.DeltaRule.mat fun i => D.queries b h (128 * t.val + i)) :=
  eq_up fun r j => (blk_q m c t b r (lane h j)).trans (H.q _ _)
theorem tile_k : tile (iblk m c 1 t : Vec Ideal S2x128x1024 .f32) b h = up (Cert.DeltaRule.mat fun i => D.keys b h (128 * t.val + i)) :=
  eq_up fun r j => (blk_k m c t b r (lane h j)).trans (H.k _ _)
theorem tile_v : tile (iblk m c 2 t : Vec Ideal S2x128x1024 .f32) b h = up (Cert.DeltaRule.mat fun i => D.vals b h (128 * t.val + i)) :=
  eq_up fun r j => (blk_v m c t b r (lane h j)).trans (H.v _ _)
theorem page_beta (r : Fin 128) : (page (iblk m c 4 t : Vec Ideal S2x128x128 .f32) b (ix2 r (⟨24 + h.val, by omega⟩ : Fin 128)) : EReal)
    = ((Cert.DeltaRule.vec (fun i => D.rates b h (128 * t.val + i)) r : ℝ) : EReal) :=
  (blk_beta m c t b r h).trans (H.β _ _ _)
theorem page_cum (r : Fin 128) : (page (iblk m c 4 t : Vec Ideal S2x128x128 .f32) b (ix2 r (⟨16 + h.val, by omega⟩ : Fin 128)) : EReal)
    = ((Cert.DeltaRule.cums (fun i => D.logs b h (128 * t.val + i)) r : ℝ) : EReal) :=
  (blk_cum m c t b r h).trans ((Finset.sum_congr rfl fun i _ => H.g _ _ _).trans (coe_range _ _).symm)
theorem page_cumT (r : Fin 128) : (page (iblk m c 5 t : Vec Ideal S2x128x128 .f32) b (ix2 (⟨16 + h.val, by omega⟩ : Fin 128) r) : EReal)
    = ((Cert.DeltaRule.cums (fun i => D.logs b h (128 * t.val + i)) r : ℝ) : EReal) :=
  (blk_cumT m c t b r h).trans ((Finset.sum_congr rfl fun i _ => H.g _ _ _).trans (coe_range _ _).symm)

/-- One head's state goes from one chunk's start to the next one's. -/
theorem unit_next : unitState (iblk m c 1 t) (iblk m c 2 t) (iblk m c 4 t) (iblk m c 5 t) b h (up (D.state b h (128 * t.val)))
    = up (D.state b h (128 * (t.val + 1))) := by
  unfold unitState
  rw [tile_k H, tile_v H, headState_up _ _ _ _ _ _ _ _ _ _ _ _ _ (by omega) (by omega) (page_cum H t b h) (page_cumT H t b h) (page_beta H t b h), Data.state_chunk]
/-- One head's outputs over a chunk. -/
theorem unit_out : unitOut (iblk m c 0 t) (iblk m c 1 t) (iblk m c 2 t) (iblk m c 3 t) (iblk m c 4 t) (iblk m c 5 t) (iblk m c 6 t) b h (up (D.state b h (128 * t.val)))
    = finish (up fun i e => D.out b h (128 * t.val + i.val) e) (iblk m c 6 t) (tile (iblk m c 3 t) b h) := by
  unfold unitOut headOut
  rw [tile_q H, tile_k H, tile_v H, headRead_up _ _ _ _ _ _ _ _ _ _ _ _ _ (by omega) (by omega) (page_cum H t b h) (page_cumT H t b h) (page_beta H t b h)]
  congr 2
  funext i e
  exact D.out_chunk b h t.val i e
end

/-! ## The whole launch -/

/-- All states at the start of chunk `n`. -/
def statesAt (D : Data) (n : Nat) : Vec Ideal S16x128x128 .f32 :=
  fun y => ((D.state (batchOf (y 0)) (headOf (y 0)) (128 * n) (y 1) (y 2) : ℝ) : EReal)

theorem slot_statesAt (D : Data) (n : Nat) (u : Fin 16) : slot (statesAt D n) u = up (D.state (batchOf u) (headOf u) (128 * n)) := rfl

theorem zeros_eq (D : Data) : (zeros : Vec Ideal S16x128x128 .f32) = statesAt D 0 := by
  funext y
  obtain ⟨u, r, j, rfl⟩ : ∃ u r j, y = ix3 u r j := ⟨y 0, y 1, y 2, eq_ix3 y⟩
  unfold zeros k0_pay2; pointwise
  rfl

/-- One entry of a head's outputs after the norm, the gain and the gate. -/
def finAt (o : Fin 128 → EReal) (g z : EReal) (e : Fin 128) : EReal :=
  o e * Ideal.rsqrt (Ideal.div (∑ x, o x * o x) (Ideal.ofBits .f32 1124073472#32) + Ideal.ofBits .f32 897988541#32) * g
    * (z * Ideal.div 1 (1 + Ideal.exp (0 - z)))

theorem finish_at (o : Vec Ideal S128x128 .f32) (ng : Vec Ideal S1x128 .f32) (z : Vec Ideal S128x128 .f32) (r j : Fin 128) :
    (finish o ng z (ix2 r j) : EReal) = finAt (fun e => o (ix2 r e)) (ng (ix2 0 j)) (z (ix2 r j)) j := by
  unfold finish fill spread; pointwise
  rfl

section
variable {m : (ℓ : Loc nD τ sig) → Buf (Elt Ideal) ℓ} {c : Dev nD} {D : Data} (H : Holds m c D)
include H

theorem allStates_at (t : Fin cfg0.N) : allStates (iblk m c 1 t) (iblk m c 2 t) (iblk m c 4 t) (iblk m c 5 t) (statesAt D t.val) = statesAt D (t.val + 1) := by
  funext y
  obtain ⟨u, r, j, rfl⟩ : ∃ u r j, y = ix3 u r j := ⟨y 0, y 1, y 2, eq_ix3 y⟩
  show unitState _ _ _ _ (batchOf u) (headOf u) (slot (statesAt D t.val) u) (ix2 r j) = _
  rw [slot_statesAt, unit_next H]
  rfl
theorem allOuts_at (t : Fin cfg0.N) (b : Fin 2) (n : Fin 128) (l : Fin 1024) :
    (allOuts (iblk m c 0 t) (iblk m c 1 t) (iblk m c 2 t) (iblk m c 3 t) (iblk m c 4 t) (iblk m c 5 t) (iblk m c 6 t) (statesAt D t.val) (ix3 b n l) : EReal)
      = finAt (fun e => ((D.out b ⟨l.val / 128, by omega⟩ (128 * t.val + n.val) e : ℝ) : EReal)) (argN m c (ix1 (⟨l.val % 128, Nat.mod_lt _ (by decide)⟩ : Fin 128)))
        (argZ m c (ix2 (row b (tok (128 * t.val + n.val))) (⟨3072 + l.val, by omega⟩ : Fin 5120))) ⟨l.val % 128, Nat.mod_lt _ (by decide)⟩ := by
  unfold allOuts
  have e1 : batchOf (unitOf b l) = b := Fin.ext (by simp only [batchOf, unitOf]; omega)
  have e2 : headOf (unitOf b l) = ⟨l.val / 128, by omega⟩ := Fin.ext (by simp only [headOf, unitOf]; omega)
  show unitOut _ _ _ _ _ _ _ b ⟨l.val / 128, _⟩ (slot (statesAt D t.val) (unitOf b l)) (ix2 n ⟨l.val % 128, _⟩) = _
  rw [slot_statesAt, e1, e2, unit_out H, finish_at]
  rw [blk_n]
  congr 1
  refine (blk_z m c t b n (lane _ _)).trans ?_
  refine congrArg (argZ m c) (ext2 rfl (Fin.ext ?_))
  show 3072 + (128 * (l.val / 128) + l.val % 128) = 3072 + l.val
  omega

/-- After each point: the states at the next chunk's start, and the point's outputs. -/
theorem outsAt (n : Nat) (hn : n < cfg0.N) : (outsAt0 m c n hn).2 = statesAt D (n + 1)
    ∧ (outsAt0 m c n hn).1 = allOuts (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (statesAt D n) := by
  have hN := lt_of_lt_of_eq hn (show cfg0.N = 32 from N_0)
  induction n with
  | zero =>
    rw [Value.outsAt0_zero, Value.stAt0_A m c ⟨0, hn⟩ _ (Nat.zero_mod _)]
    dsimp only
    rw [states_A, outs_A, zeros_eq D]
    exact ⟨allStates_at H ⟨0, hn⟩, rfl⟩
  | succ n ih =>
    have hn' : n < cfg0.N := Nat.lt_of_succ_lt hn
    rw [Value.outsAt0_succ, Value.stAt0_B m c ⟨n + 1, hn⟩ _ (by show ¬(n + 1) % 32 = 0; omega), (ih hn' (by omega)).1]
    dsimp only
    rw [states_B, outs_B]
    exact ⟨allStates_at H ⟨n + 1, hn⟩, rfl⟩

/-- The launch's result at token `n` of sequence `b`, lane `l`. -/
theorem result_at (b : Fin 2) (n : Fin 4096) (l : Fin 1024) :
    ((Value.G7 m c : Vec Ideal S2x4096x1024 .bf16) (ix3 b n l) : EReal)
      = finAt (fun e => ((D.out b ⟨l.val / 128, by omega⟩ n.val e : ℝ) : EReal)) (argN m c (ix1 (⟨l.val % 128, Nat.mod_lt _ (by decide)⟩ : Fin 128)))
        (argZ m c (ix2 (row b n) (⟨3072 + l.val, by omega⟩ : Fin 5120))) ⟨l.val % 128, Nat.mod_lt _ (by decide)⟩ := by
  have hp : Value.pt7Of (ix3 b n l) = n.val / 128 := by
    show 32 * (b.val / 2 - 0) + 1 * (n.val / 128 - 0) + 1 * (l.val / 1024 - 0) = n.val / 128
    omega
  have hlt : n.val / 128 < cfg0.N := lt_of_lt_of_eq (by omega) (show cfg0.N = 32 from N_0).symm
  have hl : Value.loc7Of (ix3 b n l) = ix3 b (⟨n.val % 128, Nat.mod_lt _ (by decide)⟩ : Fin 128) l := by
    funext a
    apply Fin.ext
    match a with
    | ⟨0, _⟩ => show b.val % 2 = b.val; omega
    | ⟨1, _⟩ => rfl
    | ⟨2, _⟩ => show l.val % 1024 = l.val; omega
  unfold Value.G7
  rw [dif_pos (by rw [hp]; exact hlt), hl, Value.fold0_congr m c _ _ (n.val / 128) (by omega) hp, ← Value.outsAt0_sweep m c _ hlt, (outsAt H _ hlt).2]
  refine (allOuts_at H ⟨n.val / 128, hlt⟩ b _ l).trans ?_
  have e : 128 * (n.val / 128) + n.val % 128 = n.val := Nat.div_add_mod _ _
  show finAt (fun e => ((D.out b _ (128 * (n.val / 128) + n.val % 128) e : ℝ) : EReal)) _ (argZ m c (ix2 (row b (tok (128 * (n.val / 128) + n.val % 128))) _)) _ = _
  rw [e, Cert.DeltaRule.tok_val]
end

end Cert.KernelIdeal.Unit
end
-- ==== Proof.GdnRef.lean ====
/- The reference's loop over the tokens, read: after `n` trips it holds the recurrence's states and outputs. -/
module

public import proofs.«01_k».proof.Proof.GdnFold
public import proofs.«01_k».proof.Proof.Gen.ReferenceIdeal.Run
public import Idealize.ShloMosaic.Lib.Pointwise
public import Idealize.ShloMosaic.Lib.StableHlo.ReadAt
public import Idealize.ShloMosaic.Lib.DynamicIndex

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.SL.Sem
open Idealize.ShloMosaic.StableHlo
open Cert.DeltaRule (Data tok row lane)
open Cert.KernelIdeal.Unit (finAt coe_sum)

/-- What the loop's buffers hold after `n` trips. -/
structure Inv (D : Data) (n : Nat) (V : Valuation τ sig (Elt Ideal)) : Prop where
  ctr : (V (Proc.devRef .tc main_v10_5) : (⟨S_, .i32⟩ : BufTy).Contents (Elt Ideal)) = fun _ => BitVec.ofNat 32 n
  q : ∀ t b h d, ((V (Proc.devRef .tc main_v10_0) : Vec Ideal S4096x2x8x128 .f32) (ix4 t b h d) : EReal) = ((D.queries b h t.val d : ℝ) : EReal)
  k : ∀ t b h d, ((V (Proc.devRef .tc main_v10_1) : Vec Ideal S4096x2x8x128 .f32) (ix4 t b h d) : EReal) = ((D.keys b h t.val d : ℝ) : EReal)
  v : ∀ t b h d, ((V (Proc.devRef .tc main_v10_2) : Vec Ideal S4096x2x8x128 .f32) (ix4 t b h d) : EReal) = ((D.vals b h t.val d : ℝ) : EReal)
  g : ∀ t b h, ((V (Proc.devRef .tc main_v10_3) : Vec Ideal S4096x2x8 .f32) (ix3 t b h) : EReal) = ((D.logs b h t.val : ℝ) : EReal)
  β : ∀ t b h, ((V (Proc.devRef .tc main_v10_4) : Vec Ideal S4096x2x8 .f32) (ix3 t b h) : EReal) = ((D.rates b h t.val : ℝ) : EReal)
  s : ∀ b h a e, ((V (Proc.devRef .tc main_v10_6) : Vec Ideal S2x8x128x128 .f32) (ix4 b h a e) : EReal) = ((D.state b h n a e : ℝ) : EReal)
  o : ∀ t b h e, t.val < n → ((V (Proc.devRef .tc main_v10_7) : Vec Ideal S4096x2x8x128 .f32) (ix4 t b h e) : EReal) = ((D.out b h t.val e : ℝ) : EReal)

section

variable {D : Data} {n : Nat} {V : Valuation τ sig (Elt Ideal)}

theorem word_toInt (hn : n < 4096) : (BitVec.ofNat 32 n).toInt = n := by
  rw [BitVec.toInt_ofNat', Int.bmod_eq_of_le (by omega) (by omega)]

/-- The slice at the loop's counter of an array of heads' vectors. -/
theorem slice4 (hn : n < 4096) (x : Vec Ideal S4096x2x8x128 .f32) (st : Fin 4 → Int) (h0 : st 0 = n) (h1 : st 1 = 0) (h2 : st 2 = 0) (h3 : st 3 = 0) (b : Fin 2) (h : Fin 8) (d : Fin 128) :
    ((shapeCast S2x8x128 (Host.dynamicSlice S1x2x8x128 x st sliceFits_S4096x2x8x128_S1x2x8x128) shapeCasts_S1x2x8x128_S2x8x128 : Vec Ideal S2x8x128 .f32) (ix3 b h d) : EReal)
      = x (ix4 ⟨n, hn⟩ b h d) := by
  have c0 := Host.clampedStart_of_le (s := S4096x2x8x128) (t := S1x2x8x128) rfl st 0 n h0 (by show n + 1 ≤ 4096; omega)
  have c1 := Host.clampedStart_of_le (s := S4096x2x8x128) (t := S1x2x8x128) rfl st 1 0 h1 (by decide)
  have c2 := Host.clampedStart_of_le (s := S4096x2x8x128) (t := S1x2x8x128) rfl st 2 0 h2 (by decide)
  have c3 := Host.clampedStart_of_le (s := S4096x2x8x128) (t := S1x2x8x128) rfl st 3 0 h3 (by decide)
  pointwise
  simp only [c0, c1, c2, c3, Nat.zero_add, Fin.eta]

/-- The slice at the loop's counter of an array of heads' numbers. -/
theorem slice3 (hn : n < 4096) (x : Vec Ideal S4096x2x8 .f32) (st : Fin 3 → Int) (h0 : st 0 = n) (h1 : st 1 = 0) (h2 : st 2 = 0) (b : Fin 2) (h : Fin 8) :
    ((shapeCast S2x8 (Host.dynamicSlice S1x2x8 x st sliceFits_S4096x2x8_S1x2x8) shapeCasts_S1x2x8_S2x8 : Vec Ideal S2x8 .f32) (ix2 b h) : EReal)
      = x (ix3 ⟨n, hn⟩ b h) := by
  have c0 := Host.clampedStart_of_le (s := S4096x2x8) (t := S1x2x8) rfl st 0 n h0 (by show n + 1 ≤ 4096; omega)
  have c1 := Host.clampedStart_of_le (s := S4096x2x8) (t := S1x2x8) rfl st 1 0 h1 (by decide)
  have c2 := Host.clampedStart_of_le (s := S4096x2x8) (t := S1x2x8) rfl st 2 0 h2 (by decide)
  pointwise
  simp only [c0, c1, c2, Nat.zero_add, Fin.eta]

/-- The write at the loop's counter: that token's row is new, the others stay. -/
theorem update4 (hn : n < 4096) (x : Vec Ideal S4096x2x8x128 .f32) (u : Vec Ideal S1x2x8x128 .f32) (st : Fin 4 → Int) (h0 : st 0 = n) (h1 : st 1 = 0) (h2 : st 2 = 0) (h3 : st 3 = 0)
    (t : Fin 4096) (b : Fin 2) (h : Fin 8) (d : Fin 128) :
    (Host.dynamicUpdateSlice x u st updateFits_S4096x2x8x128_S1x2x8x128 (ix4 t b h d) : EReal) = if t.val = n then u (ix4 0 b h d) else x (ix4 t b h d) := by
  have c0 := Host.clampedStart_of_le (s := S4096x2x8x128) (t := S1x2x8x128) rfl st 0 n h0 (by show n + 1 ≤ 4096; omega)
  have c1 := Host.clampedStart_of_le (s := S4096x2x8x128) (t := S1x2x8x128) rfl st 1 0 h1 (by decide)
  have c2 := Host.clampedStart_of_le (s := S4096x2x8x128) (t := S1x2x8x128) rfl st 2 0 h2 (by decide)
  have c3 := Host.clampedStart_of_le (s := S4096x2x8x128) (t := S1x2x8x128) rfl st 3 0 h3 (by decide)
  pointwise
  simp only [c0, c1, c2, c3, Nat.zero_add, Nat.sub_zero, Fin.eta]
  by_cases ht : t.val = n
  · rw [dif_pos ⟨⟨by omega, by omega⟩, ⟨by omega, by omega⟩, ⟨by omega, by omega⟩, by omega, by omega⟩, if_pos ht]
    congr 2
    exact Fin.ext (by show t.val - n = 0; omega)
  · rw [dif_neg (fun hc => ht (by omega)), if_neg ht]

/-- The decayed states. -/
theorem decay_at (s : FVec Ideal S2x8x128x128 .f32) (g : FVec Ideal S2x8 .f32) (b : Fin 2) (h : Fin 8) (a e : Fin 128) :
    ((mulf s (broadcastInDim S2x8x128x128 ![0, 1, 2, 3] bcast_S2x8x1x1_S2x8x128x128_0_1_2_3 (broadcastInDim S2x8x1x1 ![0, 1] bcast_S2x8_S2x8x1x1_0_1 (Host.exp g))) : FVec Ideal S2x8x128x128 .f32) (ix4 b h a e) : EReal)
      = s (ix4 b h a e) * Ideal.exp (g (ix2 b h)) := by
  pointwise

/-- The states after a token, of the decayed ones. -/
theorem update_at (S : FVec Ideal S2x8x128x128 .f32) (k v : FVec Ideal S2x8x128 .f32) (β : FVec Ideal S2x8 .f32) (b : Fin 2) (h : Fin 8) (a e : Fin 128) :
    ((addf S (mulf (broadcastInDim S2x8x128x128 ![0, 1, 2, 3] bcast_S2x8x128x1_S2x8x128x128_0_1_2_3 (broadcastInDim S2x8x128x1 ![0, 1, 2] bcast_S2x8x128_S2x8x128x1_0_1_2 k)) (broadcastInDim S2x8x128x128 ![0, 1, 2, 3] bcast_S2x8x1x128_S2x8x128x128_0_1_2_3 (broadcastInDim S2x8x1x128 ![0, 1, 3] bcast_S2x8x128_S2x8x1x128_0_1_3 (mulf (subf v (Host.dotGeneral dot_S2x8x128_S2x8x128x128_S2x8x128_2_2_n_3_01_01 none k S)) (broadcastInDim S2x8x128 ![0, 1, 2] bcast_S2x8x1_S2x8x128_0_1_2 (broadcastInDim S2x8x1 ![0, 1] bcast_S2x8_S2x8x1_0_1 β)))))) : FVec Ideal S2x8x128x128 .f32) (ix4 b h a e) : EReal)
      = S (ix4 b h a e) + k (ix3 b h a) * ((v (ix3 b h e) - ∑ x : Fin 128, k (ix3 b h x) * S (ix4 b h x e)) * β (ix2 b h)) := by
  pointwise

/-- The read of the states by a token's queries. -/
theorem read_at (q : FVec Ideal S2x8x128 .f32) (S : FVec Ideal S2x8x128x128 .f32) (b : Fin 2) (h : Fin 8) (e : Fin 128) :
    ((broadcastInDim S1x2x8x128 ![1, 2, 3] bcast_S2x8x128_S1x2x8x128_1_2_3 (Host.dotGeneral dot_S2x8x128_S2x8x128x128_S2x8x128_2_2_n_3_01_01 none q S) : FVec Ideal S1x2x8x128 .f32) (ix4 0 b h e) : EReal)
      = ∑ x : Fin 128, q (ix3 b h x) * S (ix4 b h x e) := by
  pointwise

variable (hn : n < 4096) (I : Inv D n V)

include hn I

theorem v32 (b : Fin 2) (h : Fin 8) (d : Fin 128) : ((res_main_while0b_v32 V : Vec Ideal S2x8x128 .f32) (ix3 b h d) : EReal) = ((D.keys b h n d : ℝ) : EReal) := by
  unfold res_main_while0b_v32
  exact (slice4 hn _ _ ((congrArg BitVec.toInt (congrFun I.ctr _)).trans (word_toInt hn)) rfl rfl rfl b h d).trans (I.k ⟨n, hn⟩ b h d)

theorem v39 (b : Fin 2) (h : Fin 8) (a e : Fin 128) : ((res_main_while0b_v39 V : Vec Ideal S2x8x128x128 .f32) (ix4 b h a e) : EReal)
    = ((D.state b h n a e * Real.exp (D.logs b h n) : ℝ) : EReal) := by
  unfold res_main_while0b_v39
  refine (decay_at _ _ b h a e).trans ?_
  rw [(slice3 hn _ _ ((congrArg BitVec.toInt (congrFun I.ctr _)).trans (word_toInt hn)) rfl rfl b h).trans (I.g ⟨n, hn⟩ b h), Ideal.exp_coe, EReal.coe_mul]
  exact congrArg (· * _) (I.s b h a e)

/-- One trip's states are one step of the recurrence. -/
theorem v50 (b : Fin 2) (h : Fin 8) (a e : Fin 128) : ((res_main_while0b_v50 V : Vec Ideal S2x8x128x128 .f32) (ix4 b h a e) : EReal)
    = ((D.state b h (n + 1) a e : ℝ) : EReal) := by
  unfold res_main_while0b_v50
  refine (update_at _ _ _ _ b h a e).trans ?_
  rw [(slice3 hn _ _ ((congrArg BitVec.toInt (congrFun I.ctr _)).trans (word_toInt hn)) rfl rfl b h).trans (I.β ⟨n, hn⟩ b h),
    (slice4 hn _ _ ((congrArg BitVec.toInt (congrFun I.ctr _)).trans (word_toInt hn)) rfl rfl rfl b h e).trans (I.v ⟨n, hn⟩ b h e)]
  simp only [v32 hn I, v39 hn I, ← EReal.coe_mul, coe_sum, ← EReal.coe_sub, ← EReal.coe_add]
  rfl

theorem step_out (t : Fin 4096) (b : Fin 2) (h : Fin 8) (e : Fin 128) (ht : t.val < n + 1) :
    ((step_main_v10_7 V : Vec Ideal S4096x2x8x128 .f32) (ix4 t b h e) : EReal) = ((D.out b h t.val e : ℝ) : EReal) := by
  unfold step_main_v10_7
  refine (update4 hn _ _ _ ((congrArg BitVec.toInt (congrFun I.ctr _)).trans (word_toInt hn)) rfl rfl rfl t b h e).trans ?_
  by_cases hc : t.val = n
  · rw [if_pos hc, hc]
    refine (read_at _ _ b h e).trans ?_
    refine (Finset.sum_congr rfl fun x _ => congrArg₂ (· * ·)
      ((slice4 hn _ _ ((congrArg BitVec.toInt (congrFun I.ctr _)).trans (word_toInt hn)) rfl rfl rfl b h x).trans (I.q ⟨n, hn⟩ b h x)) (v50 hn I b h x e)).trans ?_
    simp only [← EReal.coe_mul, coe_sum]
    rfl
  · rw [if_neg hc]
    exact I.o t b h e (by omega)

/-- One trip keeps the invariant. -/
theorem Inv.next : Inv D (n + 1) (STEP V) where
  ctr := by
    rw [STEP_main_v10_5]
    unfold step_main_v10_5
    rw [I.ctr]
    funext i
    show BitVec.ofNat 32 n + 1#32 = _
    rw [BitVec.ofNat_add]
  q := by rw [STEP_main_v10_0]; exact I.q
  k := by rw [STEP_main_v10_1]; exact I.k
  v := by rw [STEP_main_v10_2]; exact I.v
  g := by rw [STEP_main_v10_3]; exact I.g
  β := by rw [STEP_main_v10_4]; exact I.β
  s := by rw [STEP_main_v10_6]; exact v50 hn I
  o := by rw [STEP_main_v10_7]; exact fun t b h e ht => step_out hn I t b h e ht

omit hn I

/-- The invariant after every number of trips up to the last. -/
theorem Inv.iter (I : Inv D 0 V) : ∀ n, n ≤ 4096 → Inv D n (STEP^[n] V)
  | 0, _ => I
  | n + 1, h => by
    rw [Function.iterate_succ_apply']
    exact Inv.next (by omega) (Inv.iter I n (by omega))

end

/-- The reference's result of the loop's outputs. -/
theorem finish_at (o : FVec Ideal S4096x2x8x128 .f32) (z : FVec Ideal S8192x5120 .f32) (g : FVec Ideal S128 .f32) (b : Fin 2) (t : Fin 4096) (l : Fin 1024) :
    ((truncf .bf16 (shapeCast _ (mulf (mulf (mulf (transpose S2x4096x8x128 [1, 0, 2, 3] o transposes_S4096x2x8x128_S2x4096x8x128_1_0_2_3) (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf (transpose S2x4096x8x128 [1, 0, 2, 3] o transposes_S4096x2x8x128_S2x4096x8x128_1_0_2_3) (transpose S2x4096x8x128 [1, 0, 2, 3] o transposes_S4096x2x8x128_S2x4096x8x128_1_0_2_3)) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 g))) (mulf (shapeCast _ (extractStridedSlice S8192x1024 ![0, 3072] z slices_S8192x5120_S8192x1024_0_3072) shapeCasts_S8192x1024_S2x4096x8x128) (Host.divf (broadcastInDim S2x4096x8x128 ![] bcast_S_S2x4096x8x128 (constant S_ .f32 0x3F800000#32)) (addf (broadcastInDim S2x4096x8x128 ![] bcast_S_S2x4096x8x128 (constant S_ .f32 0x3F800000#32)) (Host.exp (Host.negf (shapeCast _ (extractStridedSlice S8192x1024 ![0, 3072] z slices_S8192x5120_S8192x1024_0_3072) shapeCasts_S8192x1024_S2x4096x8x128))))))) shapeCasts_S2x4096x8x128_S2x4096x1024) bitsLt_bf16_f32 : FVec Ideal S2x4096x1024 .bf16) (ix3 b t l) : EReal)
      = finAt (fun e => o (ix4 t b ⟨l.val / 128, by omega⟩ e)) (g (ix1 ⟨l.val % 128, by omega⟩)) (z (ix2 (row b t) ⟨3072 + l.val, by omega⟩)) ⟨l.val % 128, by omega⟩ := by
  unfold finAt
  have hr : ∀ hlt, (⟨b.val * 4096 + t.val, hlt⟩ : Fin 8192) = row b t := fun _ => Fin.ext (by show b.val * 4096 + t.val = 4096 * b.val + t.val; omega)
  pointwise
  simp only [hr, zero_sub]

variable {D : Data} (m : (ℓ : Loc nD τ sig) → Buf (Elt Ideal) ℓ) (c : Dev nD)

/-- A mixer's rows, split into heads, tokens first: row `b, t`, place `h, d`. -/
theorem heads_at (x : FVec Ideal S8192x1024 .f32) (t : Fin 4096) (b : Fin 2) (h : Fin 8) (d : Fin 128) :
    (transpose S4096x2x8x128 [1, 0, 2, 3] (shapeCast S2x4096x8x128 x shapeCasts_S8192x1024_S2x4096x8x128) transposes_S2x4096x8x128_S4096x2x8x128_1_0_2_3 (ix4 t b h d) : EReal)
      = x (ix2 (row b t) (lane h d)) := by
  have hr : ∀ hlt, (⟨b.val * 4096 + t.val, hlt⟩ : Fin 8192) = row b t := fun _ => Fin.ext (by show b.val * 4096 + t.val = 4096 * b.val + t.val; omega)
  have hl : ∀ hlt, (⟨h.val * 128 + d.val, hlt⟩ : Fin 1024) = lane h d := fun _ => Fin.ext (by show h.val * 128 + d.val = 128 * h.val + d.val; omega)
  pointwise
  simp only [hr, hl]

/-- The gates, tokens first. -/
theorem gates_at (x : FVec Ideal S2x4096x8 .f32) (t : Fin 4096) (b : Fin 2) (h : Fin 8) :
    (transpose S4096x2x8 [1, 0, 2] x transposes_S2x4096x8_S4096x2x8_1_0_2 (ix3 t b h) : EReal) = x (ix3 b t h) := by
  pointwise

theorem entry_0 (t : Fin 4096) (b : Fin 2) (h : Fin 8) (d : Fin 128) :
    ((entryContents preI m c (Proc.devRef .tc main_v10_0) : FVec Ideal S4096x2x8x128 .f32) (ix4 t b h d) : EReal)
      = (m ((c.tc : Thread nD τ).loc main_arg0) : FVec Ideal S8192x1024 .f32) (ix2 (row b t) (lane h d)) := by
  simp only [entryContents, afterL_cons, afterL_nil]
  after_reads_simp
  exact heads_at _ t b h d

theorem entry_1 (t : Fin 4096) (b : Fin 2) (h : Fin 8) (d : Fin 128) :
    ((entryContents preI m c (Proc.devRef .tc main_v10_1) : FVec Ideal S4096x2x8x128 .f32) (ix4 t b h d) : EReal)
      = (m ((c.tc : Thread nD τ).loc main_arg1) : FVec Ideal S8192x1024 .f32) (ix2 (row b t) (lane h d)) := by
  simp only [entryContents, afterL_cons, afterL_nil]
  after_reads_simp
  exact heads_at _ t b h d

theorem entry_2 (t : Fin 4096) (b : Fin 2) (h : Fin 8) (d : Fin 128) :
    ((entryContents preI m c (Proc.devRef .tc main_v10_2) : FVec Ideal S4096x2x8x128 .f32) (ix4 t b h d) : EReal)
      = (m ((c.tc : Thread nD τ).loc main_arg2) : FVec Ideal S8192x1024 .f32) (ix2 (row b t) (lane h d)) := by
  simp only [entryContents, afterL_cons, afterL_nil]
  after_reads_simp
  exact heads_at _ t b h d

theorem entry_3 (t : Fin 4096) (b : Fin 2) (h : Fin 8) :
    ((entryContents preI m c (Proc.devRef .tc main_v10_3) : FVec Ideal S4096x2x8 .f32) (ix3 t b h) : EReal)
      = (m ((c.tc : Thread nD τ).loc main_arg4) : FVec Ideal S2x4096x8 .f32) (ix3 b t h) := by
  simp only [entryContents, afterL_cons, afterL_nil]
  after_reads_simp
  exact gates_at _ t b h

theorem entry_4 (t : Fin 4096) (b : Fin 2) (h : Fin 8) :
    ((entryContents preI m c (Proc.devRef .tc main_v10_4) : FVec Ideal S4096x2x8 .f32) (ix3 t b h) : EReal)
      = (m ((c.tc : Thread nD τ).loc main_arg5) : FVec Ideal S2x4096x8 .f32) (ix3 b t h) := by
  simp only [entryContents, afterL_cons, afterL_nil]
  after_reads_simp
  exact gates_at _ t b h

theorem entry_6 (b : Fin 2) (h : Fin 8) (a e : Fin 128) :
    ((entryContents preI m c (Proc.devRef .tc main_v10_6) : FVec Ideal S2x8x128x128 .f32) (ix4 b h a e) : EReal) = (0 : EReal) := by
  simp only [entryContents, afterL_cons, afterL_nil]
  after_reads_simp
  show ((broadcastInDim S2x8x128x128 ![] bcast_S_S2x8x128x128 (constant S_ .f32 0x00000000#32) : FVec Ideal S2x8x128x128 .f32) (ix4 b h a e) : EReal) = (0 : EReal)
  pointwise

/-- The arguments of the reference's memory at device `c` are the real numbers of `D`. -/
structure Holds (D : Data) : Prop where
  q : ∀ r l, ((m ((c.tc : Thread nD τ).loc main_arg0) : FVec Ideal S8192x1024 .f32) (ix2 r l) : EReal) = ((D.q r l : ℝ) : EReal)
  k : ∀ r l, ((m ((c.tc : Thread nD τ).loc main_arg1) : FVec Ideal S8192x1024 .f32) (ix2 r l) : EReal) = ((D.k r l : ℝ) : EReal)
  v : ∀ r l, ((m ((c.tc : Thread nD τ).loc main_arg2) : FVec Ideal S8192x1024 .f32) (ix2 r l) : EReal) = ((D.v r l : ℝ) : EReal)
  g : ∀ b n h, ((m ((c.tc : Thread nD τ).loc main_arg4) : FVec Ideal S2x4096x8 .f32) (ix3 b n h) : EReal) = ((D.g b n h : ℝ) : EReal)
  β : ∀ b n h, ((m ((c.tc : Thread nD τ).loc main_arg5) : FVec Ideal S2x4096x8 .f32) (ix3 b n h) : EReal) = ((D.β b n h : ℝ) : EReal)

variable {m c}

theorem tok_val (t : Fin 4096) : tok t.val = t := Cert.DeltaRule.tok_val t

/-- The invariant at the loop's entry. -/
theorem inv_entry (H : Holds m c D) : Inv D 0 (entryContents preI m c) where
  ctr := ctr_entry m c
  q t b h d := by rw [entry_0, H.q]; unfold Data.queries; rw [tok_val]
  k t b h d := by rw [entry_1, H.k]; unfold Data.keys; rw [tok_val]
  v t b h d := by rw [entry_2, H.v]; unfold Data.vals; rw [tok_val]
  g t b h := by rw [entry_3, H.g]; unfold Data.logs; rw [tok_val]
  β t b h := by rw [entry_4, H.β]; unfold Data.rates; rw [tok_val]
  s b h a e := (entry_6 m c b h a e).trans EReal.coe_zero.symm
  o t b h e ht := absurd ht (Nat.not_lt_zero _)

/-- The reference's result at batch `b`, token `t`, place `l`. -/
theorem result_at (H : Holds m c D) (b : Fin 2) (t : Fin 4096) (l : Fin 1024) :
    ((out_main_v30 (STEP^[4096] (entryContents preI m c)) : FVec Ideal S2x4096x1024 .bf16) (ix3 b t l) : EReal)
      = finAt (fun e => ((D.out b ⟨l.val / 128, by omega⟩ t.val e : ℝ) : EReal)) ((m ((c.tc : Thread nD τ).loc main_arg6) : FVec Ideal S128 .f32) (ix1 ⟨l.val % 128, by omega⟩))
          ((m ((c.tc : Thread nD τ).loc main_arg3) : FVec Ideal S8192x5120 .f32) (ix2 (row b t) ⟨3072 + l.val, by omega⟩)) ⟨l.val % 128, by omega⟩ := by
  unfold out_main_v30
  refine (finish_at _ _ _ b t l).trans ?_
  have J := Inv.iter (inv_entry H) 4096 le_rfl
  have h3 : STEP^[4096] (entryContents preI m c) (Proc.devRef .tc main_arg3) = m ((c.tc : Thread nD τ).loc main_arg3) := iter_main_arg3 m c 4096
  have h6 : STEP^[4096] (entryContents preI m c) (Proc.devRef .tc main_arg6) = m ((c.tc : Thread nD τ).loc main_arg6) := iter_main_arg6 m c 4096
  rw [h3, h6]
  exact congrArg (fun o => finAt o _ _ _) (funext fun e => J.o t b _ e t.isLt)

end Cert.ReferenceIdeal.Loop
end
-- ==== Proof.GdnTie.lean ====
/- The recurrence's kernel against its reference: arguments without infinities give both the same result at every index. -/
module

public import proofs.«01_k».proof.Defs
public import proofs.«01_k».proof.Proof.GdnFold
public import proofs.«01_k».proof.Proof.GdnRef
public import Idealize.ShloMosaic.Lib.ReduceAll
public import Idealize.ShloMosaic.Lib.Pointwise

@[expose] public section

set_option maxRecDepth 16384

noncomputable section

namespace Cert.Recurrence

open Idealize.ShloMosaic Idealize.ShloMosaic.TcCoe Idealize.SL.Sem
open Cert.DeltaRule (Data)

/-- The shape relations that the precondition's operations take. -/
theorem pre_facts : Cert.Pre_finite.Facts where
  bcast_S_S8192x1024 := by decide
  reducesTo_S8192x1024_S_d0_1 := by decide
  h_S_ := by decide
  bcast_S_S2x4096x8 := by decide
  reducesTo_S2x4096x8_S_d0_1_2 := by decide

/-- A number whose magnitude is below the infinity is a real number. -/
theorem real_of_below (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  have hlt : max x (-x) < ⊤ := by rw [← htop]; exact (Ideal.cmp_olt_eq_one _ _).1 h
  obtain ⟨h1, h2⟩ := max_lt_iff.1 hlt
  refine (EReal.coe_toReal h1.ne ?_).symm
  rintro rfl
  exact absurd h2 (by simp)

/-- The precondition's test of one array, read: every element is a real number. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hs : 0 < Cert.Pre_finite.S_.numel) (j : Cert.Pre_finite.S_.Idx)
    (e : Host.reduce IntOp.andi (cmpf .olt (Host.absf x) (broadcastInDim s ![] hb (constant Cert.Pre_finite.S_ .f32 0x7F800000#32))) (constantI Cert.Pre_finite.S_ 1 1#1) hr hs j = 1#1)
    (i : s.Idx) : (x i : EReal) = (((x i : EReal).toReal : ℝ) : EReal) := by
  haveI : Subsingleton Cert.Pre_finite.S_.Idx := ⟨fun a b => funext fun i => i.elim0⟩
  exact real_of_below _ (Host.reduce_andi_all _ _ hr hs j e i)

open Cert.Pre_finite in
/-- Under the precondition every element of the five arrays that enter the recurrence is a real number. -/
theorem args_real [Cert.Pre_finite.Facts] (a0 a1 a2 : FVec Ideal S8192x1024 .f32) (a3 : FVec Ideal S8192x5120 .f32) (a4 a5 : FVec Ideal S2x4096x8 .f32) (a6 : FVec Ideal S128 .f32)
    (h : fn (F := Ideal) a0 a1 a2 a3 a4 a5 a6 = fun _ => 1#1) :
    (∀ i, (a0 i : EReal) = (((a0 i : EReal).toReal : ℝ) : EReal)) ∧ (∀ i, (a1 i : EReal) = (((a1 i : EReal).toReal : ℝ) : EReal))
      ∧ (∀ i, (a2 i : EReal) = (((a2 i : EReal).toReal : ℝ) : EReal)) ∧ (∀ i, (a4 i : EReal) = (((a4 i : EReal).toReal : ℝ) : EReal))
      ∧ (∀ i, (a5 i : EReal) = (((a5 i : EReal).toReal : ℝ) : EReal)) := by
  have e := congrFun h (fun i => i.elim0)
  simp only [fn, fn_part1, andi, IntOp.andi_eq_one] at e
  obtain ⟨⟨⟨⟨e0, e1⟩, e2⟩, e4⟩, e5⟩ := e
  exact ⟨all_real _ _ _ _ _ e0, all_real _ _ _ _ _ e1, all_real _ _ _ _ _ e2, all_real _ _ _ _ _ e4, all_real _ _ _ _ _ e5⟩

section

variable (m : (ℓ : Loc Cert.KernelIdeal.nD Cert.KernelIdeal.τ Cert.KernelIdeal.sig) → Buf (Elt Ideal) ℓ) (c : Dev Cert.KernelIdeal.nD)

open Cert.KernelIdeal.Unit in
/-- The real numbers of a memory's arguments. -/
def dataOf : Data where
  q r l := (argQ m c (ix2 r l) : EReal).toReal
  k r l := (argK m c (ix2 r l) : EReal).toReal
  v r l := (argV m c (ix2 r l) : EReal).toReal
  g b n h := (argG m c (ix3 b n h) : EReal).toReal
  β b n h := (argB m c (ix3 b n h) : EReal).toReal

/-- Under the precondition a memory's arguments are those real numbers. -/
theorem holds [Cert.Pre_finite.Facts] (h : Cert.Pre_KernelIdeal_finite m) : Cert.KernelIdeal.Unit.Holds m c (dataOf m c) := by
  obtain ⟨h0, h1, h2, h4, h5⟩ := args_real _ _ _ _ _ _ _ (h c)
  exact ⟨fun r l => h0 _, fun r l => h1 _, fun r l => h2 _, fun b n x => h4 _, fun b n x => h5 _⟩

/-- The two result arrays are one, for arguments that agree and hold no infinity. -/
theorem results_agree [Cert.Pre_finite.Facts] (h : Cert.Pre_KernelIdeal_finite m)
    (m' : (ℓ : Loc Cert.ReferenceIdeal.nD Cert.ReferenceIdeal.τ Cert.ReferenceIdeal.sig) → Buf (Elt Ideal) ℓ)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (i : Cert.KernelIdeal.S2x4096x1024.Idx) :
    ((Cert.ReferenceIdeal.Value.out_main_v30 (Cert.ReferenceIdeal.Value.STEP^[4096] (StableHlo.entryContents Cert.ReferenceIdeal.Value.preI m' c)) : FVec Ideal Cert.ReferenceIdeal.S2x4096x1024 .bf16) i : EReal)
      = (Cert.KernelIdeal.Value.G7 m c : FVec Ideal Cert.KernelIdeal.S2x4096x1024 .bf16) i := by
  obtain ⟨b, n, l, rfl⟩ : ∃ b n l, i = ix3 b n l := ⟨i 0, i 1, i 2, eq_ix3 i⟩
  have H := holds m c h
  have H' : Cert.ReferenceIdeal.Loop.Holds m' c (dataOf m c) :=
    ⟨by rw [e0]; exact H.q, by rw [e1]; exact H.k, by rw [e2]; exact H.v, by rw [e4]; exact H.g, by rw [e5]; exact H.β⟩
  refine (Cert.ReferenceIdeal.Loop.result_at H' b n l).trans ?_
  rw [e3, e6]
  exact (Cert.KernelIdeal.Unit.result_at H b n l).symm

end

end Cert.Recurrence

end
-- ==== Proof.InProjValue.lean ====
/- The input projection's result array at the ideal instance: every place is the row times one column of the weight, the
   columns taken in the kernel's order, the last ninety-six of them zero. -/
module

public import proofs.«01_k».proof.Proof.Gen.InProjIdeal.Value
public import proofs.«01_k».proof.Proof.Gen.InProjReferenceIdeal.Read
public import Idealize.ShloMosaic.Lib.Pipeline.ValueKit
public import Idealize.ShloMosaic.Lib.StableHlo.ReadAt
public import Idealize.ShloMosaic.Lib.Pointwise

@[expose] public section

set_option maxRecDepth 16384

noncomputable section

namespace Cert.InProjIdeal.Columns

open Cert.InProjIdeal Cert.InProjIdeal.Gen Idealize.ShloMosaic Idealize.ShloMosaic.TcCoe Idealize.SL.Sem

/-- Two places of one row with the same column. -/
theorem at_same {n0 n1 : Nat} {a : Fin n0} {b b' : Fin n1} (h : b.val = b'.val) : ix2 a b = ix2 a b' := by
  rw [Fin.ext h]

/-- The body's result block: a row of the block times a column of the two weight arrays side by side. -/
theorem block_apply (x0 : Vec Ideal S512x2048 .f32) (x1 : Vec Ideal S2048x4096 .bf16) (x2 : Vec Ideal S2048x1024 .bf16)
    (r : Fin 512) (j : Fin 5120) :
    (out0_3 x0 x1 x2 (ix2 r j) : EReal)
      = ∑ k : Fin 2048, x0 (ix2 r k) * (if h : j.val < 4096 then x1 (ix2 k ⟨j.val, h⟩) else x2 (ix2 k ⟨j.val - 4096, by omega⟩) : EReal) := by
  unfold out0_3
  canon_tiles x h
  all_goals
    obtain ⟨a, b, rfl⟩ : ∃ a b, x = ix2 a b := ⟨x 0, x 1, eq_ix2 x⟩
    have e0 : r.val = a.val := h0
    obtain rfl : r = a := Fin.ext e0
    unfold_payloads
    pointwise
    have e1 := h1
    simp only [show (ix2 r j 1 : Fin 5120).val = j.val from rfl, show (ix2 r b 1 : Fin 1024).val = b.val from rfl] at e1
    have hb := b.isLt
    refine Finset.sum_congr rfl fun k _ => congrArg (fun z : EReal => x0 (ix2 r k) * z) ?_
    split_ifs with hc <;> first
      | (exfalso; omega)
      | (refine congrArg x1 (at_same ?_); (try dsimp only); omega)
      | (refine congrArg x2 (at_same ?_); (try dsimp only); omega)

variable (m : (ℓ : Loc nD τ sig) → Buf (Elt Ideal) ℓ) (c : Dev nD)

/-- The rows. -/
def argH : Vec Ideal S8192x2048 .f32 := m (c, Proc.tc.devRef main_arg0)
/-- The weight. -/
def argW : Vec Ideal S2048x5024 .f32 := m (c, Proc.tc.devRef main_arg1)

/-- The columns before the last thousand. -/
theorem V_front (k : Fin 2048) (j : Fin 4096) :
    (Gen.V m c main_v6 : Vec Ideal S2048x4096 .bf16) (ix2 k j) = argW m c (ix2 k ⟨912 + j.val, by omega⟩) := by
  unfold Gen.V
  simp only [List.flatten_cons, List.flatten_nil, hostOps0, List.cons_append, List.nil_append, List.append_nil]
  after_reads_at
  rfl

/-- The last thousand columns. -/
theorem V_back (k : Fin 2048) (j : Fin 1024) :
    (Gen.V m c main_v5 : Vec Ideal S2048x1024 .bf16) (ix2 k j)
      = (if h : j.val < 912 then argW m c (ix2 k ⟨j.val, by omega⟩)
        else if h : j.val < 928 then argW m c (ix2 k ⟨j.val + 4096, by omega⟩) else 0 : EReal) := by
  unfold Gen.V
  simp only [List.flatten_cons, List.flatten_nil, hostOps0, List.cons_append, List.nil_append, List.append_nil]
  after_reads_at
  simp only [StableHlo.upto, List.take]
  have hj := j.isLt
  split_ifs <;> (try (exfalso; omega)) <;> after_reads_at
  all_goals first
    | rw [dif_pos (show j.val < 912 by omega)]
    | rw [dif_neg (show ¬j.val < 912 by omega), dif_pos (show j.val < 928 by omega)]
    | rw [dif_neg (show ¬j.val < 912 by omega), dif_neg (show ¬j.val < 928 by omega)]
  all_goals first
    | rfl
    | (refine congrArg (argW m c) (at_same ?_); (try dsimp only); omega)

/-- The weight's columns in the kernel's order. -/
def column (w : Vec Ideal S2048x5024 .f32) (k : Fin 2048) (j : Fin 5120) : EReal :=
  if h : j.val < 4096 then w (ix2 k ⟨912 + j.val, by omega⟩)
  else if h : j.val < 5008 then w (ix2 k ⟨j.val - 4096, by omega⟩)
  else if h : j.val < 5024 then w (ix2 k ⟨j.val, by omega⟩) else 0

/-- Where each block of a grid point lies. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The result array: each place a row times a column. -/
def product (x : Vec Ideal S8192x2048 .f32) (w : Vec Ideal S2048x5024 .f32) (i : S8192x5120.Idx) : EReal :=
  ∑ k : Fin 2048, x (ix2 (i 0) k) * column w k (i 1)

theorem result_array : (dats m 0 c).arrAt 3 cfg0.N = product (argH m c) (argW m c) := by
  refine (dats m 0 c).arrAt_eq_of_covers 3 _ (by decide +kernel) fun t hf y => ?_
  blk_simp
  rw [after0_3]
  obtain ⟨r, j, rfl⟩ : ∃ r j, y = ix2 r j := ⟨y 0, y 1, eq_ix2 y⟩
  have ht : t.val < 16 := lt_of_lt_of_eq t.isLt (by decide)
  have hj := j.isLt
  have e : (win0_3.blk t).view.emb (ix2 r j) = ix2 (⟨t.val * 512 + r.val, by omega⟩ : Fin 8192) j := by
    blk_ext [idx t]
  rw [e]
  refine (block_apply (iblk m c 0 t) (iblk m c 1 t) (iblk m c 2 t) r j).trans ?_
  refine Finset.sum_congr rfl fun k _ => congrArg₂ (fun y z : EReal => y * z) ?_ ?_
  · show _ = argH m c _
    unfold argH
    blk_ext [iblk, V, idx t]
  · show _ = column (argW m c) k j
    unfold column
    have h1 : ∀ j' : Fin 4096, (iblk m c 1 t : Vec Ideal S2048x4096 .bf16) (ix2 k j') = (Gen.V m c main_v6 : Vec Ideal S2048x4096 .bf16) (ix2 k j') := by
      intro j'
      blk_ext [iblk, idx t]
    have h2 : ∀ j' : Fin 1024, (iblk m c 2 t : Vec Ideal S2048x1024 .bf16) (ix2 k j') = (Gen.V m c main_v5 : Vec Ideal S2048x1024 .bf16) (ix2 k j') := by
      intro j'
      blk_ext [iblk, idx t]
    by_cases hc : j.val < 4096
    · rw [dif_pos hc, dif_pos hc]
      exact (h1 _).trans (V_front m c k _)
    rw [dif_neg hc, dif_neg hc]
    refine ((h2 _).trans (V_back m c k _)).trans ?_
    dsimp only
    split_ifs <;> first
      | (exfalso; omega)
      | rfl
      | (refine congrArg (argW m c) (at_same ?_); (try dsimp only); omega)

/-- The reference's result: the same products. -/
theorem reference_apply (x0 : Vec Ideal Cert.InProjReferenceIdeal.S8192x2048 .f32) (x1 : Vec Ideal Cert.InProjReferenceIdeal.S2048x5024 .f32)
    (r : Fin 8192) (j : Fin 5120) :
    (Cert.InProjReferenceIdeal.Read.val_main_v8 (F := Ideal) x0 x1 (ix2 r j) : EReal) = product x0 x1 (ix2 r j) := by
  pointwise [Cert.InProjReferenceIdeal.Read.val_main_v8, Cert.InProjReferenceIdeal.Read.val_main_v7, Cert.InProjReferenceIdeal.Read.val_main_v6, Cert.InProjReferenceIdeal.Read.val_main_v5,
    Cert.InProjReferenceIdeal.Read.val_main_v4, Cert.InProjReferenceIdeal.Read.val_main_v3, Cert.InProjReferenceIdeal.Read.val_main_v2, Cert.InProjReferenceIdeal.Read.val_main_v1,
    Cert.InProjReferenceIdeal.Read.val_main_v0, Cert.InProjReferenceIdeal.Read.val_main_cst]
  show _ = ∑ k : Fin 2048, x0 (ix2 r k) * column x1 k j
  unfold column
  have hj := j.isLt
  split_ifs
  all_goals try (exfalso; omega)
  all_goals try (simp only [mul_zero, Finset.sum_const_zero]; done)
  all_goals
    refine Finset.sum_congr rfl fun k _ => congrArg (fun z : EReal => x0 (ix2 r k) * z) ?_
    first
      | rw [dif_pos (show j.val < 5008 by omega)]
      | rw [dif_neg (show ¬j.val < 5008 by omega), dif_pos (show j.val < 5024 by omega)]
      | skip
    all_goals (refine congrArg x1 (at_same ?_); (try dsimp only); omega)

end Cert.InProjIdeal.Columns

end
-- ==== Proof.OutLnValue.lean ====
/- The output projection's result array at the ideal instance: every row is the layer norm of the weighted input row plus
   the two branches' rows times the two halves of the weight. -/
module

public import proofs.«01_k».proof.Proof.FfnValue
public import proofs.«01_k».proof.Proof.Gen.OutLnIdeal.Value
public import proofs.«01_k».proof.Proof.Gen.OutLnReferenceIdeal.Read
public import Idealize.ShloMosaic.Lib.Pipeline.ValueKit
public import Idealize.ShloMosaic.Lib.StableHlo.ReadAt
public import Idealize.ShloMosaic.Lib.Pointwise

@[expose] public section

set_option maxRecDepth 16384

noncomputable section

namespace Cert.OutLnIdeal.Rows

open Cert.OutLnIdeal Cert.OutLnIdeal.Gen Idealize.ShloMosaic Idealize.ShloMosaic.TcCoe Idealize.SL.Sem
open Cert.FfnIdeal.Steps (layerNorm mean)

/-- The row before normalisation: the weighted input row plus each branch's row times its half of the weight. -/
def joined (x : Fin 2048 → EReal) (a b : Fin 1024 → EReal) (wa wb : Fin 1024 → Fin 2048 → EReal) (j : Fin 2048) : EReal :=
  Ideal.ofBits .f32 1066940400#32 * x j + (∑ k, a k * wa k j + ∑ k, b k * wb k j)

/-- The body's result block: each row's layer norm of its joined row. -/
theorem block_apply (x0 : Vec Ideal S1024x2048 .f32) (x1 x2 : Vec Ideal S1024x1024 .bf16) (x3 x4 : Vec Ideal S1024x2048 .bf16)
    (x5 x6 : Vec Ideal S1x2048 .f32) (r : Fin 1024) (j : Fin 2048) :
    (out0_7 x0 x1 x2 x3 x4 x5 x6 (ix2 r j) : EReal)
      = layerNorm (joined (fun k => x0 (ix2 r k)) (fun k => x1 (ix2 r k)) (fun k => x2 (ix2 r k)) (fun k i => x3 (ix2 k i))
          (fun k i => x4 (ix2 k i))) (x5 (ix2 0 j)) (x6 (ix2 0 j)) j := by
  unfold_out out0_7
  canon_tiles x h
  all_goals
    obtain ⟨a, b, rfl⟩ : ∃ a b, x = ix2 a b := ⟨x 0, x 1, eq_ix2 x⟩
    have e1 : j.val = b.val := h1
    obtain rfl : j = b := Fin.ext e1
  case piece0 =>
    rw [show r = ⟨768 + a.val, by have := a.isLt; omega⟩ from Fin.ext h0]
    unfold_payloads
    pointwise
    simp only [layerNorm, mean, joined]
  case piece1 =>
    rw [show r = ⟨512 + a.val, by have := a.isLt; omega⟩ from Fin.ext h0]
    unfold_payloads
    pointwise
    simp only [layerNorm, mean, joined]
  case piece2 =>
    rw [show r = ⟨256 + a.val, by have := a.isLt; omega⟩ from Fin.ext h0]
    unfold_payloads
    pointwise
    simp only [layerNorm, mean, joined]
  case piece3 =>
    rw [show r = ⟨a.val, by have := a.isLt; omega⟩ from Fin.ext h0]
    unfold_payloads
    pointwise
    simp only [layerNorm, mean, joined]

variable (m : (ℓ : Loc nD τ sig) → Buf (Elt Ideal) ℓ) (c : Dev nD)

/-- The input rows. -/
def argH : Vec Ideal S8192x2048 .f32 := m (c, Proc.tc.devRef main_arg0)
/-- The first branch's rows. -/
def argA : Vec Ideal S8192x1024 .bf16 := m (c, Proc.tc.devRef main_arg1)
/-- The second branch's rows. -/
def argB : Vec Ideal S8192x1024 .bf16 := m (c, Proc.tc.devRef main_arg2)
/-- The weight. -/
def argW : Vec Ideal S2048x2048 .f32 := m (c, Proc.tc.devRef main_arg3)
/-- The norm's gain. -/
def argG : Vec Ideal S2048 .f32 := m (c, Proc.tc.devRef main_arg4)
/-- The norm's bias. -/
def argC : Vec Ideal S2048 .f32 := m (c, Proc.tc.devRef main_arg5)

theorem V_w (k j : Fin 2048) : (Gen.V m c main_v0 : Vec Ideal S2048x2048 .bf16) (ix2 k j) = argW m c (ix2 k j) := by
  unfold Gen.V
  simp only [List.flatten_cons, List.flatten_nil, hostOps0, List.cons_append, List.nil_append, List.append_nil]
  after_reads_at
  rfl

theorem V_gain (j : Fin 2048) : (Gen.V m c main_v1 : Vec Ideal S1x2048 .f32) (ix2 0 j) = argG m c (ix1 j) := by
  unfold Gen.V
  simp only [List.flatten_cons, List.flatten_nil, hostOps0, List.cons_append, List.nil_append, List.append_nil]
  after_reads_at
  rfl

theorem V_bias (j : Fin 2048) : (Gen.V m c main_v2 : Vec Ideal S1x2048 .f32) (ix2 0 j) = argC m c (ix1 j) := by
  unfold Gen.V
  simp only [List.flatten_cons, List.flatten_nil, hostOps0, List.cons_append, List.nil_append, List.append_nil]
  after_reads_at
  rfl

/-- Where each block of a grid point lies. -/
theorem idx : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![0, 0] ∧ win0_6.index t = ![0, 0]
    ∧ win0_7.index t = ![t.val, 0] :=
  (by decide +kernel : ∀ t : Fin grid0.N, _)

/-- The result array: each row the layer norm of its joined row. -/
def rows (x : Vec Ideal S8192x2048 .f32) (a b : Vec Ideal S8192x1024 .bf16) (w : Vec Ideal S2048x2048 .f32) (g s : Vec Ideal S2048 .f32)
    (i : S8192x2048.Idx) : EReal :=
  layerNorm (joined (fun k => x (ix2 (i 0) k)) (fun k => a (ix2 (i 0) k)) (fun k => b (ix2 (i 0) k))
    (fun k l => w (ix2 ⟨k.val, by omega⟩ l)) (fun k l => w (ix2 ⟨1024 + k.val, by omega⟩ l))) (g (ix1 (i 1))) (s (ix1 (i 1))) (i 1)

theorem result_array : (dats m 0 c).arrAt 7 cfg0.N = rows (argH m c) (argA m c) (argB m c) (argW m c) (argG m c) (argC m c) := by
  refine (dats m 0 c).arrAt_eq_of_covers 7 _ (by decide +kernel) fun t hf y => ?_
  blk_simp
  rw [after0_7]
  obtain ⟨r, j, rfl⟩ : ∃ r j, y = ix2 r j := ⟨y 0, y 1, eq_ix2 y⟩
  have ht : t.val < 8 := lt_of_lt_of_eq t.isLt (by decide)
  have e : (win0_7.blk t).view.emb (ix2 r j) = ix2 (⟨t.val * 1024 + r.val, by omega⟩ : Fin 8192) j := by
    blk_ext [idx t]
  rw [e]
  refine (block_apply (iblk m c 0 t) (iblk m c 1 t) (iblk m c 2 t) (iblk m c 3 t) (iblk m c 4 t) (iblk m c 5 t) (iblk m c 6 t) r j).trans ?_
  have h0 : ∀ k : Fin 2048, (iblk m c 0 t : Vec Ideal S1024x2048 .f32) (ix2 r k) = argH m c (ix2 (⟨t.val * 1024 + r.val, by omega⟩ : Fin 8192) k) := by
    intro k
    unfold argH
    blk_ext [iblk, V, idx t]
  have h1 : ∀ k : Fin 1024, (iblk m c 1 t : Vec Ideal S1024x1024 .bf16) (ix2 r k) = argA m c (ix2 (⟨t.val * 1024 + r.val, by omega⟩ : Fin 8192) k) := by
    intro k
    unfold argA
    blk_ext [iblk, V, idx t]
  have h2 : ∀ k : Fin 1024, (iblk m c 2 t : Vec Ideal S1024x1024 .bf16) (ix2 r k) = argB m c (ix2 (⟨t.val * 1024 + r.val, by omega⟩ : Fin 8192) k) := by
    intro k
    unfold argB
    blk_ext [iblk, V, idx t]
  have h3 : ∀ (k : Fin 1024) (l : Fin 2048), (iblk m c 3 t : Vec Ideal S1024x2048 .bf16) (ix2 k l) = (Gen.V m c main_v0 : Vec Ideal S2048x2048 .bf16) (ix2 ⟨k.val, by omega⟩ l) := by
    intro k l
    blk_ext [iblk, idx t]
  have h4 : ∀ (k : Fin 1024) (l : Fin 2048), (iblk m c 4 t : Vec Ideal S1024x2048 .bf16) (ix2 k l) = (Gen.V m c main_v0 : Vec Ideal S2048x2048 .bf16) (ix2 ⟨1024 + k.val, by omega⟩ l) := by
    intro k l
    blk_ext [iblk, idx t]
  have h5 : (iblk m c 5 t : Vec Ideal S1x2048 .f32) (ix2 0 j) = (Gen.V m c main_v1 : Vec Ideal S1x2048 .f32) (ix2 0 j) := by
    blk_ext [iblk, idx t]
  have h6 : (iblk m c 6 t : Vec Ideal S1x2048 .f32) (ix2 0 j) = (Gen.V m c main_v2 : Vec Ideal S1x2048 .f32) (ix2 0 j) := by
    blk_ext [iblk, idx t]
  show _ = layerNorm (joined (fun k => argH m c (ix2 (⟨t.val * 1024 + r.val, by omega⟩ : Fin 8192) k)) (fun k => argA m c (ix2 (⟨t.val * 1024 + r.val, by omega⟩ : Fin 8192) k))
    (fun k => argB m c (ix2 (⟨t.val * 1024 + r.val, by omega⟩ : Fin 8192) k))
    (fun k l => argW m c (ix2 ⟨k.val, by omega⟩ l)) (fun k l => argW m c (ix2 ⟨1024 + k.val, by omega⟩ l))) (argG m c (ix1 j)) (argC m c (ix1 j)) j
  rw [h5.trans (V_gain m c j), h6.trans (V_bias m c j), funext h0, funext h1, funext h2,
    funext fun k => funext fun l => (h3 k l).trans (V_w m c _ l), funext fun k => funext fun l => (h4 k l).trans (V_w m c _ l)]

/-- A sum over 2048 places is the sums over its two halves. -/
theorem sum_halves (f : Fin 2048 → EReal) :
    ∑ k, f k = ∑ k : Fin 1024, f ⟨k.val, by omega⟩ + ∑ k : Fin 1024, f ⟨1024 + k.val, by omega⟩ :=
  Fin.sum_univ_add (M := EReal) (a := 1024) (b := 1024) f

open Cert.OutLnReferenceIdeal.Read in
/-- The reference's result: the same rows. -/
theorem reference_apply (x0 : Vec Ideal Cert.OutLnReferenceIdeal.S8192x2048 .f32) (x1 x2 : Vec Ideal Cert.OutLnReferenceIdeal.S8192x1024 .bf16)
    (x3 : Vec Ideal Cert.OutLnReferenceIdeal.S2048x2048 .f32) (x4 x5 : Vec Ideal Cert.OutLnReferenceIdeal.S2048 .f32) (r : Fin 8192) (j : Fin 2048) :
    (val_main_v28 (F := Ideal) x0 x1 x2 x3 x4 x5 (ix2 r j) : EReal) = rows x0 x1 x2 x3 x4 x5 (ix2 r j) := by
  have hmix : ∀ j : Fin 2048, (val_main_v6 (F := Ideal) x0 x1 x2 x3 (ix2 r j) : EReal)
      = joined (fun k => x0 (ix2 r k)) (fun k => x1 (ix2 r k)) (fun k => x2 (ix2 r k))
          (fun k l => x3 (ix2 ⟨k.val, by omega⟩ l)) (fun k l => x3 (ix2 ⟨1024 + k.val, by omega⟩ l)) j := by
    intro j
    have hcat : ∀ k : Fin 2048, (val_main_v2 (F := Ideal) x1 x2 (ix2 r k) : EReal)
        = if h : k.val < 1024 then x1 (ix2 r ⟨k.val, h⟩) else x2 (ix2 r ⟨k.val - 1024, by omega⟩) := by
      intro k
      pointwise [val_main_v2, val_main_v1, val_main_v0]
    pointwise [val_main_v6, val_main_v5, val_main_v4, val_main_cst, val_main_v3]
    unfold joined
    refine congrArg (fun z : EReal => Ideal.ofBits .f32 1066940400#32 * x0 (ix2 r j) + z) ?_
    rw [sum_halves]
    refine congrArg₂ (fun y z : EReal => y + z) (Finset.sum_congr rfl fun k _ => ?_) (Finset.sum_congr rfl fun k _ => ?_)
    · rw [hcat, dif_pos k.isLt]
    · rw [hcat, dif_neg (by show ¬1024 + k.val < 1024; omega)]
      exact congrArg (fun i : Fin 1024 => x2 (ix2 r i) * x3 (ix2 _ j)) (Fin.ext (by show 1024 + k.val - 1024 = k.val; omega))
  pointwise [val_main_v28, val_main_v27, val_main_v26, val_main_v25, val_main_v24, val_main_v23, val_main_v22, val_main_v21, val_main_v20, val_main_v19,
    val_main_v18, val_main_cst_4, val_main_v17, val_main_v16, val_main_cst_3, val_main_v15, val_main_v14, val_main_cst_2, val_main_v13, val_main_v12,
    val_main_v11, val_main_v10, val_main_v9, val_main_cst_1, val_main_v8, val_main_v7, val_main_cst_0]
  simp only [hmix]
  rfl

end Cert.OutLnIdeal.Rows

end
-- ==== Proof.GdnPrepBlock.lean ====
/- What the body of the convolution-and-gates kernel stores at one grid point, read at an index from the blocks it is given:
   the convolution over four tokens with its activation, the heads' l2 norms, and the table of gates and rates. -/
module

public import proofs.«01_k».proof.Proof.Gen.GdnPrepIdeal.Value
public import Idealize.ShloMosaic.Lib.Pipeline.ValueKit
public import Idealize.ShloMosaic.Lib.Pointwise

@[expose] public section

set_option maxRecDepth 16384

noncomputable section

namespace Cert.GdnPrepIdeal.Rows

open Cert.GdnPrepIdeal Cert.GdnPrepIdeal.Gen Idealize.ShloMosaic Idealize.ShloMosaic.TcCoe Idealize.SL.Sem

/-- A number times its logistic function. -/
def silu (y : EReal) : EReal := y * Ideal.div 1 (1 + Ideal.exp (-y))
/-- The logistic function. -/
def logistic (y : EReal) : EReal := Ideal.div 1 (1 + Ideal.exp (-y))
/-- One place of a head's l2 norm. -/
def unitNorm (y : Fin 128 → EReal) (j : Fin 128) : EReal :=
  y j * Ideal.rsqrt (∑ k, y k * y k + Ideal.ofBits .f32 897988541#32)
/-- The logarithm of a token's decay. -/
def gate (a s d : EReal) : EReal :=
  -Ideal.exp a * (max (s + d) 0 + Ideal.log1p (Ideal.exp (-FloatOps.absf (F := Ideal) (φ := .f32) (s + d))))

/-! ## Word comparisons -/

/-- A column's number is a row's number less `d` exactly where the column is that one. -/
theorem select_back (n d : Nat) (hn : n < 256) (hd : d ≤ n) (x : Fin 256) (a b : EReal) :
    (Scalar.select (IntOp.cmpi CmpIPredicate.eq (BitVec.ofNat 32 x.val) (IntOp.subi (BitVec.ofNat 32 n) (BitVec.ofNat 32 d))) a b : EReal)
      = if x.val = n - d then a else b := by
  have h1 : IntOp.subi (BitVec.ofNat 32 n) (BitVec.ofNat 32 d) = BitVec.ofNat 32 (n - d) := by
    show BitVec.ofNat 32 n - BitVec.ofNat 32 d = _
    apply BitVec.eq_of_toNat_eq
    simp only [BitVec.toNat_sub, BitVec.toNat_ofNat]
    omega
  have hx := x.isLt
  rw [h1, WordCmp.cmpi_eq_ofNat (by omega) (by omega)]
  by_cases h : x.val = n - d
  · rw [if_pos h, decide_eq_true h]; rfl
  · rw [if_neg h, decide_eq_false h]; rfl

/-- The sum that picks out the row `d` places above. -/
theorem sum_back (n d : Nat) (hn : n < 256) (hd : d ≤ n) (f : Fin 256 → EReal) :
    ∑ x : Fin 256, (Scalar.select (IntOp.cmpi CmpIPredicate.eq (BitVec.ofNat 32 x.val) (IntOp.subi (BitVec.ofNat 32 n) (BitVec.ofNat 32 d))) (f x) 0 : EReal)
      = f ⟨n - d, by omega⟩ := by
  simp only [select_back n d hn hd]
  rw [Finset.sum_eq_single (⟨n - d, by omega⟩ : Fin 256)]
  · rw [if_pos rfl]
  · intro x _ hx
    rw [if_neg fun h => hx (Fin.ext h)]
  · intro h; exact absurd (Finset.mem_univ _) h

/-- A position within its chunk of 128 compared with a shift. -/
theorem select_mask (s : Nat) (hs : s ∈ [1, 2, 4, 8, 16, 32, 64]) (n : Nat) (hn : n < 256) (a b : EReal) :
    (Scalar.select (IntOp.cmpi CmpIPredicate.sge (IntOp.andi (BitVec.ofNat 32 n) 127#32) (BitVec.ofNat 32 s)) a b : EReal)
      = if s ≤ n % 128 then a else b := by
  have h : ∀ s ∈ [1, 2, 4, 8, 16, 32, 64], ∀ r : Fin 256,
      IntOp.cmpi CmpIPredicate.sge (IntOp.andi (BitVec.ofNat 32 r.val) 127#32) (BitVec.ofNat 32 s) = if s ≤ r.val % 128 then 1#1 else 0#1 := by
    decide +kernel
  rw [h s hs ⟨n, hn⟩]
  split <;> rfl

/-- The lanes that hold the gates. -/
theorem select_lane (l : Fin 128) (a b : EReal) :
    (Scalar.select (IntOp.andi (IntOp.cmpi CmpIPredicate.sge (BitVec.ofNat 32 l.val) 16#32) (IntOp.cmpi CmpIPredicate.slt (BitVec.ofNat 32 l.val) 24#32)) a b : EReal)
      = if 16 ≤ l.val ∧ l.val < 24 then a else b := by
  have h : ∀ l : Fin 128, IntOp.andi (IntOp.cmpi CmpIPredicate.sge (BitVec.ofNat 32 l.val) 16#32) (IntOp.cmpi CmpIPredicate.slt (BitVec.ofNat 32 l.val) 24#32)
      = if 16 ≤ l.val ∧ l.val < 24 then 1#1 else 0#1 := by
    decide +kernel
  rw [h]
  split <;> rfl

/-- The first block of a sequence has no block before it. -/
theorem select_first (n : Nat) (hn : n < 16) (a b : EReal) :
    (Scalar.select (Scalar.cmpi CmpIPredicate.eq (BitVec.ofNat 32 n) 0#32) a b : EReal) = if n = 0 then a else b := by
  have h : ∀ n : Fin 16, Scalar.cmpi CmpIPredicate.eq (BitVec.ofNat 32 n.val) 0#32 = if n.val = 0 then 1#1 else 0#1 := by decide +kernel
  rw [h ⟨n, hn⟩]
  split <;> rfl

/-! ## The convolution -/

section
variable (i : grid0.Coords) (x : Vec Ideal S256x3072 .f32) (y : Vec Ideal S8x3072 .f32) (w : Vec Ideal S4x3072 .f32)

/-- What stands `d` rows above row `n` of the block: a row of the block, or one of the last of the block before, zero at a sequence's start. -/
def back (d : Fin 4) (n : Fin 256) (l : Fin 3072) : EReal :=
  if h : d.val ≤ n.val then x (ix2 ⟨n.val - d.val, by omega⟩ l)
  else if (i 1).val = 0 then 0 else y (ix2 ⟨8 + n.val - d.val, by omega⟩ l)

/-- The convolution's sum. -/
def conv (n : Fin 256) (l : Fin 3072) : EReal :=
  w (ix2 3 l) * x (ix2 n l) + w (ix2 2 l) * back i x y 1 n l + w (ix2 1 l) * back i x y 2 n l + w (ix2 0 l) * back i x y 3 n l

theorem top_apply (r : Fin 16) (l : Fin 3072) :
    (k0_pay3 i x y (ix2 r l) : EReal)
      = if h : r.val < 8 then (if (i 1).val = 0 then 0 else y (ix2 ⟨r.val, h⟩ l)) else x (ix2 ⟨r.val - 8, by omega⟩ l) := by
  unfold_payloads
  pointwise
  refine dite_congr rfl (fun h => ?_) fun h => rfl
  exact select_first (i 1).val (i 1).isLt _ _

/-- The rows above the block's first rows, from the piece that is joined in front. -/
theorem back_low (d : Fin 4) (hd : 1 ≤ d.val) (r : Fin 256) (l : Fin 3072) (h : r.val < 8) (k : Fin 16) (hk : k.val + d.val = 8 + r.val) :
    (k0_pay3 i x y (ix2 k l) : EReal) = back i x y d r l := by
  unfold back
  rw [top_apply]
  by_cases h2 : d.val ≤ r.val
  · rw [dif_neg (by omega), dif_pos h2]
    exact congrArg (fun k : Fin 256 => x (ix2 k l)) (Fin.ext (by show k.val - 8 = r.val - d.val; omega))
  · rw [dif_pos (by omega), dif_neg h2]
    split
    · rfl
    · exact congrArg (fun k : Fin 8 => y (ix2 k l)) (Fin.ext (by show k.val = 8 + r.val - d.val; omega))

/-- The rows above the block's other rows are rows of the block. -/
theorem back_high (d : Fin 4) (r : Fin 256) (l : Fin 3072) (h : ¬r.val < 8) (k : Fin 256) (hk : k.val + d.val = r.val) :
    (x (ix2 k l) : EReal) = back i x y d r l := by
  unfold back
  rw [dif_pos (by omega)]
  exact congrArg (fun k : Fin 256 => x (ix2 k l)) (Fin.ext (by show k.val = r.val - d.val; omega))

theorem cast_apply (r : Fin 256) (l : Fin 3072) : (k0_pay2 x (ix2 r l) : EReal) = x (ix2 r l) := by
  unfold_payloads
  pointwise

theorem conv1 (r : Fin 256) (l : Fin 3072) :
    (k0_pay4 i x y w (ix2 r l) : EReal) = w (ix2 3 l) * x (ix2 r l) + w (ix2 2 l) * back i x y 1 r l := by
  unfold k0_pay4
  pointwise
  refine congrArg (fun z : EReal => w (ix2 3 l) * x (ix2 r l) + w (ix2 2 l) * z) ?_
  by_cases h : r.val < 8
  · rw [dif_pos h]
    exact back_low i x y 1 (by decide) r l h _ (by show 7 + r.val + 1 = 8 + r.val; omega)
  · rw [dif_neg h]
    simp only [cast_apply]
    refine (sum_back (8 + (r.val - 8)) 1 (by omega) (by omega) fun k => x (ix2 k l)).trans ?_
    exact back_high i x y 1 r l h _ (by show 8 + (r.val - 8) - 1 + 1 = r.val; omega)

theorem two_low (r : Fin 8) (l : Fin 3072) :
    (k0_pay5 i x y (ix2 r l) : EReal) = k0_pay3 i x y (ix2 ⟨6 + r.val, by omega⟩ l) := by
  unfold k0_pay5
  pointwise

theorem two_high (r : Fin 248) (l : Fin 3072) : (k0_pay6 x (ix2 r l) : EReal) = x (ix2 ⟨8 + r.val - 2, by omega⟩ l) := by
  unfold k0_pay6
  pointwise
  simp only [cast_apply]
  exact sum_back (8 + r.val) 2 (by omega) (by omega) fun k => x (ix2 k l)

/-- The convolution with its activation, as the body computes it. -/
def act : FVec Ideal S256x3072 .f32 :=
  k0_pay7 (k0_pay2 x) (k0_pay3 i x y) (iota Kind.tc S256x256 32 [0] iota_S256x256_d0_w32) (iota Kind.tc S256x256 32 [1] iota_S256x256_d1_w32)
    w (k0_pay4 i x y w) (k0_pay5 i x y) (k0_pay6 x)

theorem act_apply (r : Fin 256) (l : Fin 3072) : (act i x y w (ix2 r l) : EReal) = silu (conv i x y w r l) := by
  have e2 : (if h : r.val < 8 then (k0_pay5 i x y (ix2 ⟨r.val, h⟩ l) : EReal) else k0_pay6 x (ix2 ⟨r.val - 8, by omega⟩ l)) = back i x y 2 r l := by
    by_cases h : r.val < 8
    · rw [dif_pos h, two_low]
      exact back_low i x y 2 (by decide) r l h _ (by show 6 + r.val + 2 = 8 + r.val; omega)
    · rw [dif_neg h, two_high]
      exact back_high i x y 2 r l h _ (by show 8 + (r.val - 8) - 2 + 2 = r.val; omega)
  have e3 : (if h : r.val < 8 then (k0_pay3 i x y (ix2 ⟨5 + r.val, by omega⟩ l) : EReal) else ∑ k : Fin 256,
      Scalar.select (IntOp.cmpi CmpIPredicate.eq (BitVec.ofNat 32 k.val) (IntOp.subi (BitVec.ofNat 32 (8 + (r.val - 8))) 3#32)) (k0_pay2 x (ix2 k l) : EReal) 0)
        = back i x y 3 r l := by
    by_cases h : r.val < 8
    · rw [dif_pos h]
      exact back_low i x y 3 (by decide) r l h _ (by show 5 + r.val + 3 = 8 + r.val; omega)
    · rw [dif_neg h]
      simp only [cast_apply]
      refine (sum_back (8 + (r.val - 8)) 3 (by omega) (by omega) fun k => x (ix2 k l)).trans ?_
      exact back_high i x y 3 r l h _ (by show 8 + (r.val - 8) - 3 + 3 = r.val; omega)
  unfold act k0_pay7
  pointwise
  rw [e2, e3, conv1, zero_sub]
  rfl

end

/-- Of a row of eight heads' lanes, the l2 norm of the head that the lane lies in. -/
def headNorm (f : Fin 1024 → EReal) (l : Fin 1024) : EReal :=
  unitNorm (fun k => f ⟨l.val / 128 * 128 + k.val, by omega⟩) ⟨l.val % 128, by omega⟩

/-- The norm at a lane of the head that begins at lane `o`. -/
theorem headNorm_at (f : Fin 1024 → EReal) (l : Fin 1024) (o : Nat) (j : Fin 128) (hl : l.val = o + j.val) (ho : o % 128 = 0) :
    headNorm f l = f l * Ideal.rsqrt (∑ k : Fin 128, f ⟨o + k.val, by omega⟩ * f ⟨o + k.val, by omega⟩ + Ideal.ofBits .f32 897988541#32) := by
  unfold headNorm unitNorm
  have e : ∀ k : Fin 128, (⟨l.val / 128 * 128 + k.val, by omega⟩ : Fin 1024) = ⟨o + k.val, by omega⟩ := fun k => Fin.ext (by
    show l.val / 128 * 128 + k.val = o + k.val
    omega)
  have e' : (⟨l.val / 128 * 128 + l.val % 128, by omega⟩ : Fin 1024) = l := Fin.ext (by show l.val / 128 * 128 + l.val % 128 = l.val; omega)
  simp only [e, e']

/-! ## The sums within a chunk -/

section
variable (s0 : Vec Ideal S256x128 .f32) (s1 s2 : Vec Ideal S1x128 .f32)

/-- One doubling of the running sums: each row from `s` on within its chunk gains the row `s` above. -/
def step (s : BitVec 32) (g : FVec Ideal S256x128 .f32) : FVec Ideal S256x128 .f32 :=
  addf g (select (cmpi .sge k0_pay34 (broadcast S256x128 s)) (dynamicRotate 0 s none g rotates_S256x128_d0)
    (broadcast S256x128 (Scalar.ofBits .f32 0x00000000#32)))

theorem step_apply (s : Nat) (hs : s ∈ [1, 2, 4, 8, 16, 32, 64]) (g : FVec Ideal S256x128 .f32) (r : Fin 256) (l : Fin 128) :
    (step (BitVec.ofNat 32 s) g (ix2 r l) : EReal)
      = g (ix2 r l) + if h : s ≤ r.val % 128 then g (ix2 ⟨r.val - s, by omega⟩ l) else 0 := by
  have key : ∀ (p : (r.val + 256 - s) % 256 < 256),
      (Scalar.select (IntOp.cmpi CmpIPredicate.sge (IntOp.andi (BitVec.ofNat 32 r.val) 127#32) (BitVec.ofNat 32 s)) (g (ix2 ⟨(r.val + 256 - s) % 256, p⟩ l)) 0 : EReal)
        = if h : s ≤ r.val % 128 then g (ix2 ⟨r.val - s, by omega⟩ l) else 0 := by
    intro p
    rw [select_mask s hs r.val r.isLt]
    by_cases h : s ≤ r.val % 128
    · rw [if_pos h, dif_pos h]
      exact congrArg (fun k : Fin 256 => g (ix2 k l)) (Fin.ext (by show (r.val + 256 - s) % 256 = r.val - s; omega))
    · rw [if_neg h, dif_neg h]
  simp only [List.mem_cons, List.not_mem_nil, or_false] at hs
  rcases hs with rfl | rfl | rfl | rfl | rfl | rfl | rfl <;>
  · unfold step k0_pay34
    pointwise
    exact congrArg (fun z : EReal => g (ix2 r l) + z) (key (Nat.mod_lt _ (by decide)))

/-- A row's number less `k`, read from a table of 256 rows. -/
def above (g : FVec Ideal S256x128 .f32) (r : Fin 256) (l : Fin 128) (k : Nat) : EReal := g (ix2 ⟨r.val - k, by omega⟩ l)

/-- A table each of whose rows is the sum of the last `s` rows of `b` within the chunk. -/
def Partial (b g : FVec Ideal S256x128 .f32) (s : Nat) : Prop :=
  ∀ (r : Fin 256) (l : Fin 128), (g (ix2 r l) : EReal) = ∑ k ∈ Finset.range (min s (r.val % 128 + 1)), above b r l k

theorem partial_one (b : FVec Ideal S256x128 .f32) : Partial b b 1 := by
  intro r l
  rw [show min 1 (r.val % 128 + 1) = 1 by omega, Finset.sum_range_one]
  rfl

theorem partial_step (b g : FVec Ideal S256x128 .f32) (s : Nat) (hs : s ∈ [1, 2, 4, 8, 16, 32, 64]) (h : Partial b g s) :
    Partial b (step (BitVec.ofNat 32 s) g) (2 * s) := by
  intro r l
  rw [step_apply s hs]
  have hs128 : s ≤ 64 := (by decide : ∀ s ∈ [1, 2, 4, 8, 16, 32, 64], s ≤ 64) s hs
  by_cases hm : s ≤ r.val % 128
  · rw [dif_pos hm, h r l, h ⟨r.val - s, by omega⟩ l]
    rw [show min (2 * s) (r.val % 128 + 1) = min s (r.val % 128 + 1) + min s ((r.val - s) % 128 + 1) by omega, Finset.sum_range_add]
    refine congrArg (fun z : EReal => _ + z) (Finset.sum_congr rfl fun k _ => ?_)
    unfold above
    exact congrArg (fun k : Fin 256 => b (ix2 k l)) (Fin.ext (by show r.val - s - k = r.val - (min s (r.val % 128 + 1) + k); omega))
  · rw [dif_neg hm, add_zero, h r l]
    rw [show min (2 * s) (r.val % 128 + 1) = min s (r.val % 128 + 1) by omega]

/-- The gates before they are summed. -/
def gates : FVec Ideal S256x128 .f32 := fun i => gate (s2 (ix2 0 (i 1))) (s0 i) (s1 (ix2 0 (i 1)))

theorem stages : k0_pay35 s0 s1 s2 = step 2#32 (step 1#32 (gates s0 s1 s2)) := by
  have e : ∀ b : FVec Ideal S256x128 .f32, (∀ r l, (b (ix2 r l) : EReal) = gates s0 s1 s2 (ix2 r l)) → b = gates s0 s1 s2 := by
    intro b h
    funext i
    obtain ⟨r, l, rfl⟩ : ∃ r l, i = ix2 r l := ⟨i 0, i 1, eq_ix2 i⟩
    exact h r l
  unfold k0_pay35
  dsimp only
  show step 2#32 (step 1#32 _) = _
  refine congrArg (fun b => step 2#32 (step 1#32 b)) (e _ fun r l => ?_)
  pointwise
  unfold gates gate
  rw [zero_sub, zero_sub]
  rfl

/-- The running sums as the body computes them. -/
def sums : FVec Ideal S256x128 .f32 :=
  step 64#32 (step 32#32 (step 16#32 (step 8#32 (step 4#32 (step 2#32 (step 1#32 (gates s0 s1 s2)))))))

theorem sums_apply (r : Fin 256) (l : Fin 128) :
    (sums s0 s1 s2 (ix2 r l) : EReal) = ∑ k ∈ Finset.range (r.val % 128 + 1), gates s0 s1 s2 (ix2 ⟨(r.val / 128 * 128 + k) % 256, Nat.mod_lt _ (by decide)⟩ l) := by
  have h := partial_step _ _ 64 (by decide) (partial_step _ _ 32 (by decide) (partial_step _ _ 16 (by decide) (partial_step _ _ 8 (by decide)
    (partial_step _ _ 4 (by decide) (partial_step _ _ 2 (by decide) (partial_step _ _ 1 (by decide) (partial_one (gates s0 s1 s2))))))))
  refine (h r l).trans ?_
  rw [show min (2 * 64) (r.val % 128 + 1) = r.val % 128 + 1 by omega, ← Finset.sum_range_reflect]
  refine Finset.sum_congr rfl fun k hk => ?_
  have := Finset.mem_range.mp hk
  unfold above
  exact congrArg (fun k : Fin 256 => gates s0 s1 s2 (ix2 k l)) (Fin.ext (by show r.val - (r.val % 128 + 1 - 1 - k) = (r.val / 128 * 128 + k) % 256; omega))

/-- The table as the body computes it. -/
def table : FVec Ideal S256x128 .f32 :=
  k0_pay38 s0 k0_pay34 (k0_pay35 s0 s1 s2) k0_pay36 (k0_pay37 s0 s1 s2)

theorem table_apply (r : Fin 256) (l : Fin 128) :
    (table s0 s1 s2 (ix2 r l) : EReal) = if 16 ≤ l.val ∧ l.val < 24 then (sums s0 s1 s2 (ix2 r l) : EReal) else logistic (s0 (ix2 r l)) := by
  have e : (select (andi (cmpi .sge (iota .tc S256x128 32 [1] iota_S256x128_d1_w32) (broadcast S256x128 16#32)) (cmpi .slt (iota .tc S256x128 32 [1] iota_S256x128_d1_w32) (broadcast S256x128 24#32)))
      (sums s0 s1 s2) (divf (broadcast S256x128 (Scalar.ofBits .f32 0x3F800000#32)) (addf (broadcast S256x128 (Scalar.ofBits .f32 0x3F800000#32)) (exp (subf (broadcast S256x128 (Scalar.ofBits .f32 0x00000000#32)) s0))) : FVec Ideal S256x128 .f32))
      = table s0 s1 s2 := by
    unfold table k0_pay37 sums
    rw [stages]
    rfl
  rw [← e]
  generalize sums s0 s1 s2 = g
  pointwise
  rw [select_lane, zero_sub]
  rfl

end

section
variable (m : (ℓ : Loc nD τ sig) → Buf (Elt Ideal) ℓ) (c : Dev nD) (t : Fin cfg0.N)

theorem act_def (i : grid0.Coords) (x : Vec Ideal S256x3072 .f32) (y : Vec Ideal S8x3072 .f32) (w : Vec Ideal S4x3072 .f32) :
    act i x y w = k0_pay7 (k0_pay2 x) (k0_pay3 i x y) (iota Kind.tc S256x256 32 [0] iota_S256x256_d0_w32) (iota Kind.tc S256x256 32 [1] iota_S256x256_d1_w32)
      w (k0_pay4 i x y w) (k0_pay5 i x y) (k0_pay6 x) := rfl

/-- The point's activations, of all three parts. -/
def actAt (r : Fin 256) (l : Fin 3072) : EReal := silu (conv (grid0.coords t) (X0_0 m c t) (X0_1 m c t) (iblk m c 3 t) r l)

/-- The first head's queries. -/
theorem firstQ (v2 v10 v11 v12 v13 v31 v40 v41) (r : Fin 256) (j : Fin 128) :
    (k0_pay8 (F := Ideal) v2 v10 v11 v12 v13 v31 v40 v41 (ix2 r j) : EReal)
      = (k0_pay7 (F := Ideal) v2 v10 v11 v12 v13 v31 v40 v41 (ix2 r ⟨j.val, by omega⟩)
        * Ideal.rsqrt (∑ k : Fin 128, k0_pay7 (F := Ideal) v2 v10 v11 v12 v13 v31 v40 v41 (ix2 r ⟨k.val, by omega⟩) * k0_pay7 (F := Ideal) v2 v10 v11 v12 v13 v31 v40 v41 (ix2 r ⟨k.val, by omega⟩)
            + Ideal.ofBits .f32 897988541#32) * Ideal.ofBits .f32 1035273459#32 : EReal) := by
  unfold k0_pay8
  generalize k0_pay7 v2 v10 v11 v12 v13 v31 v40 v41 = y
  pointwise

/-- The first head's keys. -/
theorem firstK (v2 v10 v11 v12 v13 v31 v40 v41) (r : Fin 256) (j : Fin 128) :
    (k0_pay12 (k0_pay9 (F := Ideal) v2 v10 v11 v12 v13 v31 v40 v41) (k0_pay10 (F := Ideal) v2 v10 v11 v12 v13 v31 v40 v41) (k0_pay11 (F := Ideal)) (ix2 r j) : EReal)
      = (k0_pay7 (F := Ideal) v2 v10 v11 v12 v13 v31 v40 v41 (ix2 r ⟨1024 + j.val, by omega⟩)
        * Ideal.rsqrt (∑ k : Fin 128, k0_pay7 (F := Ideal) v2 v10 v11 v12 v13 v31 v40 v41 (ix2 r ⟨1024 + k.val, by omega⟩) * k0_pay7 (F := Ideal) v2 v10 v11 v12 v13 v31 v40 v41 (ix2 r ⟨1024 + k.val, by omega⟩)
            + Ideal.ofBits .f32 897988541#32) : EReal) := by
  unfold k0_pay12 k0_pay10 k0_pay9 k0_pay11
  generalize k0_pay7 v2 v10 v11 v12 v13 v31 v40 v41 = y
  pointwise

theorem headQ896 (A : FVec Ideal S256x3072 .f32) (r : Fin 256) (j : Fin 128) :
    (k0_pay31 A (ix2 r j) : EReal)
      = (A (ix2 r ⟨896 + j.val, by omega⟩) * Ideal.rsqrt (∑ k : Fin 128, A (ix2 r ⟨896 + k.val, by omega⟩) * A (ix2 r ⟨896 + k.val, by omega⟩) + Ideal.ofBits .f32 897988541#32) * Ideal.ofBits .f32 1035273459#32 : EReal) := by
  unfold k0_pay31
  pointwise

theorem headQ768 (A : FVec Ideal S256x3072 .f32) (r : Fin 256) (j : Fin 128) :
    (k0_pay29 (k0_pay26 A) (k0_pay27 A) k0_pay28 (ix2 r j) : EReal)
      = (A (ix2 r ⟨768 + j.val, by omega⟩) * Ideal.rsqrt (∑ k : Fin 128, A (ix2 r ⟨768 + k.val, by omega⟩) * A (ix2 r ⟨768 + k.val, by omega⟩) + Ideal.ofBits .f32 897988541#32) * Ideal.ofBits .f32 1035273459#32 : EReal) := by
  have e : ∀ k : Fin 128, (k0_pay26 A (ix2 r k) : EReal) = A (ix2 r ⟨768 + k.val, by omega⟩) := fun k => by
    unfold k0_pay26
    pointwise
  unfold k0_pay29 k0_pay27 k0_pay28
  pointwise
  simp only [e]

theorem headQ640 (A : FVec Ideal S256x3072 .f32) (r : Fin 256) (j : Fin 128) :
    (k0_pay24 A (ix2 r j) : EReal)
      = (A (ix2 r ⟨640 + j.val, by omega⟩) * Ideal.rsqrt (∑ k : Fin 128, A (ix2 r ⟨640 + k.val, by omega⟩) * A (ix2 r ⟨640 + k.val, by omega⟩) + Ideal.ofBits .f32 897988541#32) * Ideal.ofBits .f32 1035273459#32 : EReal) := by
  unfold k0_pay24
  pointwise

theorem headQ512 (A : FVec Ideal S256x3072 .f32) (r : Fin 256) (j : Fin 128) :
    (k0_pay22 (k0_pay20 A) k0_pay21 (ix2 r j) : EReal)
      = (A (ix2 r ⟨512 + j.val, by omega⟩) * Ideal.rsqrt (∑ k : Fin 128, A (ix2 r ⟨512 + k.val, by omega⟩) * A (ix2 r ⟨512 + k.val, by omega⟩) + Ideal.ofBits .f32 897988541#32) * Ideal.ofBits .f32 1035273459#32 : EReal) := by
  unfold k0_pay22 k0_pay20 k0_pay21
  pointwise

theorem headQ384 (A : FVec Ideal S256x3072 .f32) (r : Fin 256) (j : Fin 128) :
    (k0_pay18 A (ix2 r j) : EReal)
      = (A (ix2 r ⟨384 + j.val, by omega⟩) * Ideal.rsqrt (∑ k : Fin 128, A (ix2 r ⟨384 + k.val, by omega⟩) * A (ix2 r ⟨384 + k.val, by omega⟩) + Ideal.ofBits .f32 897988541#32) * Ideal.ofBits .f32 1035273459#32 : EReal) := by
  unfold k0_pay18
  pointwise

theorem headQ256 (A : FVec Ideal S256x3072 .f32) (r : Fin 256) (j : Fin 128) :
    (k0_pay15 A (ix2 r j) : EReal)
      = (A (ix2 r ⟨256 + j.val, by omega⟩) * Ideal.rsqrt (∑ k : Fin 128, A (ix2 r ⟨256 + k.val, by omega⟩) * A (ix2 r ⟨256 + k.val, by omega⟩) + Ideal.ofBits .f32 897988541#32) * Ideal.ofBits .f32 1035273459#32 : EReal) := by
  unfold k0_pay15
  pointwise

theorem headQ128 (A : FVec Ideal S256x3072 .f32) (r : Fin 256) (j : Fin 128) :
    (k0_pay13 A (ix2 r j) : EReal)
      = (A (ix2 r ⟨128 + j.val, by omega⟩) * Ideal.rsqrt (∑ k : Fin 128, A (ix2 r ⟨128 + k.val, by omega⟩) * A (ix2 r ⟨128 + k.val, by omega⟩) + Ideal.ofBits .f32 897988541#32) * Ideal.ofBits .f32 1035273459#32 : EReal) := by
  unfold k0_pay13
  pointwise

theorem headK896 (A : FVec Ideal S256x3072 .f32) (r : Fin 256) (j : Fin 128) :
    (k0_pay32 A (ix2 r j) : EReal)
      = (A (ix2 r ⟨1920 + j.val, by omega⟩) * Ideal.rsqrt (∑ k : Fin 128, A (ix2 r ⟨1920 + k.val, by omega⟩) * A (ix2 r ⟨1920 + k.val, by omega⟩) + Ideal.ofBits .f32 897988541#32) : EReal) := by
  unfold k0_pay32
  pointwise

theorem headK768 (A : FVec Ideal S256x3072 .f32) (r : Fin 256) (j : Fin 128) :
    (k0_pay30 A (ix2 r j) : EReal)
      = (A (ix2 r ⟨1792 + j.val, by omega⟩) * Ideal.rsqrt (∑ k : Fin 128, A (ix2 r ⟨1792 + k.val, by omega⟩) * A (ix2 r ⟨1792 + k.val, by omega⟩) + Ideal.ofBits .f32 897988541#32) : EReal) := by
  unfold k0_pay30
  pointwise

theorem headK640 (A : FVec Ideal S256x3072 .f32) (r : Fin 256) (j : Fin 128) :
    (k0_pay25 A (ix2 r j) : EReal)
      = (A (ix2 r ⟨1664 + j.val, by omega⟩) * Ideal.rsqrt (∑ k : Fin 128, A (ix2 r ⟨1664 + k.val, by omega⟩) * A (ix2 r ⟨1664 + k.val, by omega⟩) + Ideal.ofBits .f32 897988541#32) : EReal) := by
  unfold k0_pay25
  pointwise

theorem headK512 (A : FVec Ideal S256x3072 .f32) (r : Fin 256) (j : Fin 128) :
    (k0_pay23 A (ix2 r j) : EReal)
      = (A (ix2 r ⟨1536 + j.val, by omega⟩) * Ideal.rsqrt (∑ k : Fin 128, A (ix2 r ⟨1536 + k.val, by omega⟩) * A (ix2 r ⟨1536 + k.val, by omega⟩) + Ideal.ofBits .f32 897988541#32) : EReal) := by
  unfold k0_pay23
  pointwise

theorem headK384 (A : FVec Ideal S256x3072 .f32) (r : Fin 256) (j : Fin 128) :
    (k0_pay19 A (ix2 r j) : EReal)
      = (A (ix2 r ⟨1408 + j.val, by omega⟩) * Ideal.rsqrt (∑ k : Fin 128, A (ix2 r ⟨1408 + k.val, by omega⟩) * A (ix2 r ⟨1408 + k.val, by omega⟩) + Ideal.ofBits .f32 897988541#32) : EReal) := by
  unfold k0_pay19
  pointwise

theorem headK256 (A : FVec Ideal S256x3072 .f32) (r : Fin 256) (j : Fin 128) :
    (k0_pay17 (k0_pay16 A) (ix2 r j) : EReal)
      = (A (ix2 r ⟨1280 + j.val, by omega⟩) * Ideal.rsqrt (∑ k : Fin 128, A (ix2 r ⟨1280 + k.val, by omega⟩) * A (ix2 r ⟨1280 + k.val, by omega⟩) + Ideal.ofBits .f32 897988541#32) : EReal) := by
  unfold k0_pay17 k0_pay16
  pointwise

theorem headK128 (A : FVec Ideal S256x3072 .f32) (r : Fin 256) (j : Fin 128) :
    (k0_pay14 A (ix2 r j) : EReal)
      = (A (ix2 r ⟨1152 + j.val, by omega⟩) * Ideal.rsqrt (∑ k : Fin 128, A (ix2 r ⟨1152 + k.val, by omega⟩) * A (ix2 r ⟨1152 + k.val, by omega⟩) + Ideal.ofBits .f32 897988541#32) : EReal) := by
  unfold k0_pay14
  pointwise

/-- The queries' block. -/
theorem blockQ (r : Fin 256) (l : Fin 1024) :
    ((outsAt0 m c t).1 (ix2 r l) : EReal) = headNorm (fun l => actAt m c t r ⟨l.val, by omega⟩) l * Ideal.ofBits .f32 1035273459#32 := by
  have hact := act_apply (grid0.coords t) (X0_0 m c t) (X0_1 m c t) (iblk m c 3 t)
  change ∀ r l, _ = actAt m c t r l at hact
  unfold outsAt0
  dsimp only
  frame_out
  canon_tiles x h
  all_goals
    obtain ⟨a, b, rfl⟩ : ∃ a b, x = ix2 a b := ⟨x 0, x 1, eq_ix2 x⟩
    obtain rfl : r = a := Fin.ext h0
  case piece0 =>
    rw [show l = ⟨896 + b.val, by have := b.isLt; omega⟩ from Fin.ext h1]
    refine (headQ896 (act (grid0.coords t) (X0_0 m c t) (X0_1 m c t) (iblk m c 3 t)) r b).trans ?_
    rw [headNorm_at _ _ 896 b (by first | rfl | exact (Nat.zero_add _).symm) (by decide)]
    simp only [hact, zero_add]
  case piece1 =>
    rw [show l = ⟨768 + b.val, by have := b.isLt; omega⟩ from Fin.ext h1]
    refine (headQ768 (act (grid0.coords t) (X0_0 m c t) (X0_1 m c t) (iblk m c 3 t)) r b).trans ?_
    rw [headNorm_at _ _ 768 b (by first | rfl | exact (Nat.zero_add _).symm) (by decide)]
    simp only [hact, zero_add]
  case piece2 =>
    rw [show l = ⟨640 + b.val, by have := b.isLt; omega⟩ from Fin.ext h1]
    refine (headQ640 (act (grid0.coords t) (X0_0 m c t) (X0_1 m c t) (iblk m c 3 t)) r b).trans ?_
    rw [headNorm_at _ _ 640 b (by first | rfl | exact (Nat.zero_add _).symm) (by decide)]
    simp only [hact, zero_add]
  case piece3 =>
    rw [show l = ⟨512 + b.val, by have := b.isLt; omega⟩ from Fin.ext h1]
    refine (headQ512 (act (grid0.coords t) (X0_0 m c t) (X0_1 m c t) (iblk m c 3 t)) r b).trans ?_
    rw [headNorm_at _ _ 512 b (by first | rfl | exact (Nat.zero_add _).symm) (by decide)]
    simp only [hact, zero_add]
  case piece4 =>
    rw [show l = ⟨384 + b.val, by have := b.isLt; omega⟩ from Fin.ext h1]
    refine (headQ384 (act (grid0.coords t) (X0_0 m c t) (X0_1 m c t) (iblk m c 3 t)) r b).trans ?_
    rw [headNorm_at _ _ 384 b (by first | rfl | exact (Nat.zero_add _).symm) (by decide)]
    simp only [hact, zero_add]
  case piece5 =>
    rw [show l = ⟨256 + b.val, by have := b.isLt; omega⟩ from Fin.ext h1]
    refine (headQ256 (act (grid0.coords t) (X0_0 m c t) (X0_1 m c t) (iblk m c 3 t)) r b).trans ?_
    rw [headNorm_at _ _ 256 b (by first | rfl | exact (Nat.zero_add _).symm) (by decide)]
    simp only [hact, zero_add]
  case piece6 =>
    rw [show l = ⟨128 + b.val, by have := b.isLt; omega⟩ from Fin.ext h1]
    refine (headQ128 (act (grid0.coords t) (X0_0 m c t) (X0_1 m c t) (iblk m c 3 t)) r b).trans ?_
    rw [headNorm_at _ _ 128 b (by first | rfl | exact (Nat.zero_add _).symm) (by decide)]
    simp only [hact, zero_add]
  case piece7 =>
    rw [show l = ⟨b.val, by have := b.isLt; omega⟩ from Fin.ext h1]
    refine (firstQ _ _ _ _ _ _ _ _ r b).trans ?_
    change ∀ r l, k0_pay7 _ _ _ _ _ _ _ _ _ = _ at hact
    rw [headNorm_at _ _ 0 b (by first | rfl | exact (Nat.zero_add _).symm) (by decide)]
    simp only [hact, zero_add]

/-- The keys' block. -/
theorem blockK (r : Fin 256) (l : Fin 1024) :
    ((outsAt0 m c t).2.1 (ix2 r l) : EReal) = headNorm (fun l => actAt m c t r ⟨1024 + l.val, by omega⟩) l := by
  have hact := act_apply (grid0.coords t) (X0_0 m c t) (X0_1 m c t) (iblk m c 3 t)
  change ∀ r l, _ = actAt m c t r l at hact
  unfold outsAt0
  dsimp only
  frame_out
  canon_tiles x h
  all_goals
    obtain ⟨a, b, rfl⟩ : ∃ a b, x = ix2 a b := ⟨x 0, x 1, eq_ix2 x⟩
    obtain rfl : r = a := Fin.ext h0
  case piece0 =>
    rw [show l = ⟨896 + b.val, by have := b.isLt; omega⟩ from Fin.ext h1]
    refine (headK896 (act (grid0.coords t) (X0_0 m c t) (X0_1 m c t) (iblk m c 3 t)) r b).trans ?_
    rw [headNorm_at _ _ 896 b (by first | rfl | exact (Nat.zero_add _).symm) (by decide)]
    simp only [hact, zero_add]
    simp only [← Nat.add_assoc]
  case piece1 =>
    rw [show l = ⟨768 + b.val, by have := b.isLt; omega⟩ from Fin.ext h1]
    refine (headK768 (act (grid0.coords t) (X0_0 m c t) (X0_1 m c t) (iblk m c 3 t)) r b).trans ?_
    rw [headNorm_at _ _ 768 b (by first | rfl | exact (Nat.zero_add _).symm) (by decide)]
    simp only [hact, zero_add]
    simp only [← Nat.add_assoc]
  case piece2 =>
    rw [show l = ⟨640 + b.val, by have := b.isLt; omega⟩ from Fin.ext h1]
    refine (headK640 (act (grid0.coords t) (X0_0 m c t) (X0_1 m c t) (iblk m c 3 t)) r b).trans ?_
    rw [headNorm_at _ _ 640 b (by first | rfl | exact (Nat.zero_add _).symm) (by decide)]
    simp only [hact, zero_add]
    simp only [← Nat.add_assoc]
  case piece3 =>
    rw [show l = ⟨512 + b.val, by have := b.isLt; omega⟩ from Fin.ext h1]
    refine (headK512 (act (grid0.coords t) (X0_0 m c t) (X0_1 m c t) (iblk m c 3 t)) r b).trans ?_
    rw [headNorm_at _ _ 512 b (by first | rfl | exact (Nat.zero_add _).symm) (by decide)]
    simp only [hact, zero_add]
    simp only [← Nat.add_assoc]
  case piece4 =>
    rw [show l = ⟨384 + b.val, by have := b.isLt; omega⟩ from Fin.ext h1]
    refine (headK384 (act (grid0.coords t) (X0_0 m c t) (X0_1 m c t) (iblk m c 3 t)) r b).trans ?_
    rw [headNorm_at _ _ 384 b (by first | rfl | exact (Nat.zero_add _).symm) (by decide)]
    simp only [hact, zero_add]
    simp only [← Nat.add_assoc]
  case piece5 =>
    rw [show l = ⟨256 + b.val, by have := b.isLt; omega⟩ from Fin.ext h1]
    refine (headK256 (act (grid0.coords t) (X0_0 m c t) (X0_1 m c t) (iblk m c 3 t)) r b).trans ?_
    rw [headNorm_at _ _ 256 b (by first | rfl | exact (Nat.zero_add _).symm) (by decide)]
    simp only [hact, zero_add]
    simp only [← Nat.add_assoc]
  case piece6 =>
    rw [show l = ⟨128 + b.val, by have := b.isLt; omega⟩ from Fin.ext h1]
    refine (headK128 (act (grid0.coords t) (X0_0 m c t) (X0_1 m c t) (iblk m c 3 t)) r b).trans ?_
    rw [headNorm_at _ _ 128 b (by first | rfl | exact (Nat.zero_add _).symm) (by decide)]
    simp only [hact, zero_add]
    simp only [← Nat.add_assoc]
  case piece7 =>
    rw [show l = ⟨b.val, by have := b.isLt; omega⟩ from Fin.ext h1]
    refine (firstK _ _ _ _ _ _ _ _ r b).trans ?_
    change ∀ r l, k0_pay7 _ _ _ _ _ _ _ _ _ = _ at hact
    rw [headNorm_at _ _ 0 b (by first | rfl | exact (Nat.zero_add _).symm) (by decide)]
    simp only [hact, zero_add]

/-- The values' block. -/
theorem blockV (r : Fin 256) (l : Fin 1024) :
    ((outsAt0 m c t).2.2.1 (ix2 r l) : EReal) = actAt m c t r ⟨2048 + l.val, by omega⟩ := by
  have hact := act_apply (grid0.coords t) (X0_0 m c t) (X0_1 m c t) (iblk m c 3 t)
  change ∀ r l, _ = actAt m c t r l at hact
  unfold outsAt0
  dsimp only
  frame_out
  change (k0_pay33 (act (grid0.coords t) (X0_0 m c t) (X0_1 m c t) (iblk m c 3 t)) (ix2 r l) : EReal) = _
  generalize act (grid0.coords t) (X0_0 m c t) (X0_1 m c t) (iblk m c 3 t) = A at hact
  unfold k0_pay33
  pointwise
  exact hact _ _

/-- The point's table of gates and rates. -/
def tableAt (r : Fin 256) (l : Fin 128) : EReal :=
  if 16 ≤ l.val ∧ l.val < 24 then ∑ k ∈ Finset.range (r.val % 128 + 1),
    gates (iblk m c 2 t) (iblk m c 5 t) (iblk m c 4 t) (ix2 ⟨(r.val / 128 * 128 + k) % 256, Nat.mod_lt _ (by decide)⟩ l)
  else logistic ((iblk m c 2 t : Vec Ideal S256x128 .f32) (ix2 r l))

/-- The table's block. -/
theorem blockG (r : Fin 256) (l : Fin 128) : ((outsAt0 m c t).2.2.2.1 (ix2 r l) : EReal) = tableAt m c t r l := by
  have h := table_apply (iblk m c 2 t) (iblk m c 5 t) (iblk m c 4 t) r l
  rw [sums_apply] at h
  refine Eq.trans ?_ h
  unfold outsAt0
  dsimp only
  frame_out
  rfl

/-- The transposed table's block. -/
theorem blockT (u : Fin 1) (l : Fin 128) (r : Fin 256) : ((outsAt0 m c t).2.2.2.2 (ix3 u l r) : EReal) = tableAt m c t r l := by
  have h := table_apply (iblk m c 2 t) (iblk m c 5 t) (iblk m c 4 t) r l
  rw [sums_apply] at h
  refine Eq.trans ?_ h
  unfold outsAt0
  dsimp only
  frame_out
  change (k0_pay1 (table (iblk m c 2 t) (iblk m c 5 t) (iblk m c 4 t)) (ix3 u l r) : EReal) = _
  generalize table (iblk m c 2 t) (iblk m c 5 t) (iblk m c 4 t) = T
  unfold k0_pay1
  pointwise

end

end Cert.GdnPrepIdeal.Rows

end
-- ==== Proof.GdnPrepValue.lean ====
/- The five result arrays of the convolution-and-gates kernel at the ideal instance: every row of queries, keys and values
   from the projection's rows above it within its sequence, and every row of the table from the rows of its chunk. -/
module

public import proofs.«01_k».proof.Proof.GdnPrepBlock
public import Idealize.ShloMosaic.Lib.StableHlo.ReadAt
public import Idealize.ShloMosaic.Lib.Routing.OpsOne

@[expose] public section

set_option maxRecDepth 16384

noncomputable section

namespace Cert.GdnPrepIdeal.Rows

open Cert.GdnPrepIdeal Cert.GdnPrepIdeal.Gen Idealize.ShloMosaic Idealize.ShloMosaic.TcCoe Idealize.SL.Sem

/-! ## The arrays as functions of the arguments -/

section
variable (X : Vec Ideal S8192x5120 .f32) (W : Vec Ideal S4x3072 .f32) (A D : Vec Ideal S8 .f32)

/-- What stands `d` tokens before token `r` in its sequence of 4096, zero before the sequence's start. -/
def past (d : Nat) (r : Fin 8192) (l : Fin 3072) : EReal :=
  if d ≤ r.val % 4096 then X (ix2 ⟨r.val - d, by omega⟩ ⟨l.val, by omega⟩) else 0

/-- The convolution over four tokens. -/
def mixed (r : Fin 8192) (l : Fin 3072) : EReal :=
  W (ix2 3 l) * past X 0 r l + W (ix2 2 l) * past X 1 r l + W (ix2 1 l) * past X 2 r l + W (ix2 0 l) * past X 3 r l

/-- The queries. -/
def rowsQ (i : S8192x1024.Idx) : EReal :=
  headNorm (fun l => silu (mixed X W (i 0) ⟨l.val, by omega⟩)) (i 1) * Ideal.ofBits .f32 1035273459#32
/-- The keys. -/
def rowsK (i : S8192x1024.Idx) : EReal := headNorm (fun l => silu (mixed X W (i 0) ⟨1024 + l.val, by omega⟩)) (i 1)
/-- The values. -/
def rowsV (i : S8192x1024.Idx) : EReal := silu (mixed X W (i 0) ⟨2048 + (i 1).val, by have h : (i 1).val < 1024 := (i 1).isLt; omega⟩)

/-- The logarithm of a token's decay in one head. -/
def gateAt (r : Fin 8192) (h : Fin 8) : EReal := gate (A (ix1 h)) (X (ix2 r ⟨5008 + h.val, by omega⟩)) (D (ix1 h))

/-- One place of the table of gates and rates. -/
def tableRow (r : Fin 8192) (l : Fin 128) : EReal :=
  if h : 16 ≤ l.val ∧ l.val < 24 then
    ∑ k ∈ Finset.range (r.val % 128 + 1), gateAt X A D ⟨(r.val / 128 * 128 + k) % 8192, Nat.mod_lt _ (by decide)⟩ ⟨l.val - 16, by omega⟩
  else logistic (X (ix2 r ⟨4992 + l.val, by omega⟩))

/-- The table. -/
def rowsG (i : S8192x128.Idx) : EReal := tableRow X A D (i 0) (i 1)
/-- The table transposed within each sequence. -/
def rowsT (i : S2x128x4096.Idx) : EReal := tableRow X A D ⟨4096 * (i 0).val + (i 2).val, by have h0 : (i 0).val < 2 := (i 0).isLt; have h2 : (i 2).val < 4096 := (i 2).isLt; omega⟩ (i 1)

end

/-! ## Eight words laid in a row at literal places -/

open Routing in
/-- Update `k` of a row's part set at two index words lands at `(r, l)` exactly when the first is `r` and the second plus `k` is `l`. -/
theorem lands_row {R C U w : Nat} (d : ScatterDims (shape2 R C) (shape1 2) (shape1 U)) (huw : d.updateWindowDims = [0]) (hiw : d.insertedWindowDims = [0])
    (hsd : d.scatterDimsToOperandDims = [0, 1]) (hivd : d.indexVectorDim = 0) (idx : IVec (shape1 2) w) (k : Fin U) (r : Fin R) (l : Fin C) :
    d.resultIdx? (ValueIdx.ix1 k) idx = some (ValueIdx.ix2 r l)
      ↔ (idx (ValueIdx.ix1 (0 : Fin 2))).toInt = r.val ∧ (idx (ValueIdx.ix1 (1 : Fin 2))).toInt + (k.val : Int) = l.val := by
  have hwin1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  have hwin0 : d.window (ValueIdx.ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

theorem one_index {n : Nat} (a : Fin n) : (ix1 a) = ValueIdx.ix1 a := funext fun i => by fin_cases i; rfl
theorem two_index {n k : Nat} (a : Fin n) (b : Fin k) : (ix2 a b) = ValueIdx.ix2 a b := funext fun i => by fin_cases i <;> rfl

open Routing in
/-- A row's part set at two index words, read inside the part. -/
theorem row_inside {α : Type} (x : S1x128.Idx → α) (idx : IVec S2 32) (u : S8.Idx → α) (h0 : (idx (ix1 0)).toInt = 0) (h1 : (idx (ix1 1)).toInt = 16)
    (l : Fin 128) (k : Fin 8) (hk : l.val = 16 + k.val) : Host.scatter scatter_S1x128_S2_S8_0_0_01_0 (fun _ b => b) x idx u (ix2 0 l) = u (ix1 k) := by
  rw [two_index]
  rw [one_index] at h0 h1 ⊢
  refine scatter_set_hit _ x idx u _ _ (fun k' hk' => ?_) (ValueIdx.ix1 k) ((lands_row _ rfl rfl rfl rfl idx k 0 l).2 ⟨h0, by rw [h1]; omega⟩)
  obtain ⟨k', rfl⟩ : ∃ k, k' = ValueIdx.ix1 k := ⟨k' 0, (eq_ix1 k').trans (one_index _)⟩
  have := ((lands_row _ rfl rfl rfl rfl idx k' 0 l).1 hk').2
  rw [h1] at this
  exact congrArg (fun k : Fin 8 => u (ValueIdx.ix1 k)) (Fin.ext (by omega))

/-- Two words joined to a pair. -/
theorem pair_words (a b : IVec S1 32) (ha : a (ix1 0) = 0#32) (hb : b (ix1 0) = 16#32) :
    ((concatenate S2 0 [⟨S1, a⟩, ⟨S1, b⟩] concatenates_S1_S1_S2_d0 : IVec S2 32) (ix1 0)).toInt = 0
      ∧ ((concatenate S2 0 [⟨S1, a⟩, ⟨S1, b⟩] concatenates_S1_S1_S2_d0 : IVec S2 32) (ix1 1)).toInt = 16 := by
  constructor
  · have e : (concatenate S2 0 [⟨S1, a⟩, ⟨S1, b⟩] concatenates_S1_S1_S2_d0 : IVec S2 32) (ix1 0) = a (ix1 0) := by pointwise
    rw [e, ha]
    decide
  · have e : (concatenate S2 0 [⟨S1, a⟩, ⟨S1, b⟩] concatenates_S1_S1_S2_d0 : IVec S2 32) (ix1 1) = b (ix1 0) := by pointwise
    rw [e, hb]
    decide

section
variable (m : (ℓ : Loc nD τ sig) → Buf (Elt Ideal) ℓ) (c : Dev nD)

/-- The projection's rows. -/
def argX : Vec Ideal S8192x5120 .f32 := m (c, Proc.tc.devRef main_arg0)
/-- The convolution's weights. -/
def argW : Vec Ideal S4x3072 .f32 := m (c, Proc.tc.devRef main_arg1)
/-- The heads' decay rates, as logarithms. -/
def argA : Vec Ideal S8 .f32 := m (c, Proc.tc.devRef main_arg2)
/-- The heads' offsets. -/
def argD : Vec Ideal S8 .f32 := m (c, Proc.tc.devRef main_arg3)

theorem V_a (l : Fin 128) (k : Fin 8) (hk : l.val = 16 + k.val) : (Gen.V m c main_v4 : Vec Ideal S1x128 .f32) (ix2 0 l) = argA m c (ix1 k) := by
  unfold Gen.V
  simp only [List.flatten_cons, List.flatten_nil, hostOps0, List.cons_append, List.nil_append, List.append_nil]
  after_reads_at
  refine row_inside _ _ _ (pair_words _ _ ?_ ?_).1 (pair_words _ _ ?_ ?_).2 l k hk <;>
  · simp only [StableHlo.upto, List.take]
    after_reads_at

theorem V_d (l : Fin 128) (k : Fin 8) (hk : l.val = 16 + k.val) : (Gen.V m c main_v9 : Vec Ideal S1x128 .f32) (ix2 0 l) = argD m c (ix1 k) := by
  unfold Gen.V
  simp only [List.flatten_cons, List.flatten_nil, hostOps0, List.cons_append, List.nil_append, List.append_nil]
  after_reads_at
  refine row_inside _ _ _ (pair_words _ _ ?_ ?_).1 (pair_words _ _ ?_ ?_).2 l k hk <;>
  · simp only [StableHlo.upto, List.take]
    after_reads_at

/-- Where each block of a grid point lies. -/
theorem idx : ∀ t : Fin cfg0.N, win0_0.index t = ![t.val, 0] ∧ win0_1.index t = ![t.val * 32 - 1, 0] ∧ win0_2.index t = ![t.val, 39]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val / 16, 0, t.val % 16] :=
  (by decide +kernel : ∀ t : Fin grid0.N, _)

theorem seq_at : ∀ t : Fin cfg0.N, (grid0.coords t 1).val = t.val % 16 := (by decide +kernel : ∀ t : Fin grid0.N, _)

variable (t : Fin cfg0.N)

theorem t_lt : t.val < 32 := lt_of_lt_of_eq t.isLt (by decide)

/-- The point's token `r`, in the array. -/
def at' (r : Fin 256) : Fin 8192 := ⟨t.val * 256 + r.val, by have := t_lt t; omega⟩

theorem blk_x (r : Fin 256) (l : Fin 3072) : (X0_0 m c t (ix2 r l) : EReal) = argX m c (ix2 (at' t r) ⟨l.val, by omega⟩) := by
  unfold X0_0 Pipeline.Window.fill argX at'
  rw [dif_pos (moved0_0 t (ix2 r l))]
  blk_ext [iblk, V, idx t]

theorem blk_halo (r : Fin 8) (l : Fin 3072) (ht : 0 < t.val) :
    (X0_1 m c t (ix2 r l) : EReal) = argX m c (ix2 ⟨t.val * 256 - 8 + r.val, by have := t_lt t; omega⟩ ⟨l.val, by omega⟩) := by
  unfold X0_1 Pipeline.Window.fill argX
  rw [dif_pos (moved0_1 t (ix2 r l))]
  blk_ext [iblk, V, idx t]

theorem blk_small (r : Fin 256) (l : Fin 128) : ((iblk m c 2 t : Vec Ideal S256x128 .f32) (ix2 r l) : EReal) = argX m c (ix2 (at' t r) ⟨4992 + l.val, by omega⟩) := by
  unfold argX at'
  blk_ext [iblk, V, idx t]

theorem blk_w (k : Fin 4) (l : Fin 3072) : ((iblk m c 3 t : Vec Ideal S4x3072 .f32) (ix2 k l) : EReal) = argW m c (ix2 k l) := by
  unfold argW
  blk_ext [iblk, V, idx t]

theorem blk_a (l : Fin 128) (k : Fin 8) (hk : l.val = 16 + k.val) : ((iblk m c 4 t : Vec Ideal S1x128 .f32) (ix2 0 l) : EReal) = argA m c (ix1 k) := by
  refine Eq.trans ?_ (V_a m c l k hk)
  blk_ext [iblk, idx t]

theorem blk_d (l : Fin 128) (k : Fin 8) (hk : l.val = 16 + k.val) : ((iblk m c 5 t : Vec Ideal S1x128 .f32) (ix2 0 l) : EReal) = argD m c (ix1 k) := by
  refine Eq.trans ?_ (V_d m c l k hk)
  blk_ext [iblk, idx t]

/-- The rows above a row, in the block or the one before, are the array's. -/
theorem back_at (d : Fin 4) (r : Fin 256) (l : Fin 3072) :
    back (grid0.coords t) (X0_0 m c t) (X0_1 m c t) d r l = past (argX m c) d.val (at' t r) l := by
  have ht := t_lt t
  unfold back past
  by_cases h : d.val ≤ r.val
  · rw [dif_pos h, if_pos (by show d.val ≤ (t.val * 256 + r.val) % 4096; omega), blk_x]
    exact congrArg (fun r : Fin 8192 => argX m c (ix2 r _)) (Fin.ext (by show t.val * 256 + (r.val - d.val) = t.val * 256 + r.val - d.val; omega))
  · rw [dif_neg h, seq_at]
    by_cases h2 : t.val % 16 = 0
    · rw [if_pos h2, if_neg (by show ¬d.val ≤ (t.val * 256 + r.val) % 4096; omega)]
    · rw [if_neg h2, if_pos (by show d.val ≤ (t.val * 256 + r.val) % 4096; omega), blk_halo m c t _ _ (by omega)]
      exact congrArg (fun r : Fin 8192 => argX m c (ix2 r _)) (Fin.ext (by show t.val * 256 - 8 + (8 + r.val - d.val) = t.val * 256 + r.val - d.val; omega))

/-- The point's activations are the array's. -/
theorem act_at (r : Fin 256) (l : Fin 3072) : actAt m c t r l = silu (mixed (argX m c) (argW m c) (at' t r) l) := by
  unfold actAt conv mixed
  rw [back_at, back_at, back_at]
  simp only [blk_w, blk_x]
  rfl

/-- The point's table is the array's. -/
theorem table_at (r : Fin 256) (l : Fin 128) : tableAt m c t r l = tableRow (argX m c) (argA m c) (argD m c) (at' t r) l := by
  have ht := t_lt t
  unfold tableAt tableRow
  by_cases h : 16 ≤ l.val ∧ l.val < 24
  · rw [if_pos h, dif_pos h, show (at' t r).val % 128 = r.val % 128 by show (t.val * 256 + r.val) % 128 = _; omega]
    refine Finset.sum_congr rfl fun k hk => ?_
    have := Finset.mem_range.mp hk
    unfold gates gateAt
    show gate ((iblk m c 4 t : Vec Ideal S1x128 .f32) (ix2 0 l)) ((iblk m c 2 t : Vec Ideal S256x128 .f32) (ix2 _ l)) ((iblk m c 5 t : Vec Ideal S1x128 .f32) (ix2 0 l)) = _
    rw [blk_a m c t l ⟨l.val - 16, by omega⟩ (by show l.val = 16 + (l.val - 16); omega), blk_d m c t l ⟨l.val - 16, by omega⟩ (by show l.val = 16 + (l.val - 16); omega), blk_small]
    refine congrArg (fun z : S8192x5120.Idx => gate _ (argX m c z) _) ?_
    refine congrArg₂ (fun (a : Fin 8192) (b : Fin 5120) => ix2 a b) (Fin.ext ?_) (Fin.ext ?_)
    · show t.val * 256 + (r.val / 128 * 128 + k) % 256 = ((t.val * 256 + r.val) / 128 * 128 + k) % 8192
      omega
    · show 4992 + l.val = 5008 + (l.val - 16)
      omega
  · rw [if_neg h, dif_neg h, blk_small]

end

section
variable (m : (ℓ : Loc nD τ sig) → Buf (Elt Ideal) ℓ) (c : Dev nD)

theorem array_q : (dats m 0 c).arrAt 6 cfg0.N = rowsQ (argX m c) (argW m c) := by
  refine (dats m 0 c).arrAt_eq_of_covers 6 _ (by decide +kernel) fun t hf y => ?_
  blk_simp
  rw [after0_6]
  obtain ⟨r, j, rfl⟩ : ∃ r j, y = ix2 r j := ⟨y 0, y 1, eq_ix2 y⟩
  have e : (win0_6.blk t).view.emb (ix2 r j) = ix2 (at' t r) j := by
    unfold at'
    blk_ext [idx t]
  rw [e]
  refine (blockQ m c t r j).trans ?_
  simp only [act_at]
  rfl

theorem array_k : (dats m 0 c).arrAt 7 cfg0.N = rowsK (argX m c) (argW m c) := by
  refine (dats m 0 c).arrAt_eq_of_covers 7 _ (by decide +kernel) fun t hf y => ?_
  blk_simp
  rw [after0_7]
  obtain ⟨r, j, rfl⟩ : ∃ r j, y = ix2 r j := ⟨y 0, y 1, eq_ix2 y⟩
  have e : (win0_7.blk t).view.emb (ix2 r j) = ix2 (at' t r) j := by
    unfold at'
    blk_ext [idx t]
  rw [e]
  refine (blockK m c t r j).trans ?_
  simp only [act_at]
  rfl

theorem array_v : (dats m 0 c).arrAt 8 cfg0.N = rowsV (argX m c) (argW m c) := by
  refine (dats m 0 c).arrAt_eq_of_covers 8 _ (by decide +kernel) fun t hf y => ?_
  blk_simp
  rw [after0_8]
  obtain ⟨r, j, rfl⟩ : ∃ r j, y = ix2 r j := ⟨y 0, y 1, eq_ix2 y⟩
  have e : (win0_8.blk t).view.emb (ix2 r j) = ix2 (at' t r) j := by
    unfold at'
    blk_ext [idx t]
  rw [e]
  refine (blockV m c t r j).trans ?_
  rw [act_at]
  rfl

theorem array_g : (dats m 0 c).arrAt 9 cfg0.N = rowsG (argX m c) (argA m c) (argD m c) := by
  refine (dats m 0 c).arrAt_eq_of_covers 9 _ (by decide +kernel) fun t hf y => ?_
  blk_simp
  rw [after0_9]
  obtain ⟨r, j, rfl⟩ : ∃ r j, y = ix2 r j := ⟨y 0, y 1, eq_ix2 y⟩
  have e : (win0_9.blk t).view.emb (ix2 r j) = ix2 (at' t r) j := by
    unfold at'
    blk_ext [idx t]
  rw [e]
  refine (blockG m c t r j).trans ?_
  rw [table_at]
  rfl

theorem array_t : (dats m 0 c).arrAt 10 cfg0.N = rowsT (argX m c) (argA m c) (argD m c) := by
  refine (dats m 0 c).arrAt_eq_of_covers 10 _ (by decide +kernel) fun t hf y => ?_
  blk_simp
  rw [after0_10]
  obtain ⟨u, j, r, rfl⟩ : ∃ u j r, y = ix3 u j r := ⟨y 0, y 1, y 2, eq_ix3 y⟩
  have ht := t_lt t
  have hu : u.val = 0 := by have : u.val < 1 := u.isLt; omega
  have e : (win0_10.blk t).view.emb (ix3 u j r) = ix3 (⟨t.val / 16, by omega⟩ : Fin 2) j (⟨t.val % 16 * 256 + r.val, by omega⟩ : Fin 4096) := by
    blk_ext [idx t]
  rw [e]
  refine (blockT m c t u j r).trans ?_
  rw [table_at]
  exact congrArg (fun r : Fin 8192 => tableRow (argX m c) (argA m c) (argD m c) r j)
    (Fin.ext (by show t.val * 256 + r.val = 4096 * (t.val / 16) + (t.val % 16 * 256 + r.val); omega))

end

end Cert.GdnPrepIdeal.Rows

end
-- ==== Proof.GdnPrepTie.lean ====
/- The reference of the convolution and the gates, read at an index: the same five arrays. -/
module

public import proofs.«01_k».proof.Proof.GdnPrepValue
public import proofs.«01_k».proof.Proof.GdnHost
public import proofs.«01_k».proof.Proof.Gen.GdnPrepReferenceIdeal.Read
public import Idealize.ShloMosaic.Lib.KernelVsHost

@[expose] public section

set_option maxRecDepth 16384

noncomputable section

namespace Cert.GdnPrepIdeal.Tie

open Cert.GdnPrepReferenceIdeal Cert.GdnPrepReferenceIdeal.Gen Cert.GdnPrepReferenceIdeal.Read Idealize.ShloMosaic Idealize.ShloMosaic.TcCoe Idealize.SL.Sem
open Cert.GdnPrepIdeal.Rows (silu logistic unitNorm gate headNorm headNorm_at past mixed rowsQ rowsK rowsV gateAt tableRow rowsG rowsT)
open Cert.KernelIdeal.Unit (foldl_add sum_tail)

section
variable (X : Vec Ideal S8192x5120 .f32) (W : Vec Ideal S4x3072 .f32) (A D : Vec Ideal S8 .f32)

/-- Token `n` of sequence `b` among all tokens. -/
def tok (b : Fin 2) (n : Fin 4096) : Fin 8192 := ⟨4096 * b.val + n.val, by omega⟩

/-! ## The convolution -/

theorem seq_apply (b : Fin 2) (n : Fin 4096) (l : Fin 3072) :
    (val_main_v1 (F := Ideal) X (ix3 b n l) : EReal) = X (ix2 (tok b n) ⟨l.val, by omega⟩) := by
  pointwise [val_main_v1, val_main_v0]
  exact congrArg (fun r : Fin 8192 => X (ix2 r _)) (Fin.ext (by show b.val * 4096 + n.val = 4096 * b.val + n.val; omega))

theorem padded_apply (b : Fin 2) (i : Fin 4099) (n : Fin 4096) (d : Nat) (hd : i.val + d = n.val + 3) (l : Fin 3072) :
    (val_main_v2 (F := Ideal) X (ix3 b i l) : EReal) = past X d (tok b n) l := by
  unfold past
  have hm : (tok b n).val % 4096 = n.val := by show (4096 * b.val + n.val) % 4096 = n.val; omega
  rw [hm]
  by_cases h : d ≤ n.val
  · rw [if_pos h]
    unfold val_main_v2
    refine (pad_apply_of_inside _ _ _ _ _ _ _ (ix3 b i l) (ix3 b (⟨n.val - d, by omega⟩ : Fin 4096) l) fun a => ?_).trans ?_
    · match a with
      | ⟨0, _⟩ => show b.val = 0 + b.val * 1; omega
      | ⟨1, _⟩ => show i.val = 3 + (n.val - d) * 1; omega
      | ⟨2, _⟩ => show l.val = 0 + l.val * 1; omega
    · rw [seq_apply]
      exact congrArg (fun r : Fin 8192 => X (ix2 r _)) (Fin.ext (by show 4096 * b.val + (n.val - d) = 4096 * b.val + n.val - d; omega))
  · rw [if_neg h]
    unfold val_main_v2
    refine (pad_apply_of_not_inside _ _ _ _ _ _ _ (ix3 b i l) ⟨1, by decide⟩ fun hin => ?_).trans ?_
    · have : 3 ≤ i.val := hin.1
      omega
    · pointwise [val_main_call0_v0, val_main_c]
      show (((0#32 : BitVec 32).toInt : ℝ) : EReal) = 0
      simp

theorem mixed_apply (b : Fin 2) (n : Fin 4096) (l : Fin 3072) :
    (val_main_v31 (F := Ideal) X W (ix3 b n l) : EReal) = mixed X W (tok b n) l := by
  have p0 := padded_apply X b ⟨0 + n.val, by omega⟩ n 3 (by show 0 + n.val + 3 = n.val + 3; omega) l
  have p1 := padded_apply X b ⟨1 + n.val, by omega⟩ n 2 (by show 1 + n.val + 2 = n.val + 3; omega) l
  have p2 := padded_apply X b ⟨2 + n.val, by omega⟩ n 1 (by show 2 + n.val + 1 = n.val + 3; omega) l
  have p3 := padded_apply X b ⟨3 + n.val, by omega⟩ n 0 (by show 3 + n.val + 0 = n.val + 3; omega) l
  generalize hy : val_main_v2 (F := Ideal) X = y at p0 p1 p2 p3
  unfold mixed
  rw [← p0, ← p1, ← p2, ← p3]
  pointwise [val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11,
    val_main_v10, val_main_v9, val_main_cst, val_main_v8, val_main_v7, val_main_v6, val_main_v5, val_main_v4, val_main_v3, hy]
  abel

theorem act_apply (b : Fin 2) (n : Fin 4096) (l : Fin 3072) :
    (val_main_v32 (F := Ideal) X W (ix3 b n l) : EReal) = silu (mixed X W (tok b n) l) := by
  have h := mixed_apply X W b n l
  generalize hy : val_main_v31 (F := Ideal) X W = y at h
  rw [← h]
  pointwise [val_main_v32, val_main_call1_v5, val_main_call1_v4, val_main_call1_cst_0, val_main_call1_v3, val_main_call1_v2, val_main_call1_cst,
    val_main_call1_v1, val_main_call1_v0, hy]
  rfl

/-! ## The heads -/

theorem seq_of (r : Fin 8192) : tok ⟨r.val / 4096, by omega⟩ ⟨r.val % 4096, by omega⟩ = r :=
  Fin.ext (by show 4096 * (r.val / 4096) + r.val % 4096 = r.val; omega)

theorem headQ (f : Fin 3072 → EReal) (j : Fin 1024) :
    f ⟨j.val, by omega⟩ * Ideal.rsqrt (∑ x : Fin 128, f ⟨j.val / 128 * 128 + x.val, by omega⟩ * f ⟨j.val / 128 * 128 + x.val, by omega⟩ + Ideal.ofBits .f32 897988541#32)
        * Ideal.ofBits .f32 1035273459#32
      = headNorm (fun l => f ⟨l.val, by omega⟩) j * Ideal.ofBits .f32 1035273459#32 := by
  rw [headNorm_at _ _ (j.val / 128 * 128) ⟨j.val % 128, by omega⟩ (by show j.val = j.val / 128 * 128 + j.val % 128; omega) (by omega)]

theorem headK (f : Fin 3072 → EReal) (j : Fin 1024) :
    f ⟨1024 + j.val, by omega⟩
        * Ideal.rsqrt (∑ x : Fin 128, f ⟨1024 + (j.val / 128 * 128 + x.val), by omega⟩ * f ⟨1024 + (j.val / 128 * 128 + x.val), by omega⟩ + Ideal.ofBits .f32 897988541#32)
      = headNorm (fun l => f ⟨1024 + l.val, by omega⟩) j := by
  rw [headNorm_at _ _ (j.val / 128 * 128) ⟨j.val % 128, by omega⟩ (by show j.val = j.val / 128 * 128 + j.val % 128; omega) (by omega)]

theorem q_apply (r : Fin 8192) (j : Fin 1024) : (val_main_v79 (F := Ideal) X W (ix2 r j) : EReal) = rowsQ X W (ix2 r j) := by
  have h : ∀ l, (val_main_v32 (F := Ideal) X W (ix3 (⟨r.val / 4096, by omega⟩ : Fin 2) (⟨r.val % 4096, by omega⟩ : Fin 4096) l) : EReal) = silu (mixed X W r l) :=
    fun l => (act_apply X W _ _ l).trans (by rw [seq_of])
  generalize hy : val_main_v32 (F := Ideal) X W = y at h
  pointwise [val_main_v79, val_main_v46, val_main_v45, val_main_cst_2, val_main_v44, val_main_v43, val_main_v42, val_main_v41, val_main_v40, val_main_cst_1,
    val_main_v39, val_main_v38, val_main_cst_0, val_main_v37, val_main_v36, val_main_v33, hy]
  simp only [h]
  exact headQ (fun l => silu (mixed X W r l)) j

theorem k_apply (r : Fin 8192) (j : Fin 1024) : (val_main_v80 (F := Ideal) X W (ix2 r j) : EReal) = rowsK X W (ix2 r j) := by
  have h : ∀ l, (val_main_v32 (F := Ideal) X W (ix3 (⟨r.val / 4096, by omega⟩ : Fin 2) (⟨r.val % 4096, by omega⟩ : Fin 4096) l) : EReal) = silu (mixed X W r l) :=
    fun l => (act_apply X W _ _ l).trans (by rw [seq_of])
  generalize hy : val_main_v32 (F := Ideal) X W = y at h
  pointwise [val_main_v80, val_main_v55, val_main_v54, val_main_v53, val_main_v52, val_main_v51, val_main_cst_4,
    val_main_v50, val_main_v49, val_main_cst_3, val_main_v48, val_main_v47, val_main_v34, hy]
  simp only [h]
  exact headK (fun l => silu (mixed X W r l)) j

theorem v_apply (r : Fin 8192) (j : Fin 1024) : (val_main_v81 (F := Ideal) X W (ix2 r j) : EReal) = rowsV X W (ix2 r j) := by
  have h : ∀ l, (val_main_v32 (F := Ideal) X W (ix3 (⟨r.val / 4096, by omega⟩ : Fin 2) (⟨r.val % 4096, by omega⟩ : Fin 4096) l) : EReal) = silu (mixed X W r l) :=
    fun l => (act_apply X W _ _ l).trans (by rw [seq_of])
  generalize hy : val_main_v32 (F := Ideal) X W = y at h
  pointwise [val_main_v81, val_main_v35, hy]
  exact h _

/-! ## The table -/

theorem gate_apply (r : Fin 8192) (h : Fin 8) : (val_main_v66 (F := Ideal) X A D (ix2 r h) : EReal) = gateAt X A D r h := by
  pointwise [val_main_v66, val_main_v65, val_main_v64, val_main_v63, val_main_call2_v11, val_main_call2_v10, val_main_call2_v9, val_main_call2_v8, val_main_call2_v7,
    val_main_call2_v6, val_main_call2_v5, val_main_call2_v4, val_main_call2_v3, val_main_call2_v2, val_main_call2_v1, val_main_call2_v0, val_main_call2_cst,
    val_main_v62, val_main_v61, val_main_v60, val_main_v59, val_main_v58, val_main_v57, val_main_v56]
  have e : (⟨4992 + (16 + h.val), by omega⟩ : Fin 5120) = ⟨5008 + h.val, by omega⟩ := Fin.ext (by show 4992 + (16 + h.val) = 5008 + h.val; omega)
  rw [if_neg (fun hn => hn rfl), e]
  rfl

theorem rate_apply (r : Fin 8192) (l : Fin 128) : (val_main_v75 (F := Ideal) X (ix2 r l) : EReal) = logistic (X (ix2 r ⟨4992 + l.val, by omega⟩)) := by
  pointwise [val_main_v75, val_main_v74, val_main_cst_6, val_main_v73, val_main_v72, val_main_cst_5, val_main_v71, val_main_v70, val_main_v56]
  rfl

/-- The window of 128 positions along the second axis: a position's row-major number is its second coordinate, and the other coordinates are 0. -/
theorem window_at : ∀ n : Fin (⟨S64x128x8.rank, ![1, 128, 1]⟩ : Shape).numel,
    ((⟨S64x128x8.rank, ![1, 128, 1]⟩ : Shape).rowMajor.symm n ⟨0, by decide⟩).val = 0 ∧ ((⟨S64x128x8.rank, ![1, 128, 1]⟩ : Shape).rowMajor.symm n ⟨1, by decide⟩).val = n.val
      ∧ ((⟨S64x128x8.rank, ![1, 128, 1]⟩ : Shape).rowMajor.symm n ⟨2, by decide⟩).val = 0 := by
  decide +kernel

/-- The running sum within each chunk of 128 tokens. -/
theorem runningSum (x : Vec Ideal S64x128x8 .f32) (v : Vec Ideal S_ .f32) (hv : ∀ i, v i = (0 : EReal)) (hw) (hu) (t : Fin 64) (j : Fin 128) (h : Fin 8) :
    (Host.reduceWindowAdd (F := Ideal) (φ := .f32) ![1, 128, 1] ![1, 1, 1] ![0, 127, 0] ![0, 0, 0] x v hw hu : Vec Ideal S64x128x8 .f32) (ix3 t j h)
      = ∑ i ∈ Finset.range (j.val + 1), (x (ix3 t ⟨i % 128, Nat.mod_lt _ (by decide)⟩ h) : EReal) := by
  rw [← sum_tail (fun i => (x (ix3 t ⟨i % 128, Nat.mod_lt _ (by decide)⟩ h) : EReal)) j.val j.isLt]
  show List.foldl _ _ _ = _
  rw [hv]
  refine (foldl_add _ _ _).trans ?_
  rw [zero_add, ← Fin.sum_univ_def]
  refine Eq.trans (Finset.sum_congr rfl fun n _ => ?_) (Fin.sum_univ_eq_sum_range (fun n => if 127 ≤ j.val + n then (x (ix3 t ⟨(j.val + n - 127) % 128, Nat.mod_lt _ (by decide)⟩ h) : EReal) else 0) _)
  obtain ⟨h0, h1, h2⟩ := window_at n
  have hn : n.val < 128 := lt_of_lt_of_eq n.isLt (by decide)
  have hj := j.isLt
  split_ifs with hin hc hc
  · congr 1
    funext a
    apply Fin.ext
    match a with
    | ⟨0, _⟩ => show t.val * 1 + _ - 0 = t.val; have := h0; omega
    | ⟨1, _⟩ => show j.val * 1 + _ - 127 = (j.val + n.val - 127) % 128; have := h1; omega
    | ⟨2, _⟩ => show h.val * 1 + _ - 0 = h.val; have := h2; omega
  · have h' : 127 ≤ j.val * 1 + _ := (hin ⟨1, by decide⟩).1
    have := h1
    omega
  · refine absurd (fun a => ?_) hin
    match a with
    | ⟨0, _⟩ => show 0 ≤ t.val * 1 + _ ∧ t.val * 1 + _ - 0 < 64; have := h0; omega
    | ⟨1, _⟩ => show 127 ≤ j.val * 1 + _ ∧ j.val * 1 + _ - 127 < 128; have := h1; omega
    | ⟨2, _⟩ => show 0 ≤ h.val * 1 + _ ∧ h.val * 1 + _ - 0 < 8; have := h2; omega
  · rfl

theorem sums_apply (r : Fin 8192) (h : Fin 8) :
    (val_main_v69 (F := Ideal) X A D (ix2 r h) : EReal)
      = ∑ k ∈ Finset.range (r.val % 128 + 1), gateAt X A D ⟨(r.val / 128 * 128 + k) % 8192, Nat.mod_lt _ (by decide)⟩ h := by
  have e : (val_main_v69 (F := Ideal) X A D (ix2 r h) : EReal) = val_main_v68 (F := Ideal) X A D (ix3 (⟨r.val / 128, by omega⟩ : Fin 64) (⟨r.val % 128, by omega⟩ : Fin 128) h) := by
    unfold val_main_v69
    generalize val_main_v68 (F := Ideal) X A D = y
    pointwise
  rw [e]
  unfold val_main_v68
  refine (runningSum _ _ (fun i => by pointwise [val_main_call3_call0_v0, val_main_call3_call0_cst]) _ _ _ _ h).trans (Finset.sum_congr rfl fun k hk => ?_)
  have := Finset.mem_range.mp hk
  refine Eq.trans ?_ (gate_apply X A D _ h)
  unfold val_main_v67
  generalize val_main_v66 (F := Ideal) X A D = y
  pointwise
  exact congrArg (fun q : Fin 8192 => y (ix2 q h)) (Fin.ext (by show r.val / 128 * 128 + k % 128 = (r.val / 128 * 128 + k) % 8192; omega))

theorem table_apply (r : Fin 8192) (l : Fin 128) : (val_main_v78 (F := Ideal) X A D (ix2 r l) : EReal) = tableRow X A D r l := by
  have hr := rate_apply X r
  have hg := sums_apply X A D r
  generalize hy : val_main_v75 (F := Ideal) X = y at hr
  generalize hz : val_main_v69 (F := Ideal) X A D = z at hg
  unfold tableRow
  pointwise [val_main_v78, val_main_v77, val_main_v76, hy, hz]
  have hl := l.isLt
  by_cases h1 : l.val < 16
  · rw [dif_pos h1, dif_neg (by omega)]
    exact hr l
  · by_cases h2 : l.val - 16 < 8
    · rw [dif_neg h1, dif_pos h2, dif_pos (by omega)]
      exact hg _
    · rw [dif_neg h1, dif_neg h2, dif_neg (by omega)]
      refine Eq.trans ?_ (hr l)
      exact congrArg (fun q : Fin 128 => y (ix2 r q)) (Fin.ext (by show 24 + (l.val - 16 - 8) = l.val; omega))

theorem transposed_apply (b : Fin 2) (l : Fin 128) (n : Fin 4096) :
    (val_main_v83 (F := Ideal) X A D (ix3 b l n) : EReal) = rowsT X A D (ix3 b l n) := by
  have h := fun r => table_apply X A D r l
  generalize hy : val_main_v78 (F := Ideal) X A D = y at h
  pointwise [val_main_v83, val_main_v82, hy]
  refine (h _).trans ?_
  exact congrArg (fun q : Fin 8192 => tableRow X A D q l) (Fin.ext (by show b.val * 4096 + n.val = 4096 * b.val + n.val; omega))

end

end Cert.GdnPrepIdeal.Tie

end
-- ==== Proof.DsaPrepBlock.lean ====
/- What the body of the attention's preparation stores at one grid point, read at an index from the blocks it is given: the
   normed latents, the queries brought to the latents' width, the index queries and keys, and the index weights. -/
module

public import proofs.«01_k».proof.Proof.Gen.DsaPrepIdeal.Value
public import Idealize.ShloMosaic.Lib.Pipeline.ValueKit
public import Idealize.ShloMosaic.Lib.Pointwise

@[expose] public section

set_option maxRecDepth 16384

noncomputable section

namespace Cert.DsaPrepIdeal.Rows

open Cert.DsaPrepIdeal Cert.DsaPrepIdeal.Gen Idealize.ShloMosaic Idealize.ShloMosaic.TcCoe Idealize.SL.Sem

/-- The root mean square norm of a row with gain `g`, at one place; `N` is the row's width. -/
def rmsNorm {n : Nat} (N : EReal) (x g : Fin n → EReal) (j : Fin n) : EReal :=
  x j * Ideal.rsqrt (Ideal.div (∑ k, x k * x k) N + Ideal.ofBits .f32 897988541#32) * g j

/-- A row's mean over its 128 places. -/
def mean (y : Fin 128 → EReal) : EReal := Ideal.div (∑ k, y k) (Ideal.ofBits .f32 1124073472#32)

/-- The layer norm of a row at one place, with gain `g` and bias `b`. -/
def layerNorm (y : Fin 128 → EReal) (g b : EReal) (j : Fin 128) : EReal :=
  (y j - mean y) * Ideal.rsqrt (mean (fun k => (y k - mean y) * (y k - mean y)) + Ideal.ofBits .f32 897988541#32) * g + b

/-- The query latent's norm. -/
def normQ : (Fin 512 → EReal) → (Fin 512 → EReal) → Fin 512 → EReal := rmsNorm (Ideal.ofBits .f32 1140850688#32)
/-- The key and value latent's norm. -/
def normC : (Fin 256 → EReal) → (Fin 256 → EReal) → Fin 256 → EReal := rmsNorm (Ideal.ofBits .f32 1132462080#32)

theorem normed_apply (x : Vec Ideal S512x512 .f32) (g : Vec Ideal S1x512 .f32) (r j : Fin 512) :
    (k0_pay3 x g (ix2 r j) : EReal) = normQ (fun k => x (ix2 r k)) (fun k => g (ix2 0 k)) j := by
  unfold k0_pay3
  pointwise
  simp only [normQ, rmsNorm]

theorem query_apply (x : Vec Ideal S512x512 .f32) (g : Vec Ideal S1x512 .f32) (w : Vec Ideal S512x1024 .bf16) (r : Fin 512) (j : Fin 1024) :
    (k0_pay4 x g w (ix2 r j) : EReal) = ∑ k, normQ (fun k => x (ix2 r k)) (fun k => g (ix2 0 k)) k * w (ix2 k j) := by
  unfold k0_pay4
  pointwise
  simp only [normed_apply]

theorem index_apply (y : Vec Ideal S512x512 .bf16) (w : Vec Ideal S512x2048 .bf16) (r : Fin 512) (j : Fin 2048) :
    (k0_pay16 y w (ix2 r j) : EReal) = ∑ k, y (ix2 r k) * w (ix2 k j) := by
  unfold k0_pay16
  pointwise

theorem normedC_apply (x : Vec Ideal S512x256 .f32) (g : Vec Ideal S1x256 .f32) (r : Fin 512) (j : Fin 256) :
    (k0_pay36 x g (ix2 r j) : EReal) = normC (fun k => x (ix2 r k)) (fun k => g (ix2 0 k)) j := by
  unfold k0_pay36
  pointwise
  simp only [normC, rmsNorm]

section
variable (m : (ℓ : Loc nD τ sig) → Buf (Elt Ideal) ℓ) (c : Dev nD) (t : Fin cfg0.N)

/-- The index weights' tile before scaling. -/
def small (r : Fin 512) (l : Fin 128) : EReal := (iblk m c 3 t : Vec Ideal S512x128 .f32) (ix2 r l)

theorem blockW (h : Fin 16) (r : Fin 512) :
    ((outsAt0 m c t).2.2.2.2.2 (ix2 h r) : EReal) = small m c t r ⟨h.val, by omega⟩ * Ideal.ofBits .f32 1018496243#32 := by
  unfold outsAt0
  dsimp only
  frame_out
  unfold_payloads
  pointwise
  rfl

theorem blockI (r : Fin 512) (l : Fin 128) : ((outsAt0 m c t).2.2.2.2.1 (ix2 r l) : EReal)
    = layerNorm (fun k => (iblk m c 2 t : Vec Ideal S512x128 .f32) (ix2 r k)) ((iblk m c 9 t : Vec Ideal S1x128 .f32) (ix2 0 l))
        ((iblk m c 10 t : Vec Ideal S1x128 .f32) (ix2 0 l)) l := by
  unfold outsAt0
  dsimp only
  frame_out
  unfold_payloads
  pointwise
  simp only [layerNorm, mean]

/-- A token's normed key and value latent. -/
def latent (r : Fin 512) (l : Fin 256) : EReal :=
  normC (fun k => (iblk m c 1 t : Vec Ideal S512x256 .f32) (ix2 r k)) (fun k => (iblk m c 5 t : Vec Ideal S1x256 .f32) (ix2 0 k)) l

theorem blockC (r : Fin 512) (l : Fin 256) : ((outsAt0 m c t).2.2.1 (ix2 r l) : EReal) = latent m c t r l := by
  unfold outsAt0
  dsimp only
  frame_out
  unfold k0_pay37
  pointwise
  exact normedC_apply _ _ r l

theorem blockCT (u : Fin 1) (l : Fin 272) (r : Fin 512) : ((outsAt0 m c t).2.2.2.1 (ix3 u l r) : EReal)
    = if h : l.val < 256 then latent m c t r ⟨l.val, h⟩ else 1 := by
  unfold outsAt0
  dsimp only
  frame_out
  canon_tiles x h using (by
    have hl := l.isLt
    have hu := u.isLt
    have hr := r.isLt
    by_cases hc : l.val < 256
    · refine ⟨_, List.mem_cons_of_mem _ (List.mem_cons_self ..), ?_⟩
      refine (Rect.mem_set_unit (inb := inb_S1x272x512_S1x256x512_0_0_0)).2 fun a => ?_
      match a with
      | ⟨0, _⟩ => exact ⟨Nat.zero_le _, by show u.val < 0 + 1; omega⟩
      | ⟨1, _⟩ => exact ⟨Nat.zero_le _, by show l.val < 0 + 256; omega⟩
      | ⟨2, _⟩ => exact ⟨Nat.zero_le _, by show r.val < 0 + 512; omega⟩
    · refine ⟨_, List.mem_cons_self .., ?_⟩
      refine (Rect.mem_set_unit (inb := inb_S1x272x512_S1x16x512_0_256_0)).2 fun a => ?_
      match a with
      | ⟨0, _⟩ => exact ⟨Nat.zero_le _, by show u.val < 0 + 1; omega⟩
      | ⟨1, _⟩ => exact ⟨by show 256 ≤ l.val; omega, by show l.val < 256 + 16; omega⟩
      | ⟨2, _⟩ => exact ⟨Nat.zero_le _, by show r.val < 0 + 512; omega⟩)
  all_goals
    obtain ⟨a, b, d, rfl⟩ : ∃ a b d, x = ix3 a b d := ⟨x 0, x 1, x 2, eq_ix3 x⟩
    have e2 : r.val = d.val := h2
    obtain rfl : r = d := Fin.ext e2
  case piece0 =>
    have e1 : l.val = 256 + b.val := h1
    rw [dif_neg (by omega)]
    unfold k0_pay39
    pointwise
  case piece1 =>
    have e1 : l.val = b.val := h1
    rw [dif_pos (by have := b.isLt; omega), show (⟨l.val, by have := b.isLt; omega⟩ : Fin 256) = b from Fin.ext e1]
    unfold k0_pay38
    pointwise
    exact normedC_apply _ _ r b

/-- A token's normed query latent. -/
def latentQ (r k : Fin 512) : EReal :=
  normQ (fun k => (iblk m c 0 t : Vec Ideal S512x512 .f32) (ix2 r k)) (fun k => (iblk m c 4 t : Vec Ideal S1x512 .f32) (ix2 0 k)) k

/-- A token's query at one place of all heads. -/
def query (r : Fin 512) (j : Fin 1024) : EReal := ∑ k, latentQ m c t r k * (iblk m c 6 t : Vec Ideal S512x1024 .bf16) (ix2 k j)

theorem blockK (u : Fin 1) (h : Fin 16) (r : Fin 512) (l : Fin 128) : ((outsAt0 m c t).2.1 (ix4 u h r l) : EReal)
    = ∑ k, latentQ m c t r k * (iblk m c 8 t : Vec Ideal S512x2048 .bf16) (ix2 k ⟨128 * h.val + l.val, by omega⟩) := by
  unfold outsAt0
  dsimp only
  frame_out
  canon_tiles x h
  all_goals
    obtain ⟨a, b, d, e, rfl⟩ : ∃ a b d e, x = ix4 a b d e := ⟨x 0, x 1, x 2, x 3, eq_ix4 x⟩
    obtain rfl : b = 0 := Subsingleton.elim _ _
    obtain rfl : r = d := Fin.ext h2
    obtain rfl : l = e := Fin.ext h3
  case piece0 =>
    obtain rfl : h = 15 := Fin.ext h1
    unfold k0_pay34 k0_pay35
    pointwise
    simp only [index_apply, normed_apply]
    rfl
  case piece1 =>
    obtain rfl : h = 14 := Fin.ext h1
    unfold k0_pay33
    pointwise
    simp only [index_apply, normed_apply]
    rfl
  case piece2 =>
    obtain rfl : h = 13 := Fin.ext h1
    unfold k0_pay32
    pointwise
    simp only [index_apply, normed_apply]
    rfl
  case piece3 =>
    obtain rfl : h = 12 := Fin.ext h1
    unfold k0_pay31
    pointwise
    simp only [index_apply, normed_apply]
    rfl
  case piece4 =>
    obtain rfl : h = 11 := Fin.ext h1
    unfold k0_pay30
    pointwise
    simp only [index_apply, normed_apply]
    rfl
  case piece5 =>
    obtain rfl : h = 10 := Fin.ext h1
    unfold k0_pay29
    pointwise
    simp only [index_apply, normed_apply]
    rfl
  case piece6 =>
    obtain rfl : h = 9 := Fin.ext h1
    unfold k0_pay27 k0_pay28
    pointwise
    simp only [index_apply, normed_apply]
    rfl
  case piece7 =>
    obtain rfl : h = 8 := Fin.ext h1
    unfold k0_pay26
    pointwise
    simp only [index_apply, normed_apply]
    rfl
  case piece8 =>
    obtain rfl : h = 7 := Fin.ext h1
    unfold k0_pay25
    pointwise
    simp only [index_apply, normed_apply]
    rfl
  case piece9 =>
    obtain rfl : h = 6 := Fin.ext h1
    unfold k0_pay24
    pointwise
    simp only [index_apply, normed_apply]
    rfl
  case piece10 =>
    obtain rfl : h = 5 := Fin.ext h1
    unfold k0_pay23
    pointwise
    simp only [index_apply, normed_apply]
    rfl
  case piece11 =>
    obtain rfl : h = 4 := Fin.ext h1
    unfold k0_pay22
    pointwise
    simp only [index_apply, normed_apply]
    rfl
  case piece12 =>
    obtain rfl : h = 3 := Fin.ext h1
    unfold k0_pay20 k0_pay21
    pointwise
    simp only [index_apply, normed_apply]
    rfl
  case piece13 =>
    obtain rfl : h = 2 := Fin.ext h1
    unfold k0_pay19
    pointwise
    simp only [index_apply, normed_apply]
    rfl
  case piece14 =>
    obtain rfl : h = 1 := Fin.ext h1
    unfold k0_pay18
    pointwise
    simp only [index_apply, normed_apply]
    rfl
  case piece15 =>
    obtain rfl : h = 0 := Fin.ext h1
    unfold k0_pay17
    pointwise
    simp only [index_apply, normed_apply]
    rfl

theorem blockQ (u : Fin 1) (h : Fin 8) (r : Fin 512) (l : Fin 256) : ((outsAt0 m c t).1 (ix4 u h r l) : EReal)
    = (∑ k : Fin 128, query m c t r ⟨128 * h.val + k.val, by omega⟩ * (iblk m c 7 t : Vec Ideal S8x128x256 .bf16) (ix3 h k l)) * Ideal.ofBits .f32 1040356334#32 := by
  unfold outsAt0
  dsimp only
  frame_out
  canon_tiles x h
  all_goals
    obtain ⟨a, b, d, e, rfl⟩ : ∃ a b d e, x = ix4 a b d e := ⟨x 0, x 1, x 2, x 3, eq_ix4 x⟩
    obtain rfl : b = 0 := Subsingleton.elim _ _
    obtain rfl : r = d := Fin.ext h2
    obtain rfl : l = e := Fin.ext h3
  case piece0 =>
    obtain rfl : h = 7 := Fin.ext h1
    unfold k0_pay14 k0_pay15
    pointwise
    simp only [query_apply]
    rfl
  case piece1 =>
    obtain rfl : h = 6 := Fin.ext h1
    unfold k0_pay13
    pointwise
    simp only [query_apply]
    rfl
  case piece2 =>
    obtain rfl : h = 5 := Fin.ext h1
    unfold k0_pay12
    pointwise
    simp only [query_apply]
    rfl
  case piece3 =>
    obtain rfl : h = 4 := Fin.ext h1
    unfold k0_pay10 k0_pay11
    pointwise
    simp only [query_apply]
    rfl
  case piece4 =>
    obtain rfl : h = 3 := Fin.ext h1
    unfold k0_pay9
    pointwise
    simp only [query_apply]
    rfl
  case piece5 =>
    obtain rfl : h = 2 := Fin.ext h1
    unfold k0_pay8
    pointwise
    simp only [query_apply]
    rfl
  case piece6 =>
    obtain rfl : h = 1 := Fin.ext h1
    unfold k0_pay6 k0_pay7
    pointwise
    simp only [query_apply]
    rfl
  case piece7 =>
    obtain rfl : h = 0 := Fin.ext h1
    unfold k0_pay5
    pointwise
    simp only [query_apply]
    rfl

end

end Cert.DsaPrepIdeal.Rows
end
-- ==== Proof.DsaPrepValue.lean ====
/- The six result arrays of the attention's preparation at the ideal instance, from its arguments. -/
module

public import proofs.«01_k».proof.Proof.DsaPrepBlock
public import Idealize.ShloMosaic.Lib.StableHlo.ReadAt

@[expose] public section

set_option maxRecDepth 16384

noncomputable section

namespace Cert.DsaPrepIdeal.Rows

open Cert.DsaPrepIdeal Cert.DsaPrepIdeal.Gen Idealize.ShloMosaic Idealize.ShloMosaic.TcCoe Idealize.SL.Sem

/-! ## The arrays as functions of the arguments -/

section
variable (X : Vec Ideal S8192x5120 .f32) (G : Vec Ideal S512 .f32) (K : Vec Ideal S256 .f32) (U : Vec Ideal S512x8x128 .f32)
  (L : Vec Ideal S8x128x256 .f32) (Q : Vec Ideal S512x2048 .f32) (N B : Vec Ideal S128 .f32)

/-- A token's normed query latent. -/
def latentQAt (r : Fin 8192) (k : Fin 512) : EReal := normQ (fun k => X (ix2 r ⟨4096 + k.val, by omega⟩)) (fun k => G (ix1 k)) k

/-- A token's normed key and value latent. -/
def latentAt (r : Fin 8192) (l : Fin 256) : EReal := normC (fun k => X (ix2 r ⟨4608 + k.val, by omega⟩)) (fun k => K (ix1 k)) l

/-- A token's query in one head. -/
def queryAt (r : Fin 8192) (h : Fin 8) (k : Fin 128) : EReal := ∑ j, latentQAt X G r j * U (ix3 j h k)

/-- Token `r` of block `b` among all tokens. -/
def tok (b : Fin 16) (r : Fin 512) : Fin 8192 := ⟨b.val * 512 + r.val, by omega⟩

/-- The queries brought to the latents' width, by block and head. -/
def rowsQ (i : S16x8x512x256.Idx) : EReal :=
  (∑ k, queryAt X G U (tok (i 0) (i 2)) (i 1) k * L (ix3 (i 1) k (i 3))) * Ideal.ofBits .f32 1040356334#32
/-- The index queries, by block and head. -/
def rowsK (i : S16x16x512x128.Idx) : EReal :=
  ∑ k, latentQAt X G (tok (i 0) (i 2)) k * Q (ix2 k ⟨128 * (i 1).val + (i 3).val, by
    have h1 : (i 1).val < 16 := (i 1).isLt; have h3 : (i 3).val < 128 := (i 3).isLt; omega⟩)
/-- The normed key and value latents. -/
def rowsC (i : S8192x256.Idx) : EReal := latentAt X K (i 0) (i 1)
/-- The same transposed within each block, with ones below. -/
def rowsT (i : S16x272x512.Idx) : EReal := if h : (i 1).val < 256 then latentAt X K (tok (i 0) (i 2)) ⟨(i 1).val, h⟩ else 1
/-- The index keys. -/
def rowsI (i : S8192x128.Idx) : EReal := layerNorm (fun k => X (ix2 (i 0) ⟨4864 + k.val, by omega⟩)) (N (ix1 (i 1))) (B (ix1 (i 1))) (i 1)
/-- The index weights. -/
def rowsW (i : S16x8192.Idx) : EReal := X (ix2 (i 1) ⟨4992 + (i 0).val, by have h : (i 0).val < 16 := (i 0).isLt; omega⟩) * Ideal.ofBits .f32 1018496243#32

end

section
variable (m : (ℓ : Loc nD τ sig) → Buf (Elt Ideal) ℓ) (c : Dev nD)

/-- The projection's rows. -/
def argX : Vec Ideal S8192x5120 .f32 := m (c, Proc.tc.devRef main_arg0)
/-- The query norm's gain. -/
def argG : Vec Ideal S512 .f32 := m (c, Proc.tc.devRef main_arg1)
/-- The key and value norm's gain. -/
def argK : Vec Ideal S256 .f32 := m (c, Proc.tc.devRef main_arg2)
/-- The weight from the query latent to the heads. -/
def argU : Vec Ideal S512x8x128 .f32 := m (c, Proc.tc.devRef main_arg3)
/-- The weight from each head to the latents' width. -/
def argL : Vec Ideal S8x128x256 .f32 := m (c, Proc.tc.devRef main_arg4)
/-- The weight from the query latent to the index heads. -/
def argQ : Vec Ideal S512x2048 .f32 := m (c, Proc.tc.devRef main_arg5)
/-- The index norm's gain. -/
def argN : Vec Ideal S128 .f32 := m (c, Proc.tc.devRef main_arg6)
/-- The index norm's bias. -/
def argB : Vec Ideal S128 .f32 := m (c, Proc.tc.devRef main_arg7)

theorem V_g (j : Fin 512) : (Gen.V m c main_v0 : Vec Ideal S1x512 .f32) (ix2 0 j) = argG m c (ix1 j) := by
  unfold Gen.V
  simp only [List.flatten_cons, List.flatten_nil, hostOps0, List.cons_append, List.nil_append, List.append_nil]
  after_reads_at
  rfl

theorem V_k (j : Fin 256) : (Gen.V m c main_v1 : Vec Ideal S1x256 .f32) (ix2 0 j) = argK m c (ix1 j) := by
  unfold Gen.V
  simp only [List.flatten_cons, List.flatten_nil, hostOps0, List.cons_append, List.nil_append, List.append_nil]
  after_reads_at
  rfl

theorem V_u (j : Fin 512) (h : Fin 8) (k : Fin 128) :
    (Gen.V m c main_v3 : Vec Ideal S512x1024 .bf16) (ix2 j ⟨128 * h.val + k.val, by omega⟩) = argU m c (ix3 j h k) := by
  unfold Gen.V
  simp only [List.flatten_cons, List.flatten_nil, hostOps0, List.cons_append, List.nil_append, List.append_nil]
  after_reads_at
  show argU m c _ = _
  refine congrArg (argU m c) ?_
  exact congrArg₂ (ix3 j) (Fin.ext (by show (128 * h.val + k.val) / 128 = h.val; omega)) (Fin.ext (by show (128 * h.val + k.val) % 128 = k.val; omega))

theorem V_l (h : Fin 8) (k : Fin 128) (l : Fin 256) : (Gen.V m c main_v4 : Vec Ideal S8x128x256 .bf16) (ix3 h k l) = argL m c (ix3 h k l) := by
  unfold Gen.V
  simp only [List.flatten_cons, List.flatten_nil, hostOps0, List.cons_append, List.nil_append, List.append_nil]
  after_reads_at
  rfl

theorem V_q (k : Fin 512) (j : Fin 2048) : (Gen.V m c main_v5 : Vec Ideal S512x2048 .bf16) (ix2 k j) = argQ m c (ix2 k j) := by
  unfold Gen.V
  simp only [List.flatten_cons, List.flatten_nil, hostOps0, List.cons_append, List.nil_append, List.append_nil]
  after_reads_at
  rfl

theorem V_n (j : Fin 128) : (Gen.V m c main_v6 : Vec Ideal S1x128 .f32) (ix2 0 j) = argN m c (ix1 j) := by
  unfold Gen.V
  simp only [List.flatten_cons, List.flatten_nil, hostOps0, List.cons_append, List.nil_append, List.append_nil]
  after_reads_at
  rfl

theorem V_b (j : Fin 128) : (Gen.V m c main_v7 : Vec Ideal S1x128 .f32) (ix2 0 j) = argB m c (ix1 j) := by
  unfold Gen.V
  simp only [List.flatten_cons, List.flatten_nil, hostOps0, List.cons_append, List.nil_append, List.append_nil]
  after_reads_at
  rfl

/-- Where each block of a grid point lies. -/
theorem idx : ∀ t : Fin cfg0.N, win0_0.index t = ![t.val, 8] ∧ win0_1.index t = ![t.val, 18] ∧ win0_2.index t = ![t.val, 38]
    ∧ win0_3.index t = ![t.val, 39] ∧ win0_4.index t = ![0, 0] ∧ win0_5.index t = ![0, 0] ∧ win0_6.index t = ![0, 0]
    ∧ win0_7.index t = ![0, 0, 0] ∧ win0_8.index t = ![0, 0] ∧ win0_9.index t = ![0, 0] ∧ win0_10.index t = ![0, 0]
    ∧ win0_11.index t = ![t.val, 0, 0, 0] ∧ win0_12.index t = ![t.val, 0, 0, 0] ∧ win0_13.index t = ![t.val, 0]
    ∧ win0_14.index t = ![t.val, 0, 0] ∧ win0_15.index t = ![t.val, 0] ∧ win0_16.index t = ![0, t.val] :=
  (by decide +kernel : ∀ t : Fin grid0.N, _)

variable (t : Fin cfg0.N)

/-- The grid point as a block's number. -/
def blkNo : Fin 16 := ⟨t.val, lt_of_lt_of_eq t.isLt (by decide)⟩

theorem blk_cq (r k : Fin 512) : (iblk m c 0 t : Vec Ideal S512x512 .f32) (ix2 r k) = argX m c (ix2 (tok (blkNo t) r) ⟨4096 + k.val, by omega⟩) := by
  unfold argX tok blkNo
  blk_ext [iblk, V, idx t]

theorem blk_ckv (r : Fin 512) (k : Fin 256) : (iblk m c 1 t : Vec Ideal S512x256 .f32) (ix2 r k) = argX m c (ix2 (tok (blkNo t) r) ⟨4608 + k.val, by omega⟩) := by
  unfold argX tok blkNo
  blk_ext [iblk, V, idx t]

theorem blk_kidx (r : Fin 512) (k : Fin 128) : (iblk m c 2 t : Vec Ideal S512x128 .f32) (ix2 r k) = argX m c (ix2 (tok (blkNo t) r) ⟨4864 + k.val, by omega⟩) := by
  unfold argX tok blkNo
  blk_ext [iblk, V, idx t]

theorem blk_small (r : Fin 512) (k : Fin 128) : (iblk m c 3 t : Vec Ideal S512x128 .f32) (ix2 r k) = argX m c (ix2 (tok (blkNo t) r) ⟨4992 + k.val, by omega⟩) := by
  unfold argX tok blkNo
  blk_ext [iblk, V, idx t]

theorem blk_g (k : Fin 512) : (iblk m c 4 t : Vec Ideal S1x512 .f32) (ix2 0 k) = argG m c (ix1 k) := by
  refine Eq.trans ?_ (V_g m c k)
  blk_ext [iblk, idx t]

theorem blk_k (k : Fin 256) : (iblk m c 5 t : Vec Ideal S1x256 .f32) (ix2 0 k) = argK m c (ix1 k) := by
  refine Eq.trans ?_ (V_k m c k)
  blk_ext [iblk, idx t]

theorem blk_u (j : Fin 512) (h : Fin 8) (k : Fin 128) :
    (iblk m c 6 t : Vec Ideal S512x1024 .bf16) (ix2 j ⟨128 * h.val + k.val, by omega⟩) = argU m c (ix3 j h k) := by
  refine Eq.trans ?_ (V_u m c j h k)
  blk_ext [iblk, idx t]

theorem blk_l (h : Fin 8) (k : Fin 128) (l : Fin 256) : (iblk m c 7 t : Vec Ideal S8x128x256 .bf16) (ix3 h k l) = argL m c (ix3 h k l) := by
  refine Eq.trans ?_ (V_l m c h k l)
  blk_ext [iblk, idx t]

theorem blk_q (k : Fin 512) (j : Fin 2048) : (iblk m c 8 t : Vec Ideal S512x2048 .bf16) (ix2 k j) = argQ m c (ix2 k j) := by
  refine Eq.trans ?_ (V_q m c k j)
  blk_ext [iblk, idx t]

theorem blk_n (k : Fin 128) : (iblk m c 9 t : Vec Ideal S1x128 .f32) (ix2 0 k) = argN m c (ix1 k) := by
  refine Eq.trans ?_ (V_n m c k)
  blk_ext [iblk, idx t]

theorem blk_b (k : Fin 128) : (iblk m c 10 t : Vec Ideal S1x128 .f32) (ix2 0 k) = argB m c (ix1 k) := by
  refine Eq.trans ?_ (V_b m c k)
  blk_ext [iblk, idx t]

theorem latentQ_at (r k : Fin 512) : latentQ m c t r k = latentQAt (argX m c) (argG m c) (tok (blkNo t) r) k := by
  unfold latentQ latentQAt
  simp only [blk_cq, blk_g]

theorem latent_at (r : Fin 512) (l : Fin 256) : latent m c t r l = latentAt (argX m c) (argK m c) (tok (blkNo t) r) l := by
  unfold latent latentAt
  simp only [blk_ckv, blk_k]

theorem query_at (r : Fin 512) (h : Fin 8) (k : Fin 128) :
    query m c t r ⟨128 * h.val + k.val, by omega⟩ = queryAt (argX m c) (argG m c) (argU m c) (tok (blkNo t) r) h k := by
  unfold query queryAt
  simp only [latentQ_at, blk_u]

theorem array_q : (dats m 0 c).arrAt 11 cfg0.N = rowsQ (argX m c) (argG m c) (argU m c) (argL m c) := by
  refine (dats m 0 c).arrAt_eq_of_covers 11 _ (by decide +kernel) fun t hf y => ?_
  blk_simp
  rw [after0_11]
  obtain ⟨u, h, r, l, rfl⟩ : ∃ u h r l, y = ix4 u h r l := ⟨y 0, y 1, y 2, y 3, eq_ix4 y⟩
  have hu : u.val = 0 := by have : u.val < 1 := u.isLt; omega
  have e : (win0_11.blk t).view.emb (ix4 u h r l) = ix4 (blkNo t) h r l := by
    unfold blkNo
    blk_ext [idx t]
  rw [e]
  refine (blockQ m c t u h r l).trans ?_
  simp only [query_at, blk_l]
  rfl

theorem array_k : (dats m 0 c).arrAt 12 cfg0.N = rowsK (argX m c) (argG m c) (argQ m c) := by
  refine (dats m 0 c).arrAt_eq_of_covers 12 _ (by decide +kernel) fun t hf y => ?_
  blk_simp
  rw [after0_12]
  obtain ⟨u, h, r, l, rfl⟩ : ∃ u h r l, y = ix4 u h r l := ⟨y 0, y 1, y 2, y 3, eq_ix4 y⟩
  have hu : u.val = 0 := by have : u.val < 1 := u.isLt; omega
  have e : (win0_12.blk t).view.emb (ix4 u h r l) = ix4 (blkNo t) h r l := by
    unfold blkNo
    blk_ext [idx t]
  rw [e]
  refine (blockK m c t u h r l).trans ?_
  simp only [latentQ_at, blk_q]
  rfl

theorem array_c : (dats m 0 c).arrAt 13 cfg0.N = rowsC (argX m c) (argK m c) := by
  refine (dats m 0 c).arrAt_eq_of_covers 13 _ (by decide +kernel) fun t hf y => ?_
  blk_simp
  rw [after0_13]
  obtain ⟨r, l, rfl⟩ : ∃ r l, y = ix2 r l := ⟨y 0, y 1, eq_ix2 y⟩
  have e : (win0_13.blk t).view.emb (ix2 r l) = ix2 (tok (blkNo t) r) l := by
    unfold tok blkNo
    blk_ext [idx t]
  rw [e]
  refine (blockC m c t r l).trans ?_
  rw [latent_at]
  rfl

theorem array_t : (dats m 0 c).arrAt 14 cfg0.N = rowsT (argX m c) (argK m c) := by
  refine (dats m 0 c).arrAt_eq_of_covers 14 _ (by decide +kernel) fun t hf y => ?_
  blk_simp
  rw [after0_14]
  obtain ⟨u, l, r, rfl⟩ : ∃ u l r, y = ix3 u l r := ⟨y 0, y 1, y 2, eq_ix3 y⟩
  have hu : u.val = 0 := by have : u.val < 1 := u.isLt; omega
  have e : (win0_14.blk t).view.emb (ix3 u l r) = ix3 (blkNo t) l r := by
    unfold blkNo
    blk_ext [idx t]
  rw [e]
  refine (blockCT m c t u l r).trans ?_
  simp only [latent_at]
  rfl

theorem array_i : (dats m 0 c).arrAt 15 cfg0.N = rowsI (argX m c) (argN m c) (argB m c) := by
  refine (dats m 0 c).arrAt_eq_of_covers 15 _ (by decide +kernel) fun t hf y => ?_
  blk_simp
  rw [after0_15]
  obtain ⟨r, l, rfl⟩ : ∃ r l, y = ix2 r l := ⟨y 0, y 1, eq_ix2 y⟩
  have e : (win0_15.blk t).view.emb (ix2 r l) = ix2 (tok (blkNo t) r) l := by
    unfold tok blkNo
    blk_ext [idx t]
  rw [e]
  refine (blockI m c t r l).trans ?_
  simp only [blk_kidx, blk_n, blk_b]
  rfl

theorem array_w : (dats m 0 c).arrAt 16 cfg0.N = rowsW (argX m c) := by
  refine (dats m 0 c).arrAt_eq_of_covers 16 _ (by decide +kernel) fun t hf y => ?_
  blk_simp
  rw [after0_16]
  obtain ⟨h, r, rfl⟩ : ∃ h r, y = ix2 h r := ⟨y 0, y 1, eq_ix2 y⟩
  have e : (win0_16.blk t).view.emb (ix2 h r) = ix2 h (tok (blkNo t) r) := by
    unfold tok blkNo
    blk_ext [idx t]
  rw [e]
  refine (blockW m c t h r).trans ?_
  unfold small
  rw [blk_small]
  rfl

end

end Cert.DsaPrepIdeal.Rows
end
-- ==== Proof.DsaPrepTie.lean ====
/- The reference of the attention's preparation, read at an index: the same six arrays. -/
module

public import proofs.«01_k».proof.Proof.DsaPrepValue
public import proofs.«01_k».proof.Proof.Gen.DsaPrepReferenceIdeal.Read

@[expose] public section

set_option maxRecDepth 16384

noncomputable section

namespace Cert.DsaPrepIdeal.Tie

open Cert.DsaPrepReferenceIdeal Cert.DsaPrepReferenceIdeal.Gen Cert.DsaPrepReferenceIdeal.Read Idealize.ShloMosaic Idealize.ShloMosaic.TcCoe Idealize.SL.Sem
open Cert.DsaPrepIdeal.Rows (rmsNorm mean layerNorm normQ normC latentQAt latentAt queryAt tok rowsQ rowsK rowsC rowsT rowsI rowsW)

variable (X : Vec Ideal S8192x5120 .f32) (G : Vec Ideal S512 .f32) (K : Vec Ideal S256 .f32) (U : Vec Ideal S512x8x128 .f32)
  (L : Vec Ideal S8x128x256 .f32) (Q : Vec Ideal S512x2048 .f32) (N B : Vec Ideal S128 .f32)

theorem latentQ_apply (r : Fin 8192) (k : Fin 512) : (val_main_v16 (F := Ideal) X G (ix2 r k) : EReal) = latentQAt X G r k := by
  pointwise [val_main_v16, val_main_v15, val_main_v14, val_main_v13, val_main_v12, val_main_v11, val_main_v10, val_main_v9, val_main_cst_1, val_main_v8, val_main_v7,
    val_main_cst_0, val_main_v6, val_main_v5, val_main_cst, val_main_v4, val_main_v0]
  simp only [latentQAt, normQ, rmsNorm]

theorem latent_apply (r : Fin 8192) (l : Fin 256) : (val_main_v29 (F := Ideal) X K (ix2 r l) : EReal) = latentAt X K r l := by
  pointwise [val_main_v29, val_main_v28, val_main_v27, val_main_v26, val_main_v25, val_main_v24, val_main_v23, val_main_v22, val_main_cst_4, val_main_v21, val_main_v20,
    val_main_cst_3, val_main_v19, val_main_v18, val_main_cst_2, val_main_v17, val_main_v1]
  simp only [latentAt, normC, rmsNorm]

theorem query_apply (r : Fin 8192) (h : Fin 8) (k : Fin 128) : (val_main_v30 (F := Ideal) X G U (ix3 r h k) : EReal) = queryAt X G U r h k := by
  have e := latentQ_apply X G r
  generalize hy : val_main_v16 (F := Ideal) X G = y at e
  pointwise [val_main_v30, hy]
  simp only [e]
  rfl

theorem q_apply (b : Fin 16) (h : Fin 8) (r : Fin 512) (l : Fin 256) :
    (val_main_v46 (F := Ideal) X G U L (ix4 b h r l) : EReal) = rowsQ X G U L (ix4 b h r l) := by
  have e := query_apply X G U (tok b r) h
  generalize hy : val_main_v30 (F := Ideal) X G U = y at e
  pointwise [val_main_v46, val_main_v45, val_main_v44, val_main_v34, val_main_v33, val_main_cst_5, val_main_v32, val_main_v31, hy]
  show _ = (∑ k, queryAt X G U (tok b r) h k * L (ix3 h k l)) * Ideal.ofBits .f32 1040356334#32
  exact congrArg (· * Ideal.ofBits .f32 1040356334#32) (Finset.sum_congr rfl fun k _ => (mul_comm (G := EReal) _ _).trans (congrArg (fun z : EReal => z * L (ix3 h k l)) (e k)))

theorem k_apply (b h : Fin 16) (r : Fin 512) (l : Fin 128) :
    (val_main_v49 (F := Ideal) X G Q (ix4 b h r l) : EReal) = rowsK X G Q (ix4 b h r l) := by
  have e := latentQ_apply X G (tok b r)
  generalize hy : val_main_v16 (F := Ideal) X G = y at e
  pointwise [val_main_v49, val_main_v48, val_main_v47, val_main_v36, val_main_v35, hy]
  show _ = ∑ k, latentQAt X G (tok b r) k * Q (ix2 k ⟨128 * h.val + l.val, by omega⟩)
  refine Finset.sum_congr rfl fun k _ => congrArg₂ (fun z w : EReal => z * w) (e k) (congrArg (fun j : Fin 2048 => Q (ix2 k j)) (Fin.ext ?_))
  show h.val * 128 + l.val = 128 * h.val + l.val
  omega

theorem c_apply (r : Fin 8192) (l : Fin 256) : (val_main_v50 (F := Ideal) X K (ix2 r l) : EReal) = rowsC X K (ix2 r l) := by
  have e := latent_apply X K r l
  generalize hy : val_main_v29 (F := Ideal) X K = y at e
  pointwise [val_main_v50, hy]
  exact e

theorem t_apply (b : Fin 16) (l : Fin 272) (r : Fin 512) : (val_main_v51 (F := Ideal) X K (ix3 b l r) : EReal) = rowsT X K (ix3 b l r) := by
  have e := latent_apply X K (tok b r)
  generalize hy : val_main_v29 (F := Ideal) X K = y at e
  pointwise [val_main_v51, val_main_v40, val_main_v39, val_main_cst_6, val_main_v38, val_main_v37, hy]
  show _ = if h : l.val < 256 then latentAt X K (tok b r) ⟨l.val, h⟩ else 1
  simp only [← e]
  rfl

theorem i_apply (r : Fin 8192) (l : Fin 128) : (val_main_v74 (F := Ideal) X N B (ix2 r l) : EReal) = rowsI X N B (ix2 r l) := by
  pointwise [val_main_v74, val_main_v73, val_main_v72, val_main_v71, val_main_v70, val_main_v69, val_main_v68, val_main_v67, val_main_v66, val_main_v65, val_main_v64,
    val_main_v63, val_main_cst_12, val_main_v62, val_main_v61, val_main_cst_11, val_main_v60, val_main_v59, val_main_cst_10, val_main_v58, val_main_v57, val_main_v56,
    val_main_v55, val_main_v54, val_main_cst_9, val_main_v53, val_main_v52, val_main_cst_8, val_main_v2]
  show _ = layerNorm (fun k => X (ix2 r ⟨4864 + k.val, by omega⟩)) (N (ix1 l)) (B (ix1 l)) l
  simp only [layerNorm, mean]

theorem w_apply (h : Fin 16) (r : Fin 8192) : (val_main_v43 (F := Ideal) X (ix2 h r) : EReal) = rowsW X (ix2 h r) := by
  pointwise [val_main_v43, val_main_v42, val_main_cst_7, val_main_v41, val_main_v3]
  rfl

end Cert.DsaPrepIdeal.Tie
end
-- ==== Proof.lean ====
/- The certificate's claims, assembled from the generated runs and the value proofs beside this module. -/
module

public import proofs.«01_k».proof.Defs
public import proofs.«01_k».proof.Proof.FfnTie
public import proofs.«01_k».proof.Proof.GdnTie
public import proofs.«01_k».proof.Proof.InProjValue
public import proofs.«01_k».proof.Proof.OutLnValue
public import proofs.«01_k».proof.Proof.GdnPrepTie
public import proofs.«01_k».proof.Proof.DsaPrepTie
public import proofs.«01_k».proof.Proof.Gen.Kernel.Frame
public import proofs.«01_k».proof.Proof.Gen.KernelIdeal.Value
public import proofs.«01_k».proof.Proof.Gen.ReferenceIdeal.Run
public import proofs.«01_k».proof.Proof.Gen.Ffn.Frame
public import proofs.«01_k».proof.Proof.Gen.InProj.Frame
public import proofs.«01_k».proof.Proof.Gen.InProjIdeal.Value
public import proofs.«01_k».proof.Proof.Gen.InProjReferenceIdeal.Read
public import proofs.«01_k».proof.Proof.Gen.GdnPrep.Frame
public import proofs.«01_k».proof.Proof.Gen.GdnPrepIdeal.Value
public import proofs.«01_k».proof.Proof.Gen.GdnPrepReferenceIdeal.Read
public import proofs.«01_k».proof.Proof.Gen.DsaPrep.Frame
public import proofs.«01_k».proof.Proof.Gen.DsaPrepIdeal.Value
public import proofs.«01_k».proof.Proof.Gen.DsaPrepReferenceIdeal.Read
public import proofs.«01_k».proof.Proof.Gen.OutLn.Frame
public import proofs.«01_k».proof.Proof.Gen.OutLnIdeal.Value
public import proofs.«01_k».proof.Proof.Gen.OutLnReferenceIdeal.Read
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The recurrence's reference runs and leaves its arguments and every counter as they were. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The feed-forward reference runs and leaves its arguments and every counter as they were. -/
theorem frame_ffn_reference : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

/-- The feed-forward kernel and its reference, from arguments that agree, end with equal results. -/
theorem algebraic_ffn : Cert.algebraic_FfnIdeal_FfnReferenceIdeal := fun m ρ m' ρ' _ hag =>
  ⟨fun c => Cert.FfnIdeal.Value.G6 m c, Cert.FfnIdeal.Value.run m ρ,
    (θ_run Cert.FfnReferenceIdeal.defs _ _).mono
      (fun _ h c => ⟨(h c).1.trans (by
          obtain ⟨e0, e1, e2, e3, e4, e5⟩ := hag c
          rw [Cert.FfnReferenceIdeal.Read.val_main_v32_eq, e0, e1, e2, e3, e4, e5]
          exact funext fun i => Cert.FfnIdeal.Tie.results_agree m m' c i), (h c).2⟩)
      (Cert.FfnReferenceIdeal.Value.run (F := Ideal) m' ρ')⟩

/-- The recurrence's kernel and its reference, from arguments that agree and hold no infinity, end with equal results. -/
theorem algebraic_recurrence [Cert.Pre_finite.Facts] : Cert.algebraic_KernelIdeal_ReferenceIdeal_pre_finite := fun m ρ m' ρ' hpre hag =>
  ⟨fun c => Cert.KernelIdeal.Value.G7 m c, Cert.KernelIdeal.Value.run m ρ,
    (θ_run Cert.ReferenceIdeal.defs _ _).mono
      (fun _ h c => ⟨(h c).1.trans (by
          obtain ⟨e0, e1, e2, e3, e4, e5, e6⟩ := hag c
          exact funext fun i => Cert.Recurrence.results_agree m c hpre m' e0 e1 e2 e3 e4 e5 e6 i), (h c).2⟩)
      (Cert.ReferenceIdeal.Value.run (F := Ideal) m' ρ')⟩

/-- The input projection's reference runs and leaves its arguments and every counter as they were. -/
theorem frame_in_proj_reference : Cert.quiescent_InProjReferenceIdeal := fun m ρ _ =>
  (θ_run Cert.InProjReferenceIdeal.defs _ _).mono
    (fun r h => ⟨fun c => (h c).2, Idealize.ShloMosaic.sem_eq_zero_of_no_sems (by decide) r.2⟩)
    (Cert.InProjReferenceIdeal.Value.run (F := Ideal) m ρ)

/-- The output projection's reference runs and leaves its arguments and every counter as they were. -/
theorem frame_out_reference : Cert.quiescent_OutLnReferenceIdeal := fun m ρ _ =>
  (θ_run Cert.OutLnReferenceIdeal.defs _ _).mono
    (fun r h => ⟨fun c => (h c).2, Idealize.ShloMosaic.sem_eq_zero_of_no_sems (by decide) r.2⟩)
    (Cert.OutLnReferenceIdeal.Value.run (F := Ideal) m ρ)

/-- The input projection and its reference, from arguments that agree, end with equal results. -/
theorem algebraic_in_proj : Cert.algebraic_InProjIdeal_InProjReferenceIdeal := fun m ρ m' ρ' _ hag =>
  ⟨fun c => (Cert.InProjIdeal.Gen.dats m 0 c).arrAt 3 Cert.InProjIdeal.cfg0.N, Cert.InProjIdeal.Value.run_blocks m ρ,
    (θ_run Cert.InProjReferenceIdeal.defs _ _).mono
      (fun _ h c => ⟨(h c).1.trans (by
          obtain ⟨e0, e1⟩ := hag c
          rw [Cert.InProjReferenceIdeal.Read.val_main_v8_eq, e0, e1]
          refine (funext fun i => ?_).trans (Cert.InProjIdeal.Columns.result_array m c).symm
          obtain ⟨r, j, rfl⟩ : ∃ r j, i = ix2 r j := ⟨i 0, i 1, eq_ix2 i⟩
          exact Cert.InProjIdeal.Columns.reference_apply (Cert.InProjIdeal.Columns.argH m c) (Cert.InProjIdeal.Columns.argW m c) r j), (h c).2⟩)
      (Cert.InProjReferenceIdeal.Value.run (F := Ideal) m' ρ')⟩

open Cert.OutLnIdeal.Rows in
/-- The output projection and its reference, from arguments that agree, end with equal results. -/
theorem algebraic_out : Cert.algebraic_OutLnIdeal_OutLnReferenceIdeal := fun m ρ m' ρ' _ hag =>
  ⟨fun c => (Cert.OutLnIdeal.Gen.dats m 0 c).arrAt 7 Cert.OutLnIdeal.cfg0.N, Cert.OutLnIdeal.Value.run_blocks m ρ,
    (θ_run Cert.OutLnReferenceIdeal.defs _ _).mono
      (fun _ h c => ⟨(h c).1.trans (by
          obtain ⟨e0, e1, e2, e3, e4, e5⟩ := hag c
          rw [Cert.OutLnReferenceIdeal.Read.val_main_v28_eq, e0, e1, e2, e3, e4, e5]
          refine (funext fun i => ?_).trans (result_array m c).symm
          obtain ⟨r, j, rfl⟩ : ∃ r j, i = ix2 r j := ⟨i 0, i 1, eq_ix2 i⟩
          exact reference_apply (argH m c) (argA m c) (argB m c) (argW m c) (argG m c) (argC m c) r j), (h c).2⟩)
      (Cert.OutLnReferenceIdeal.Value.run (F := Ideal) m' ρ')⟩

theorem frame_gdn_prep_reference : Cert.quiescent_GdnPrepReferenceIdeal := fun m ρ _ =>
  (θ_run Cert.GdnPrepReferenceIdeal.defs _ _).mono
    (fun r h => ⟨fun c => (h c).2.2.2.2.2, Idealize.ShloMosaic.sem_eq_zero_of_no_sems (by decide) r.2⟩)
    (Cert.GdnPrepReferenceIdeal.Value.run (F := Ideal) m ρ)

open Cert.GdnPrepIdeal.Rows Cert.GdnPrepIdeal.Tie in
/-- The convolution, norms and gates before the recurrence and their reference, from arguments that agree, end with equal results. -/
theorem algebraic_gdn_prep : Cert.algebraic_GdnPrepIdeal_GdnPrepReferenceIdeal := fun m ρ m' ρ' _ hag =>
  ⟨fun c => (Cert.GdnPrepIdeal.Gen.dats m 0 c).arrAt 6 Cert.GdnPrepIdeal.cfg0.N, fun c => (Cert.GdnPrepIdeal.Gen.dats m 0 c).arrAt 7 Cert.GdnPrepIdeal.cfg0.N,
    fun c => (Cert.GdnPrepIdeal.Gen.dats m 0 c).arrAt 8 Cert.GdnPrepIdeal.cfg0.N, fun c => (Cert.GdnPrepIdeal.Gen.dats m 0 c).arrAt 9 Cert.GdnPrepIdeal.cfg0.N,
    fun c => (Cert.GdnPrepIdeal.Gen.dats m 0 c).arrAt 10 Cert.GdnPrepIdeal.cfg0.N, Cert.GdnPrepIdeal.Value.run_blocks m ρ,
    (θ_run Cert.GdnPrepReferenceIdeal.defs _ _).mono
      (fun _ h c => by
        obtain ⟨e0, e1, e2, e3⟩ := hag c
        obtain ⟨h0, h1, h2, h3, h4, h5⟩ := h c
        refine ⟨h0.trans ?_, h1.trans ?_, h2.trans ?_, h3.trans ?_, h4.trans ?_, h5⟩
        · rw [Cert.GdnPrepReferenceIdeal.Read.val_main_v79_eq, e0, e1]
          refine (funext fun i => ?_).trans (array_q m c).symm
          obtain ⟨r, j, rfl⟩ : ∃ r j, i = ix2 r j := ⟨i 0, i 1, eq_ix2 i⟩
          exact q_apply (argX m c) (argW m c) r j
        · rw [Cert.GdnPrepReferenceIdeal.Read.val_main_v80_eq, e0, e1]
          refine (funext fun i => ?_).trans (array_k m c).symm
          obtain ⟨r, j, rfl⟩ : ∃ r j, i = ix2 r j := ⟨i 0, i 1, eq_ix2 i⟩
          exact k_apply (argX m c) (argW m c) r j
        · rw [Cert.GdnPrepReferenceIdeal.Read.val_main_v81_eq, e0, e1]
          refine (funext fun i => ?_).trans (array_v m c).symm
          obtain ⟨r, j, rfl⟩ : ∃ r j, i = ix2 r j := ⟨i 0, i 1, eq_ix2 i⟩
          exact v_apply (argX m c) (argW m c) r j
        · rw [Cert.GdnPrepReferenceIdeal.Read.val_main_v78_eq, e0, e2, e3]
          refine (funext fun i => ?_).trans (array_g m c).symm
          obtain ⟨r, j, rfl⟩ : ∃ r j, i = ix2 r j := ⟨i 0, i 1, eq_ix2 i⟩
          exact table_apply (argX m c) (argA m c) (argD m c) r j
        · rw [Cert.GdnPrepReferenceIdeal.Read.val_main_v83_eq, e0, e2, e3]
          refine (funext fun i => ?_).trans (array_t m c).symm
          obtain ⟨b, l, n, rfl⟩ : ∃ b l n, i = ix3 b l n := ⟨i 0, i 1, i 2, eq_ix3 i⟩
          exact transposed_apply (argX m c) (argA m c) (argD m c) b l n)
      (Cert.GdnPrepReferenceIdeal.Value.run (F := Ideal) m' ρ')⟩

theorem frame_dsa_prep_reference : Cert.quiescent_DsaPrepReferenceIdeal := fun m ρ _ =>
  (θ_run Cert.DsaPrepReferenceIdeal.defs _ _).mono
    (fun r h => ⟨fun c => (h c).2.2.2.2.2.2, Idealize.ShloMosaic.sem_eq_zero_of_no_sems (by decide) r.2⟩)
    (Cert.DsaPrepReferenceIdeal.Value.run (F := Ideal) m ρ)

open Cert.DsaPrepIdeal.Rows Cert.DsaPrepIdeal.Tie in
/-- The norms and products before the attention and their reference, from arguments that agree, end with equal results. -/
theorem algebraic_dsa_prep : Cert.algebraic_DsaPrepIdeal_DsaPrepReferenceIdeal := fun m ρ m' ρ' _ hag =>
  ⟨fun c => (Cert.DsaPrepIdeal.Gen.dats m 0 c).arrAt 11 Cert.DsaPrepIdeal.cfg0.N, fun c => (Cert.DsaPrepIdeal.Gen.dats m 0 c).arrAt 12 Cert.DsaPrepIdeal.cfg0.N,
    fun c => (Cert.DsaPrepIdeal.Gen.dats m 0 c).arrAt 13 Cert.DsaPrepIdeal.cfg0.N, fun c => (Cert.DsaPrepIdeal.Gen.dats m 0 c).arrAt 14 Cert.DsaPrepIdeal.cfg0.N,
    fun c => (Cert.DsaPrepIdeal.Gen.dats m 0 c).arrAt 15 Cert.DsaPrepIdeal.cfg0.N, fun c => (Cert.DsaPrepIdeal.Gen.dats m 0 c).arrAt 16 Cert.DsaPrepIdeal.cfg0.N,
    Cert.DsaPrepIdeal.Value.run_blocks m ρ,
    (θ_run Cert.DsaPrepReferenceIdeal.defs _ _).mono
      (fun _ h c => by
        obtain ⟨e0, e1, e2, e3, e4, e5, e6, e7⟩ := hag c
        obtain ⟨h0, h1, h2, h3, h4, h5, h6⟩ := h c
        refine ⟨h0.trans ?_, h1.trans ?_, h2.trans ?_, h3.trans ?_, h4.trans ?_, h5.trans ?_, h6⟩
        · rw [Cert.DsaPrepReferenceIdeal.Read.val_main_v46_eq, e0, e1, e3, e4]
          refine (funext fun i => ?_).trans (array_q m c).symm
          obtain ⟨b, k, r, l, rfl⟩ : ∃ b k r l, i = ix4 b k r l := ⟨i 0, i 1, i 2, i 3, eq_ix4 i⟩
          exact q_apply (argX m c) (argG m c) (argU m c) (argL m c) b k r l
        · rw [Cert.DsaPrepReferenceIdeal.Read.val_main_v49_eq, e0, e1, e5]
          refine (funext fun i => ?_).trans (array_k m c).symm
          obtain ⟨b, k, r, l, rfl⟩ : ∃ b k r l, i = ix4 b k r l := ⟨i 0, i 1, i 2, i 3, eq_ix4 i⟩
          exact k_apply (argX m c) (argG m c) (argQ m c) b k r l
        · rw [Cert.DsaPrepReferenceIdeal.Read.val_main_v50_eq, e0, e2]
          refine (funext fun i => ?_).trans (array_c m c).symm
          obtain ⟨r, l, rfl⟩ : ∃ r l, i = ix2 r l := ⟨i 0, i 1, eq_ix2 i⟩
          exact c_apply (argX m c) (argK m c) r l
        · rw [Cert.DsaPrepReferenceIdeal.Read.val_main_v51_eq, e0, e2]
          refine (funext fun i => ?_).trans (array_t m c).symm
          obtain ⟨b, l, r, rfl⟩ : ∃ b l r, i = ix3 b l r := ⟨i 0, i 1, i 2, eq_ix3 i⟩
          exact t_apply (argX m c) (argK m c) b l r
        · rw [Cert.DsaPrepReferenceIdeal.Read.val_main_v74_eq, e0, e6, e7]
          refine (funext fun i => ?_).trans (array_i m c).symm
          obtain ⟨r, l, rfl⟩ : ∃ r l, i = ix2 r l := ⟨i 0, i 1, eq_ix2 i⟩
          exact i_apply (argX m c) (argN m c) (argB m c) r l
        · rw [Cert.DsaPrepReferenceIdeal.Read.val_main_v43_eq, e0]
          refine (funext fun i => ?_).trans (array_w m c).symm
          obtain ⟨k, r, rfl⟩ : ∃ k r, i = ix2 k r := ⟨i 0, i 1, eq_ix2 i⟩
          exact w_apply (argX m c) k r)
      (Cert.DsaPrepReferenceIdeal.Value.run (F := Ideal) m' ρ')⟩

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.InProj.Gen.facts, Cert.InProjIdeal.Gen.facts, Cert.InProjReferenceIdeal.Gen.facts,
    Cert.OutLn.Gen.facts, Cert.OutLnIdeal.Gen.facts, Cert.OutLnReferenceIdeal.Gen.facts,
    Cert.GdnPrep.Gen.facts, Cert.GdnPrepIdeal.Gen.facts, Cert.GdnPrepReferenceIdeal.Gen.facts,
    Cert.DsaPrep.Gen.facts, Cert.DsaPrepIdeal.Gen.facts, Cert.DsaPrepReferenceIdeal.Gen.facts, Cert.Recurrence.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Ffn.Gen.frame m ρ, fun m ρ _ => Cert.FfnIdeal.Gen.frame m ρ, frame_ffn_reference,
    fun m ρ _ => Cert.InProj.Gen.frame m ρ, fun m ρ _ => Cert.InProjIdeal.Gen.frame m ρ, frame_in_proj_reference,
    fun m ρ _ => Cert.OutLn.Gen.frame m ρ, fun m ρ _ => Cert.OutLnIdeal.Gen.frame m ρ, frame_out_reference,
    fun m ρ _ => Cert.GdnPrep.Gen.frame m ρ, fun m ρ _ => Cert.GdnPrepIdeal.Gen.frame m ρ, frame_gdn_prep_reference,
    fun m ρ _ => Cert.DsaPrep.Gen.frame m ρ, fun m ρ _ => Cert.DsaPrepIdeal.Gen.frame m ρ, frame_dsa_prep_reference,
    trivial, @algebraic_recurrence Cert.Recurrence.pre_facts, trivial, algebraic_ffn, trivial, algebraic_in_proj, trivial, algebraic_out,
    trivial, algebraic_gdn_prep, trivial, algebraic_dsa_prep⟩

end Cert.Proof

end
